-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  IdealRules.named_const.Statement Cert.KernelIdeal.κ "scale2" .f32 0x3E0293EE#32 (((11863283 / 134217728) * (Real.log 2)⁻¹ : ℝ) : EReal)

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_v6) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_keys.lean ====
abbrev S8192x1024 : Shape := ⟨2, ![8192, 1024]⟩
abbrev S8704x1024 : Shape := ⟨2, ![8704, 1024]⟩
abbrev S8x8192x128 : Shape := ⟨3, ![8, 8192, 128]⟩
abbrev S_ : Shape := ⟨0, ![]⟩
abbrev S8x8192x1 : Shape := ⟨3, ![8, 8192, 1]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8704x1024 : S_.BroadcastsInDim S8704x1024 (![] : Fin 0 → Fin S8704x1024.rank)
  reducesTo_S8704x1024_S_d0_1 : S8704x1024.ReducesTo [0, 1] S_
  bcast_S_S8x8192x128 : S_.BroadcastsInDim S8x8192x128 (![] : Fin 0 → Fin S8x8192x128.rank)
  reducesTo_S8x8192x128_S_d0_1_2 : S8x8192x128.ReducesTo [0, 1, 2] S_
  slices_S8x8192x128_S8x8192x1_0_0_0 : S8x8192x128.Slices ![0, 0, 0] S8x8192x1
  bcast_S8x8192x1_S8x8192x128_0_1_2 : S8x8192x1.BroadcastsInDim S8x8192x128 (![0, 1, 2] : Fin 3 → Fin S8x8192x128.rank)

variable [Facts]

def fn_part1 {F : FTy → Type} [FloatOps F] (main_arg3 : FVec F S8x8192x128 .f32) (main_v15 : IVec S_ 1) (main_v17 : FVec F S8x8192x128 .f32) : IVec S_ 1 :=
  let main_v18 : IVec S8x8192x128 1 := cmpf .oeq main_arg3 main_v17
  let main_c_4 : IVec S_ 1 := constantI S_ 1 1#1
  let main_v19 : IVec S_ 1 := (fun x v => Host.reduce IntOp.andi x v reducesTo_S8x8192x128_S_d0_1_2 h_S_) main_v18 main_c_4
  let main_v20 : IVec S_ 1 := andi main_v15 main_v19
  main_v20

def fn {F : FTy → Type} [FloatOps F] (main_arg0 : FVec F S8192x1024 .bf16) (main_arg1 : FVec F S8704x1024 .bf16) (main_arg2 : FVec F S8192x1024 .bf16) (main_arg3 : FVec F S8x8192x128 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8704x1024 .f32 := (extf .f32 · bitsLt_bf16_f32) main_arg1
  let main_v6 : FVec F S8704x1024 .f32 := Host.absf main_v5
  let main_cst_0 : FVec F S_ .f32 := constant S_ .f32 0x7F800000#32
  let main_v7 : FVec F S8704x1024 .f32 := broadcastInDim S8704x1024 ![] bcast_S_S8704x1024 main_cst_0
  let main_v8 : IVec S8704x1024 1 := cmpf .olt main_v6 main_v7
  let main_c_1 : IVec S_ 1 := constantI S_ 1 1#1
  let main_v9 : IVec S_ 1 := (fun x v => Host.reduce IntOp.andi x v reducesTo_S8704x1024_S_d0_1 h_S_) main_v8 main_c_1
  let main_v10 : IVec S_ 1 := andi main_v4 main_v9
  let main_v11 : FVec F S8x8192x128 .f32 := Host.absf main_arg3
  let main_cst_2 : FVec F S_ .f32 := constant S_ .f32 0x7F800000#32
  let main_v12 : FVec F S8x8192x128 .f32 := broadcastInDim S8x8192x128 ![] bcast_S_S8x8192x128 main_cst_2
  let main_v13 : IVec S8x8192x128 1 := cmpf .olt main_v11 main_v12
  let main_c_3 : IVec S_ 1 := constantI S_ 1 1#1
  let main_v14 : IVec S_ 1 := (fun x v => Host.reduce IntOp.andi x v reducesTo_S8x8192x128_S_d0_1_2 h_S_) main_v13 main_c_3
  let main_v15 : IVec S_ 1 := andi main_v10 main_v14
  let main_v16 : FVec F S8x8192x1 .f32 := (extractStridedSlice S8x8192x1 ![0, 0, 0] · slices_S8x8192x128_S8x8192x1_0_0_0) main_arg3
  let main_v17 : FVec F S8x8192x128 .f32 := broadcastInDim S8x8192x128 ![0, 1, 2] bcast_S8x8192x1_S8x8192x128_0_1_2 main_v16
  fn_part1 (F := F) main_arg3 main_v15 main_v17
-- ==== Kernel.lean ====
abbrev S8192x1024 : Shape := ⟨2, ![8192, 1024]⟩
abbrev S8704x1024 : Shape := ⟨2, ![8704, 1024]⟩
abbrev S8x8192x128 : Shape := ⟨3, ![8, 8192, 128]⟩
abbrev S136 : Shape := ⟨1, ![136]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S_ : Shape := ⟨0, ![]⟩
abbrev S16x512x1024 : Shape := ⟨3, ![16, 512, 1024]⟩
abbrev S16x1024x512 : Shape := ⟨3, ![16, 1024, 512]⟩
abbrev S8 : Shape := ⟨1, ![8]⟩
abbrev S1x1024x512 : Shape := ⟨3, ![1, 1024, 512]⟩
abbrev S1 : Shape := ⟨1, ![1]⟩
abbrev S512x1024 : Shape := ⟨2, ![512, 1024]⟩
abbrev S8x512x128 : Shape := ⟨3, ![8, 512, 128]⟩
abbrev S8x1x512 : Shape := ⟨3, ![8, 1, 512]⟩
abbrev S1024x512 : Shape := ⟨2, ![1024, 512]⟩
abbrev S8x512x512 : Shape := ⟨3, ![8, 512, 512]⟩
abbrev S512x128 : Shape := ⟨2, ![512, 128]⟩
abbrev S1x128x512 : Shape := ⟨3, ![1, 128, 512]⟩
abbrev S128x512 : Shape := ⟨2, ![128, 512]⟩
abbrev S1x512x128 : Shape := ⟨3, ![1, 512, 128]⟩
abbrev S1x512x512 : Shape := ⟨3, ![1, 512, 512]⟩
abbrev S1x1x512 : Shape := ⟨3, ![1, 1, 512]⟩
abbrev S16x512 : Shape := ⟨2, ![16, 512]⟩
abbrev S144x512 : Shape := ⟨2, ![144, 512]⟩

abbrev nBuf : Space → Nat
  | .hbm => 26
  | .vmem => 16
  | .smem => 3
  | _ => 0

abbrev bufTy : (tb : Table) → Fin (tcTables nBuf tb) → BufTy
  | .hbm, ⟨0, _⟩ => ⟨S8192x1024, .bf16⟩
  | .hbm, ⟨1, _⟩ => ⟨S8704x1024, .bf16⟩
  | .hbm, ⟨2, _⟩ => ⟨S8192x1024, .bf16⟩
  | .hbm, ⟨3, _⟩ => ⟨S8x8192x128, .f32⟩
  | .hbm, ⟨4, _⟩ => ⟨S512, .i32⟩
  | .hbm, ⟨5, _⟩ => ⟨S1x512, .i32⟩
  | .hbm, ⟨6, _⟩ => ⟨S512x1, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i1⟩
  | .hbm, ⟨13, _⟩ => ⟨S_, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S16x512x1024, .bf16⟩
  | .hbm, ⟨20, _⟩ => ⟨S16x1024x512, .bf16⟩
  | .hbm, ⟨21, _⟩ => ⟨S16x512x1024, .bf16⟩
  | .hbm, ⟨22, _⟩ => ⟨S16x1024x512, .bf16⟩
  | .hbm, ⟨23, _⟩ => ⟨S_, .f32⟩
  | .hbm, ⟨24, _⟩ => ⟨S8, .f32⟩
  | .hbm, ⟨25, _⟩ => ⟨S16x1024x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S8x512x128, .f32⟩
  | .local _ .vmem, ⟨7, _⟩ => ⟨S8x512x128, .f32⟩
  | .local _ .vmem, ⟨8, _⟩ => ⟨S512x512, .f32⟩
  | .local _ .vmem, ⟨9, _⟩ => ⟨S1x1024x512, .bf16⟩
  | .local _ .vmem, ⟨10, _⟩ => ⟨S1x1024x512, .bf16⟩
  | .local _ .vmem, ⟨11, _⟩ => ⟨S8x1x512, .f32⟩
  | .local _ .vmem, ⟨12, _⟩ => ⟨S8x1x512, .f32⟩
  | .local _ .vmem, ⟨13, _⟩ => ⟨S1024x512, .f32⟩
  | .local _ .vmem, ⟨14, _⟩ => ⟨S8x512x512, .f32⟩
  | .local _ .vmem, ⟨15, _⟩ => ⟨S8x1x512, .f32⟩
  | .local _ .smem, ⟨0, _⟩ => ⟨S136, .i32⟩
  | .local _ .smem, ⟨1, _⟩ => ⟨S136, .i32⟩
  | .local _ .smem, ⟨2, _⟩ => ⟨S8, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_stg5_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (v1 : BitVec 32) (v3 : BitVec 32) : BitVec 1 :=
  let v311 : BitVec 1 := Scalar.cmpi .eq v3 v1
  let v312 : BitVec 32 := Scalar.extui v311
  let c0_i32_204 : BitVec 32 := 0#32
  let v313 : BitVec 1 := Scalar.cmpi .ne v312 c0_i32_204
  v313

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "scale2" => some (((11863283 / 134217728) * (Real.log 2)⁻¹ : ℝ) : EReal)
  | _ => none
-- ==== ReferenceIdeal.lean ====
abbrev S8192x1024 : Shape := ⟨2, ![8192, 1024]⟩
abbrev S8704x1024 : Shape := ⟨2, ![8704, 1024]⟩
abbrev S8x8192x128 : Shape := ⟨3, ![8, 8192, 128]⟩
abbrev S8192x8x128 : Shape := ⟨3, ![8192, 8, 128]⟩
abbrev S8x8192x1 : Shape := ⟨3, ![8, 8192, 1]⟩
abbrev S8x8192 : Shape := ⟨2, ![8, 8192]⟩
abbrev S_ : Shape := ⟨0, ![]⟩
abbrev S8x8192x8192 : Shape := ⟨3, ![8, 8192, 8192]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S16x512x1024 : Shape := ⟨3, ![16, 512, 1024]⟩
abbrev S16x1024x512 : Shape := ⟨3, ![16, 1024, 512]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8704x1024, .bf16⟩
  | .hbm, ⟨2, _⟩ => ⟨S8192x1024, .bf16⟩
  | .hbm, ⟨3, _⟩ => ⟨S8x8192x128, .f32⟩
  | .hbm, ⟨4, _⟩ => ⟨S8192x1024, .f32⟩
  | .hbm, ⟨5, _⟩ => ⟨S8192x8x128, .f32⟩
  | .hbm, ⟨6, _⟩ => ⟨S8192x1024, .bf16⟩
  | .hbm, ⟨7, _⟩ => ⟨S8192x1024, .f32⟩
  | .hbm, ⟨8, _⟩ => ⟨S8192x8x128, .f32⟩
  | .hbm, ⟨9, _⟩ => ⟨S8192x1024, .f32⟩
  | .hbm, ⟨10, _⟩ => ⟨S8192x8x128, .f32⟩
  | .hbm, ⟨11, _⟩ => ⟨S8x8192x1, .f32⟩
  | .hbm, ⟨12, _⟩ => ⟨S8x8192, .f32⟩
  | .hbm, ⟨13, _⟩ => ⟨S_, .f32⟩
  | .hbm, ⟨14, _⟩ => ⟨S_, .f32⟩
  | .hbm, ⟨15, _⟩ => ⟨S8x8192, .f32⟩
  | .hbm, ⟨16, _⟩ => ⟨S8x8192, .f32⟩
  | .hbm, ⟨17, _⟩ => ⟨S8x8192x8192, .f32⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x1x8192, .f32⟩
  | .hbm, ⟨25, _⟩ => ⟨S8x8192x8192, .f32⟩
  | .hbm, ⟨26, _⟩ => ⟨S8x8192x8192, .f32⟩
  | .hbm, ⟨27, _⟩ => ⟨S8192, .i32⟩
  | .hbm, ⟨28, _⟩ => ⟨S1x8192, .i32⟩
  | .hbm, ⟨29, _⟩ => ⟨S8192x1, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S_, .f32⟩
  | .hbm, ⟨34, _⟩ => ⟨S_, .f32⟩
  | .hbm, ⟨35, _⟩ => ⟨S8x8192x8192, .i1⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S8x8192, .f32⟩
  | .hbm, ⟨43, _⟩ => ⟨S8x8192x1, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x128x8192, .f32⟩
  | .hbm, ⟨53, _⟩ => ⟨S8192x8x128, .f32⟩
  | .hbm, ⟨54, _⟩ => ⟨S8192x8x128, .bf16⟩
  | .hbm, ⟨55, _⟩ => ⟨S16x512x1024, .bf16⟩
  | .hbm, ⟨56, _⟩ => ⟨S16x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel2.lean ====
abbrev S8704x2048 : Shape := ⟨2, ![8704, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 16
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S8704x2048, .f32⟩
  | .hbm, ⟨12, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8704x2048 : Shape := ⟨2, ![8704, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8704x5632 : Shape := ⟨2, ![8704, 5632]⟩

abbrev nBuf : Space → Nat
  | .hbm => 56
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S8704x2048, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x2048, .f32⟩
  | .hbm, ⟨18, _⟩ => ⟨S8704x2048, .f32⟩
  | .hbm, ⟨19, _⟩ => ⟨S1x2048, .f32⟩
  | .hbm, ⟨20, _⟩ => ⟨S8704x2048, .f32⟩
  | .hbm, ⟨21, _⟩ => ⟨S8704x2048, .f32⟩
  | .hbm, ⟨22, _⟩ => ⟨S8704x5632, .f32⟩
  | .hbm, ⟨23, _⟩ => ⟨S8704x5632, .f32⟩
  | .hbm, ⟨24, _⟩ => ⟨S8704x5632, .f32⟩
  | .hbm, ⟨25, _⟩ => ⟨S_, .f32⟩
  | .hbm, ⟨26, _⟩ => ⟨S8704x5632, .f32⟩
  | .hbm, ⟨27, _⟩ => ⟨S8704x5632, .f32⟩
  | .hbm, ⟨28, _⟩ => ⟨S_, .f32⟩
  | .hbm, ⟨29, _⟩ => ⟨S8704x5632, .f32⟩
  | .hbm, ⟨30, _⟩ => ⟨S8704x5632, .f32⟩
  | .hbm, ⟨31, _⟩ => ⟨S8704x5632, .f32⟩
  | .hbm, ⟨32, _⟩ => ⟨S8704x5632, .f32⟩
  | .hbm, ⟨33, _⟩ => ⟨S8704x5632, .f32⟩
  | .hbm, ⟨34, _⟩ => ⟨S8704x2048, .f32⟩
  | .hbm, ⟨35, _⟩ => ⟨S_, .f32⟩
  | .hbm, ⟨36, _⟩ => ⟨S8704x2048, .f32⟩
  | .hbm, ⟨37, _⟩ => ⟨S8704x2048, .f32⟩
  | .hbm, ⟨38, _⟩ => ⟨S8704x2048, .f32⟩
  | .hbm, ⟨39, _⟩ => ⟨S8704x2048, .f32⟩
  | .hbm, ⟨40, _⟩ => ⟨S_, .f32⟩
  | .hbm, ⟨41, _⟩ => ⟨S8704, .f32⟩
  | .hbm, ⟨42, _⟩ => ⟨S8704x1, .f32⟩
  | .hbm, ⟨43, _⟩ => ⟨S_, .f32⟩
  | .hbm, ⟨44, _⟩ => ⟨S8704x1, .f32⟩
  | .hbm, ⟨45, _⟩ => ⟨S8704x1, .f32⟩
  | .hbm, ⟨46, _⟩ => ⟨S_, .f32⟩
  | .hbm, ⟨47, _⟩ => ⟨S8704x1, .f32⟩
  | .hbm, ⟨48, _⟩ => ⟨S8704x1, .f32⟩
  | .hbm, ⟨49, _⟩ => ⟨S8704x1, .f32⟩
  | .hbm, ⟨50, _⟩ => ⟨S8704x2048, .f32⟩
  | .hbm, ⟨51, _⟩ => ⟨S8704x2048, .f32⟩
  | .hbm, ⟨52, _⟩ => ⟨S1x2048, .f32⟩
  | .hbm, ⟨53, _⟩ => ⟨S8704x2048, .f32⟩
  | .hbm, ⟨54, _⟩ => ⟨S8704x2048, .f32⟩
  | .hbm, ⟨55, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S8704x2048 : Shape := ⟨2, ![8704, 2048]⟩
abbrev S2048x1024 : Shape := ⟨2, ![2048, 1024]⟩
abbrev S8192x8x128 : Shape := ⟨3, ![8192, 8, 128]⟩
abbrev S512x8x128 : Shape := ⟨3, ![512, 8, 128]⟩
abbrev S8704x1024 : Shape := ⟨2, ![8704, 1024]⟩
abbrev S512x2048 : Shape := ⟨2, ![512, 2048]⟩
abbrev S512x1024 : Shape := ⟨2, ![512, 1024]⟩
abbrev S512x128 : Shape := ⟨2, ![512, 128]⟩
abbrev S512x1x128 : Shape := ⟨3, ![512, 1, 128]⟩

abbrev nBuf : Space → Nat
  | .hbm => 6
  | .vmem => 9
  | .smem => 0
  | _ => 0

abbrev bufTy : (tb : Table) → Fin (tcTables nBuf tb) → BufTy
  | .hbm, ⟨0, _⟩ => ⟨S8704x2048, .bf16⟩
  | .hbm, ⟨1, _⟩ => ⟨S2048x1024, .f32⟩
  | .hbm, ⟨2, _⟩ => ⟨S2048x1024, .bf16⟩
  | .hbm, ⟨3, _⟩ => ⟨S8192x8x128, .f32⟩
  | .hbm, ⟨4, _⟩ => ⟨S512x8x128, .f32⟩
  | .hbm, ⟨5, _⟩ => ⟨S8704x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x8x128, .f32⟩
  | .local _ .vmem, ⟨4, _⟩ => ⟨S512x8x128, .f32⟩
  | .local _ .vmem, ⟨5, _⟩ => ⟨S512x8x128, .f32⟩
  | .local _ .vmem, ⟨6, _⟩ => ⟨S512x8x128, .f32⟩
  | .local _ .vmem, ⟨7, _⟩ => ⟨S512x1024, .bf16⟩
  | .local _ .vmem, ⟨8, _⟩ => ⟨S512x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v6 : BitVec 1 := Scalar.cmpi .slt arg0 c16_i32
  let v7 : BitVec 32 := Scalar.extui v6
  let c0_i32 : BitVec 32 := 0#32
  let v8 : BitVec 1 := Scalar.cmpi .ne v7 c0_i32
  v8

def k0_cond2 (i : grid0.Coords) : BitVec 1 :=
  let arg0 : BitVec 32 := BitVec.ofNat 32 (i 0).val
  let c16_i32_5 : BitVec 32 := 16#32
  let v9 : BitVec 1 := Scalar.cmpi .sge arg0 c16_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8704x2048 : Shape := ⟨2, ![8704, 2048]⟩
abbrev S2048x1024 : Shape := ⟨2, ![2048, 1024]⟩
abbrev S8704x1024 : Shape := ⟨2, ![8704, 1024]⟩
abbrev S8192x1024 : Shape := ⟨2, ![8192, 1024]⟩
abbrev S8192x8x128 : Shape := ⟨3, ![8192, 8, 128]⟩
abbrev S512x1024 : Shape := ⟨2, ![512, 1024]⟩
abbrev S512x8x128 : Shape := ⟨3, ![512, 8, 128]⟩

abbrev nBuf : Space → Nat
  | .hbm => 9
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x1024, .f32⟩
  | .hbm, ⟨2, _⟩ => ⟨S8704x2048, .f32⟩
  | .hbm, ⟨3, _⟩ => ⟨S8704x1024, .f32⟩
  | .hbm, ⟨4, _⟩ => ⟨S8192x1024, .f32⟩
  | .hbm, ⟨5, _⟩ => ⟨S8192x8x128, .f32⟩
  | .hbm, ⟨6, _⟩ => ⟨S512x1024, .f32⟩
  | .hbm, ⟨7, _⟩ => ⟨S512x8x128, .f32⟩
  | .hbm, ⟨8, _⟩ => ⟨S8704x1024, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S8704x2048 : Shape := ⟨2, ![8704, 2048]⟩
abbrev S2048x4096 : Shape := ⟨2, ![2048, 4096]⟩
abbrev S8704x4096 : Shape := ⟨2, ![8704, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2048x4096, .f32⟩
  | .hbm, ⟨2, _⟩ => ⟨S2048x4096, .bf16⟩
  | .hbm, ⟨3, _⟩ => ⟨S8704x4096, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8704x2048 : Shape := ⟨2, ![8704, 2048]⟩
abbrev S2048x4096 : Shape := ⟨2, ![2048, 4096]⟩
abbrev S8704x4096 : Shape := ⟨2, ![8704, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x4096, .f32⟩
  | .hbm, ⟨2, _⟩ => ⟨S8704x2048, .f32⟩
  | .hbm, ⟨3, _⟩ => ⟨S8704x4096, .f32⟩
  | .hbm, ⟨4, _⟩ => ⟨S8704x4096, .f32⟩
  | .hbm, ⟨5, _⟩ => ⟨S8704x4096, .f32⟩
  | .hbm, ⟨6, _⟩ => ⟨S_, .f32⟩
  | .hbm, ⟨7, _⟩ => ⟨S8704x4096, .f32⟩
  | .hbm, ⟨8, _⟩ => ⟨S8704x4096, .f32⟩
  | .hbm, ⟨9, _⟩ => ⟨S_, .f32⟩
  | .hbm, ⟨10, _⟩ => ⟨S8704x4096, .f32⟩
  | .hbm, ⟨11, _⟩ => ⟨S8704x4096, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S8704x2048 : Shape := ⟨2, ![8704, 2048]⟩
abbrev S2048x3072 : Shape := ⟨2, ![2048, 3072]⟩
abbrev S8704x3072 : Shape := ⟨2, ![8704, 3072]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2048x3072, .f32⟩
  | .hbm, ⟨2, _⟩ => ⟨S2048x3072, .bf16⟩
  | .hbm, ⟨3, _⟩ => ⟨S8704x3072, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8704x2048 : Shape := ⟨2, ![8704, 2048]⟩
abbrev S2048x3072 : Shape := ⟨2, ![2048, 3072]⟩
abbrev S8704x3072 : Shape := ⟨2, ![8704, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x3072, .f32⟩
  | .hbm, ⟨2, _⟩ => ⟨S8704x2048, .f32⟩
  | .hbm, ⟨3, _⟩ => ⟨S8704x3072, .f32⟩
  | .hbm, ⟨4, _⟩ => ⟨S8704x3072, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8704x1024 : Shape := ⟨2, ![8704, 1024]⟩
abbrev S8704x4096 : Shape := ⟨2, ![8704, 4096]⟩
abbrev S1024x2048 : Shape := ⟨2, ![1024, 2048]⟩
abbrev S8704x2048 : Shape := ⟨2, ![8704, 2048]⟩
abbrev S256x1024 : Shape := ⟨2, ![256, 1024]⟩
abbrev S256x4096 : Shape := ⟨2, ![256, 4096]⟩
abbrev S256x2048 : Shape := ⟨2, ![256, 2048]⟩

abbrev nBuf : Space → Nat
  | .hbm => 8
  | .vmem => 10
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x4096, .f32⟩
  | .hbm, ⟨3, _⟩ => ⟨S1024x2048, .f32⟩
  | .hbm, ⟨4, _⟩ => ⟨S1024x2048, .f32⟩
  | .hbm, ⟨5, _⟩ => ⟨S1024x2048, .bf16⟩
  | .hbm, ⟨6, _⟩ => ⟨S1024x2048, .bf16⟩
  | .hbm, ⟨7, _⟩ => ⟨S8704x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x4096, .f32⟩
  | .local _ .vmem, ⟨5, _⟩ => ⟨S256x4096, .f32⟩
  | .local _ .vmem, ⟨6, _⟩ => ⟨S1024x2048, .bf16⟩
  | .local _ .vmem, ⟨7, _⟩ => ⟨S1024x2048, .bf16⟩
  | .local _ .vmem, ⟨8, _⟩ => ⟨S256x2048, .bf16⟩
  | .local _ .vmem, ⟨9, _⟩ => ⟨S256x2048, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8704x1024 : Shape := ⟨2, ![8704, 1024]⟩
abbrev S8704x4096 : Shape := ⟨2, ![8704, 4096]⟩
abbrev S1024x2048 : Shape := ⟨2, ![1024, 2048]⟩
abbrev S8704x2048 : Shape := ⟨2, ![8704, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x4096, .f32⟩
  | .hbm, ⟨3, _⟩ => ⟨S1024x2048, .f32⟩
  | .hbm, ⟨4, _⟩ => ⟨S1024x2048, .f32⟩
  | .hbm, ⟨5, _⟩ => ⟨S8704x2048, .f32⟩
  | .hbm, ⟨6, _⟩ => ⟨S8704x2048, .f32⟩
  | .hbm, ⟨7, _⟩ => ⟨S8704x1024, .f32⟩
  | .hbm, ⟨8, _⟩ => ⟨S8704x2048, .f32⟩
  | .hbm, ⟨9, _⟩ => ⟨S8704x2048, .f32⟩
  | .hbm, ⟨10, _⟩ => ⟨S8704x1024, .f32⟩
  | .hbm, ⟨11, _⟩ => ⟨S8704x2048, .f32⟩
  | .hbm, ⟨12, _⟩ => ⟨S8704x2048, .f32⟩
  | .hbm, ⟨13, _⟩ => ⟨S8704x2048, .f32⟩
  | .hbm, ⟨14, _⟩ => ⟨S8704x2048, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel7.lean ====
abbrev S8704x2048 : Shape := ⟨2, ![8704, 2048]⟩
abbrev S2048x2048 : Shape := ⟨2, ![2048, 2048]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S8704x2048, .bf16⟩
  | .hbm, ⟨2, _⟩ => ⟨S2048x2048, .f32⟩
  | .hbm, ⟨3, _⟩ => ⟨S2048x2048, .bf16⟩
  | .hbm, ⟨4, _⟩ => ⟨S8704x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8704x2048 : Shape := ⟨2, ![8704, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .bf16⟩
  | .hbm, ⟨2, _⟩ => ⟨S2048x2048, .f32⟩
  | .hbm, ⟨3, _⟩ => ⟨S8704x2048, .f32⟩
  | .hbm, ⟨4, _⟩ => ⟨S8704x2048, .f32⟩
  | .hbm, ⟨5, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8704x2048 : Shape := ⟨2, ![8704, 2048]⟩
abbrev S8704x256 : Shape := ⟨2, ![8704, 256]⟩
abbrev S256x2048 : Shape := ⟨2, ![256, 2048]⟩
abbrev S2048x2048 : Shape := ⟨2, ![2048, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S8704x256, .f32⟩
  | .hbm, ⟨2, _⟩ => ⟨S8704x2048, .bf16⟩
  | .hbm, ⟨3, _⟩ => ⟨S256x2048, .f32⟩
  | .hbm, ⟨4, _⟩ => ⟨S2048x2048, .f32⟩
  | .hbm, ⟨5, _⟩ => ⟨S2048, .f32⟩
  | .hbm, ⟨6, _⟩ => ⟨S8704x256, .bf16⟩
  | .hbm, ⟨7, _⟩ => ⟨S256x2048, .bf16⟩
  | .hbm, ⟨8, _⟩ => ⟨S2048x2048, .bf16⟩
  | .hbm, ⟨9, _⟩ => ⟨S1x2048, .f32⟩
  | .hbm, ⟨10, _⟩ => ⟨S8192x2048, .f32⟩
  | .hbm, ⟨11, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x256, .bf16⟩
  | .local _ .vmem, ⟨3, _⟩ => ⟨S256x256, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S2048x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v33 : BitVec 1 := Scalar.cmpi .slt arg0 c32_i32
  let v34 : BitVec 32 := Scalar.extui v33
  let c0_i32 : BitVec 32 := 0#32
  let v35 : BitVec 1 := Scalar.cmpi .ne v34 c0_i32
  v35

def k0_cond2 (i : grid0.Coords) : BitVec 1 :=
  let arg0 : BitVec 32 := BitVec.ofNat 32 (i 0).val
  let c32_i32_18 : BitVec 32 := 32#32
  let v36 : BitVec 1 := Scalar.cmpi .sge arg0 c32_i32_18
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8704x2048 : Shape := ⟨2, ![8704, 2048]⟩
abbrev S8704x256 : Shape := ⟨2, ![8704, 256]⟩
abbrev S256x2048 : Shape := ⟨2, ![256, 2048]⟩
abbrev S2048x2048 : Shape := ⟨2, ![2048, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8192x2048 : Shape := ⟨2, ![8192, 2048]⟩
abbrev S512x2048 : Shape := ⟨2, ![512, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x256, .f32⟩
  | .hbm, ⟨2, _⟩ => ⟨S8704x2048, .bf16⟩
  | .hbm, ⟨3, _⟩ => ⟨S256x2048, .f32⟩
  | .hbm, ⟨4, _⟩ => ⟨S2048x2048, .f32⟩
  | .hbm, ⟨5, _⟩ => ⟨S2048, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S_, .f32⟩
  | .hbm, ⟨12, _⟩ => ⟨S8704x2048, .f32⟩
  | .hbm, ⟨13, _⟩ => ⟨S8704x2048, .f32⟩
  | .hbm, ⟨14, _⟩ => ⟨S_, .f32⟩
  | .hbm, ⟨15, _⟩ => ⟨S8704x2048, .f32⟩
  | .hbm, ⟨16, _⟩ => ⟨S8704x2048, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S_, .f32⟩
  | .hbm, ⟨27, _⟩ => ⟨S8704x1, .f32⟩
  | .hbm, ⟨28, _⟩ => ⟨S8704x1, .f32⟩
  | .hbm, ⟨29, _⟩ => ⟨S8704x1, .f32⟩
  | .hbm, ⟨30, _⟩ => ⟨S8704x2048, .f32⟩
  | .hbm, ⟨31, _⟩ => ⟨S8704x2048, .f32⟩
  | .hbm, ⟨32, _⟩ => ⟨S1x2048, .f32⟩
  | .hbm, ⟨33, _⟩ => ⟨S8704x2048, .f32⟩
  | .hbm, ⟨34, _⟩ => ⟨S8704x2048, .f32⟩
  | .hbm, ⟨35, _⟩ => ⟨S8192x2048, .f32⟩
  | .hbm, ⟨36, _⟩ => ⟨S512x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel9.lean ====
abbrev S8704x2048 : Shape := ⟨2, ![8704, 2048]⟩
abbrev S2048x8 : Shape := ⟨2, ![2048, 8]⟩
abbrev S2048x64 : Shape := ⟨2, ![2048, 64]⟩
abbrev S2048x16 : Shape := ⟨2, ![2048, 16]⟩
abbrev S8 : Shape := ⟨1, ![8]⟩
abbrev S2048x88 : Shape := ⟨2, ![2048, 88]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S8704x128 : Shape := ⟨2, ![8704, 128]⟩
abbrev S512x2048 : Shape := ⟨2, ![512, 2048]⟩
abbrev S512x128 : Shape := ⟨2, ![512, 128]⟩

abbrev nBuf : Space → Nat
  | .hbm => 15
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2048x8, .f32⟩
  | .hbm, ⟨2, _⟩ => ⟨S2048x64, .f32⟩
  | .hbm, ⟨3, _⟩ => ⟨S2048x16, .f32⟩
  | .hbm, ⟨4, _⟩ => ⟨S8, .f32⟩
  | .hbm, ⟨5, _⟩ => ⟨S2048x88, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x128, .bf16⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S8704x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8704x2048 : Shape := ⟨2, ![8704, 2048]⟩
abbrev S2048x8 : Shape := ⟨2, ![2048, 8]⟩
abbrev S2048x64 : Shape := ⟨2, ![2048, 64]⟩
abbrev S2048x16 : Shape := ⟨2, ![2048, 16]⟩
abbrev S8 : Shape := ⟨1, ![8]⟩
abbrev S_ : Shape := ⟨0, ![]⟩
abbrev S8704x40 : Shape := ⟨2, ![8704, 40]⟩
abbrev S8704x8 : Shape := ⟨2, ![8704, 8]⟩
abbrev S1x8 : Shape := ⟨2, ![1, 8]⟩
abbrev S8704x64 : Shape := ⟨2, ![8704, 64]⟩
abbrev S8704x16 : Shape := ⟨2, ![8704, 16]⟩
abbrev S8704x128 : Shape := ⟨2, ![8704, 128]⟩

abbrev nBuf : Space → Nat
  | .hbm => 31
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x8, .f32⟩
  | .hbm, ⟨2, _⟩ => ⟨S2048x64, .f32⟩
  | .hbm, ⟨3, _⟩ => ⟨S2048x16, .f32⟩
  | .hbm, ⟨4, _⟩ => ⟨S8, .f32⟩
  | .hbm, ⟨5, _⟩ => ⟨S8704x2048, .f32⟩
  | .hbm, ⟨6, _⟩ => ⟨S_, .f32⟩
  | .hbm, ⟨7, _⟩ => ⟨S8704x40, .f32⟩
  | .hbm, ⟨8, _⟩ => ⟨S8704x8, .f32⟩
  | .hbm, ⟨9, _⟩ => ⟨S1x8, .f32⟩
  | .hbm, ⟨10, _⟩ => ⟨S8704x8, .f32⟩
  | .hbm, ⟨11, _⟩ => ⟨S8704x8, .f32⟩
  | .hbm, ⟨12, _⟩ => ⟨S8704x8, .f32⟩
  | .hbm, ⟨13, _⟩ => ⟨S_, .f32⟩
  | .hbm, ⟨14, _⟩ => ⟨S8704x8, .f32⟩
  | .hbm, ⟨15, _⟩ => ⟨S8704x8, .f32⟩
  | .hbm, ⟨16, _⟩ => ⟨S8704x8, .f32⟩
  | .hbm, ⟨17, _⟩ => ⟨S8704x8, .f32⟩
  | .hbm, ⟨18, _⟩ => ⟨S8704x8, .i1⟩
  | .hbm, ⟨19, _⟩ => ⟨S8704x8, .f32⟩
  | .hbm, ⟨20, _⟩ => ⟨S8704x8, .f32⟩
  | .hbm, ⟨21, _⟩ => ⟨S8704x8, .f32⟩
  | .hbm, ⟨22, _⟩ => ⟨S8704x8, .f32⟩
  | .hbm, ⟨23, _⟩ => ⟨S8704x8, .f32⟩
  | .hbm, ⟨24, _⟩ => ⟨S8704x8, .f32⟩
  | .hbm, ⟨25, _⟩ => ⟨S8704x8, .f32⟩
  | .hbm, ⟨26, _⟩ => ⟨S8704x8, .f32⟩
  | .hbm, ⟨27, _⟩ => ⟨S8704x8, .f32⟩
  | .hbm, ⟨28, _⟩ => ⟨S8704x64, .f32⟩
  | .hbm, ⟨29, _⟩ => ⟨S8704x16, .f32⟩
  | .hbm, ⟨30, _⟩ => ⟨S8704x128, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Proof.FfnCases.lean ====
/-
  The feed-forward block's body, case by case: what a point of the first, a middle and the last block of the hidden
  units leaves in the two scratch buffers and, at the last, in the two results.
-/
module

public import proofs.«01_k».proof.Proof.Gen.Kernel2Ideal.Value
public import Idealize.ShloMosaic.Lib.Tactic

@[expose] public section

noncomputable section

open Idealize.ShloMosaic Idealize.ShloMosaic.TcCoe Idealize.SL.Sem

namespace Cert.Ffn

open Cert.Kernel2Ideal Cert.Kernel2Ideal.Gen

variable {F : FTy → Type} [FloatOps F]
variable (c : Dev nD) (i : grid0.Coords)
  (a2 : Memref sig .tc .vmem S512x2048 .f32) (h2 : a2.IsWhole)
  (a3 : Memref sig .tc .vmem S1x2048 .f32) (h3 : a3.IsWhole)
  (a4 : Memref sig .tc .vmem S2048x512 .bf16) (h4 : a4.IsWhole)
  (a5 : Memref sig .tc .vmem S2048x512 .bf16) (h5 : a5.IsWhole)
  (a6 : Memref sig .tc .vmem S512x2048 .bf16) (h6 : a6.IsWhole)
  (a7 : Memref sig .tc .vmem S1x2048 .f32) (h7 : a7.IsWhole)
  (a8 : Memref sig .tc .vmem S512x2048 .f32) (h8 : a8.IsWhole)
  (a9 : Memref sig .tc .vmem S512x2048 .bf16) (h9 : a9.IsWhole)
  (a10 : Memref sig .tc .vmem S512x2048 .bf16) (h10 : a10.IsWhole)
  (a11 : Memref sig .tc .vmem S512x2048 .f32) (h11 : a11.IsWhole)
  (x0 : Vec F S512x2048 .f32) (x1 : Vec F S1x2048 .f32) (x2 x3 : Vec F S2048x512 .bf16) (x4 : Vec F S512x2048 .bf16)
  (x5 : Vec F S1x2048 .f32) (hs : Vec F S512x2048 .bf16) (acc : Vec F S512x2048 .f32)

theorem zero2 : (![0, 0] : Fin 2 → Nat) = fun _ => 0 := funext fun a => by fin_cases a <;> rfl

/-- The first block of hidden units leaves the rows' norm in the first scratch buffer. -/
theorem norm_first (hc0 : cond0_0 i) (hc1 : ¬cond0_1 i) :
    sout0_A_0 c i a2 h2 a3 h3 a4 h4 a5 h5 a6 h6 a7 h7 a8 h8 a9 h9 a10 h10 a11 h11 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 a10 h10 a11 h11 hc0 hc1 x0 x1 x2 x3 x4 x5)]
  unfold kernelRun0_A
  dsimp only
  sl_unfold_words
  rw [View.canon_unit_zero zero2]
  simp only [View.readAt_eq_ld, h2.read_unread, h3.read_unread, View.ld_unit_zero (S := S512x2048) zero2,
    View.ld_unit_zero (S := S1x2048) zero2]

/-- … and in the second the first addend, over the zeros it stores before. -/
theorem acc_first (hc0 : cond0_0 i) (hc1 : ¬cond0_1 i) :
    sout0_A_1 c i a2 h2 a3 h3 a4 h4 a5 h5 a6 h6 a7 h7 a8 h8 a9 h9 a10 h10 a11 h11 hc0 hc1 x0 x1 x2 x3 x4 x5
      = k0_pay3 (k0_pay1 x0 x1) x2 x3 k0_pay2 x4 := by
  unfold sout0_A_1
  rw [View.read_writes_eq_canon _ _ _ (scover0_A_1 c i a2 h2 a3 h3 a4 h4 a5 h5 a6 h6 a7 h7 a8 h8 a9 h9 a10 h10 a11 h11 hc0 hc1 x0 x1 x2 x3 x4 x5)]
  unfold kernelRun0_A
  dsimp only
  sl_unfold_words
  rw [View.canon_cons_unit_zero (S := S512x2048) zero2]
  simp only [View.readCov_unit_zero (S := S512x2048) _ zero2, View.readAt_eq_ld, h2.read_unread, h3.read_unread,
    h4.read_unread, h5.read_unread, h6.read_unread, View.ld_unit_zero (S := S512x2048) zero2,
    View.ld_unit_zero (S := S1x2048) zero2, View.ld_unit_zero (S := S2048x512) zero2]

/-- A middle block of hidden units keeps the rows' norm. -/
theorem norm_middle (hc0 : ¬cond0_0 i) (hc1 : ¬cond0_1 i) :
    sout0_B_0 c i a2 h2 a3 h3 a4 h4 a5 h5 a6 h6 a7 h7 a8 h8 a9 h9 a10 h10 a11 h11 hc0 hc1 x0 x1 x2 x3 x4 x5 hs acc = hs := rfl

/-- A middle block of hidden units adds its addend. -/
theorem acc_middle (hc0 : ¬cond0_0 i) (hc1 : ¬cond0_1 i) :
    sout0_B_1 c i a2 h2 a3 h3 a4 h4 a5 h5 a6 h6 a7 h7 a8 h8 a9 h9 a10 h10 a11 h11 hc0 hc1 x0 x1 x2 x3 x4 x5 hs acc
      = k0_pay3 hs x2 x3 acc x4 := by
  unfold sout0_B_1
  rw [View.read_writes_eq_canon _ _ _ (scover0_B_1 c i a2 h2 a3 h3 a4 h4 a5 h5 a6 h6 a7 h7 a8 h8 a9 h9 a10 h10 a11 h11 hc0 hc1 x0 x1 x2 x3 x4 x5 hs acc)]
  unfold kernelRun0_B
  dsimp only
  sl_unfold_words
  rw [View.canon_unit_zero zero2]
  simp only [View.readAt_eq_ld, h4.read_unread, h5.read_unread, h6.read_unread, h10.read_unread, h11.read_unread,
    View.ld_unit_zero (S := S512x2048) zero2, View.ld_unit_zero (S := S2048x512) zero2]

/-- A last block of hidden units keeps the rows' norm. -/
theorem norm_last (hc0 : ¬cond0_0 i) (hc1 : cond0_1 i) :
    sout0_C_0 c i a2 h2 a3 h3 a4 h4 a5 h5 a6 h6 a7 h7 a8 h8 a9 h9 a10 h10 a11 h11 hc0 hc1 x0 x1 x2 x3 x4 x5 hs acc = hs := rfl

/-- A last block of hidden units adds its addend. -/
theorem acc_last (hc0 : ¬cond0_0 i) (hc1 : cond0_1 i) :
    sout0_C_1 c i a2 h2 a3 h3 a4 h4 a5 h5 a6 h6 a7 h7 a8 h8 a9 h9 a10 h10 a11 h11 hc0 hc1 x0 x1 x2 x3 x4 x5 hs acc
      = k0_pay3 hs x2 x3 acc x4 := by
  unfold sout0_C_1
  rw [View.read_writes_eq_canon _ _ _ (scover0_C_1 c i a2 h2 a3 h3 a4 h4 a5 h5 a6 h6 a7 h7 a8 h8 a9 h9 a10 h10 a11 h11 hc0 hc1 x0 x1 x2 x3 x4 x5 hs acc)]
  unfold kernelRun0_C
  dsimp only
  sl_unfold_words
  rw [View.canon_unit_zero zero2]
  simp only [View.readAt_eq_ld, h4.read_unread, h5.read_unread, h6.read_unread, h10.read_unread, h11.read_unread,
    View.ld_unit_zero (S := S512x2048) zero2, View.ld_unit_zero (S := S2048x512) zero2]

/-- The last block of hidden units writes the rows plus half the sum. -/
theorem out6_last (hc0 : ¬cond0_0 i) (hc1 : cond0_1 i) :
    out0_C_6 c i a2 h2 a3 h3 a4 h4 a5 h5 a6 h6 a7 h7 a8 h8 a9 h9 a10 h10 a11 h11 hc0 hc1 x0 x1 x2 x3 x4 x5 hs acc = k0_pay4 x0 (k0_pay3 hs x2 x3 acc x4) := by
  unfold out0_C_6
  rw [View.read_writes_eq_canon _ _ _ (cover0_C_6 c i a2 h2 a3 h3 a4 h4 a5 h5 a6 h6 a7 h7 a8 h8 a9 h9 a10 h10 a11 h11 hc0 hc1 x0 x1 x2 x3 x4 x5 hs acc)]
  unfold kernelRun0_C
  dsimp only
  sl_unfold_words
  rw [View.canon_unit_zero zero2]
  simp only [View.readCov_unit_zero (S := S512x2048) _ zero2, View.readAt_eq_ld, h2.read_unread, h4.read_unread,
    h5.read_unread, h6.read_unread, h7.read_unread, h10.read_unread, h11.read_unread,
    View.ld_unit_zero (S := S512x2048) zero2, View.ld_unit_zero (S := S2048x512) zero2, View.ld_unit_zero (S := S1x2048) zero2]

/-- The last block of hidden units writes the norm of the first result. -/
theorem out7_last (hc0 : ¬cond0_0 i) (hc1 : cond0_1 i) :
    out0_C_7 c i a2 h2 a3 h3 a4 h4 a5 h5 a6 h6 a7 h7 a8 h8 a9 h9 a10 h10 a11 h11 hc0 hc1 x0 x1 x2 x3 x4 x5 hs acc = k0_pay5 x0 (k0_pay3 hs x2 x3 acc x4) x5 := by
  unfold out0_C_7
  rw [View.read_writes_eq_canon _ _ _ (cover0_C_7 c i a2 h2 a3 h3 a4 h4 a5 h5 a6 h6 a7 h7 a8 h8 a9 h9 a10 h10 a11 h11 hc0 hc1 x0 x1 x2 x3 x4 x5 hs acc)]
  unfold kernelRun0_C
  dsimp only
  sl_unfold_words
  rw [View.canon_unit_zero zero2]
  simp only [View.readCov_unit_zero (S := S512x2048) _ zero2, View.readAt_eq_ld, h2.read_unread, h4.read_unread,
    h5.read_unread, h6.read_unread, h7.read_unread, h10.read_unread, h11.read_unread,
    View.ld_unit_zero (S := S512x2048) zero2, View.ld_unit_zero (S := S2048x512) zero2, View.ld_unit_zero (S := S1x2048) zero2]

end Cert.Ffn

end
-- ==== Proof.FfnMath.lean ====
/-
  The feed-forward block's mathematics, element by element: the norm of a row, a hidden unit, the block's two results.
-/
module

public import Idealize.ShloMosaic.Lib.Pointwise
public import proofs.«01_k».proof.Defs
public import proofs.«01_k».proof.Proof.Gen.Kernel2Ideal
public import proofs.«01_k».proof.Proof.Gen.Reference2Ideal.Run

@[expose] public section

noncomputable section

open Idealize.ShloMosaic Idealize.ShloMosaic.TcCoe Idealize.SL.Sem

namespace Cert.Ffn

open Cert.Kernel2Ideal

/-- A row's root-mean-square norm with the gains `g`, at column `k`. -/
def norm (row g : Fin 2048 → EReal) (k : Fin 2048) : EReal :=
  row k * Ideal.rsqrt (Ideal.div (∑ j, row j * row j) (Ideal.ofBits .f32 0x45000000#32) + Ideal.ofBits .f32 0x358637BD#32) * g k

/-- A hidden unit of the row `h`: `silu (h u) (h v)` for the unit's two columns. -/
def unit (h u v : Fin 2048 → EReal) : EReal :=
  (∑ k, h k * u k) * Ideal.div 1 (1 + Ideal.exp (-∑ k, h k * u k)) * ∑ k, h k * v k

/-- The block's first result at one index. -/
def first (x : S8704x2048.Idx → EReal) (g : S2048.Idx → EReal) (w1 w3 : S2048x5632.Idx → EReal) (w2 : S5632x2048.Idx → EReal)
    (i : Fin 8704) (j : Fin 2048) : EReal :=
  x (ix2 i j) + Ideal.ofBits .f32 0x3F000000#32 * ∑ f : Fin 5632,
    unit (norm (fun k => x (ix2 i k)) (fun k => g (ix1 k))) (fun k => w1 (ix2 k f)) (fun k => w3 (ix2 k f)) * w2 (ix2 f j)

/-- The first result as an array. -/
def res0 (x : S8704x2048.Idx → EReal) (g : S2048.Idx → EReal) (w1 w3 : S2048x5632.Idx → EReal) (w2 : S5632x2048.Idx → EReal) :
    S8704x2048.Idx → EReal := fun i => first x g w1 w3 w2 (i 0) (i 1)

/-- The second result, the next norm of the first, as an array. -/
def res1 (x : S8704x2048.Idx → EReal) (g : S2048.Idx → EReal) (w1 w3 : S2048x5632.Idx → EReal) (w2 : S5632x2048.Idx → EReal)
    (g' : S2048.Idx → EReal) : S8704x2048.Idx → EReal :=
  fun i => norm (first x g w1 w3 w2 (i 0)) (fun k => g' (ix1 k)) (i 1)

/-- A sum over `n` blocks of 512 is the sum over all their places. -/
theorem sum_blocks (F : ℕ → EReal) (n : ℕ) :
    ∑ b ∈ Finset.range n, ∑ x : Fin 512, F (b * 512 + x) = ∑ f ∈ Finset.range (n * 512), F f := by
  induction n with
  | zero => simp
  | succ n ih => rw [Finset.sum_range_succ, ih, Nat.succ_mul, Finset.sum_range_add, Finset.sum_range fun x => F (n * 512 + x)]

/-- The reference run's results are the block's. -/
theorem reference (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ fun r => ∀ c : Dev Cert.Reference2Ideal.nD,
      r.2.mem ((c.tc : Thread _ Cert.Reference2Ideal.τ).loc Cert.Reference2Ideal.main_v20)
        = res0 (m (c.tc.loc Cert.Reference2Ideal.main_arg0)) (m (c.tc.loc Cert.Reference2Ideal.main_arg1))
          (m (c.tc.loc Cert.Reference2Ideal.main_arg2)) (m (c.tc.loc Cert.Reference2Ideal.main_arg3)) (m (c.tc.loc Cert.Reference2Ideal.main_arg4))
      ∧ r.2.mem ((c.tc : Thread _ Cert.Reference2Ideal.τ).loc Cert.Reference2Ideal.main_v34)
        = res1 (m (c.tc.loc Cert.Reference2Ideal.main_arg0)) (m (c.tc.loc Cert.Reference2Ideal.main_arg1))
          (m (c.tc.loc Cert.Reference2Ideal.main_arg2)) (m (c.tc.loc Cert.Reference2Ideal.main_arg3)) (m (c.tc.loc Cert.Reference2Ideal.main_arg4))
          (m (c.tc.loc Cert.Reference2Ideal.main_arg5))
      ∧ r.2.mem ((c.tc : Thread _ Cert.Reference2Ideal.τ).loc Cert.Reference2Ideal.main_arg0) = m (c.tc.loc Cert.Reference2Ideal.main_arg0)
      ∧ r.2.mem ((c.tc : Thread _ Cert.Reference2Ideal.τ).loc Cert.Reference2Ideal.main_arg1) = m (c.tc.loc Cert.Reference2Ideal.main_arg1)
      ∧ r.2.mem ((c.tc : Thread _ Cert.Reference2Ideal.τ).loc Cert.Reference2Ideal.main_arg2) = m (c.tc.loc Cert.Reference2Ideal.main_arg2)
      ∧ r.2.mem ((c.tc : Thread _ Cert.Reference2Ideal.τ).loc Cert.Reference2Ideal.main_arg3) = m (c.tc.loc Cert.Reference2Ideal.main_arg3)
      ∧ r.2.mem ((c.tc : Thread _ Cert.Reference2Ideal.τ).loc Cert.Reference2Ideal.main_arg4) = m (c.tc.loc Cert.Reference2Ideal.main_arg4)
      ∧ r.2.mem ((c.tc : Thread _ Cert.Reference2Ideal.τ).loc Cert.Reference2Ideal.main_arg5) = m (c.tc.loc Cert.Reference2Ideal.main_arg5) := by
  refine (θ_run _ _ _).mono (fun r h c => ⟨(h c).1.trans ?_, (h c).2.1.trans ?_, (h c).2.2⟩) (Cert.Reference2Ideal.Value.run m ρ)
  · funext i
    change S8704x2048.Idx at i
    idx_vars i
    pointwise []
    rfl
  · funext i
    change S8704x2048.Idx at i
    idx_vars i
    unfold Cert.Reference2Ideal.Value.res_main_v34
    pointwise []
    rfl

end Cert.Ffn

end
-- ==== Proof.Ffn.lean ====
/-
  The feed-forward block's value: after the blocks 0 … b of hidden units the first scratch buffer holds the rows' norm and
  the second the sum over those units; at the last block the kernel writes the block's two results.
-/
module

public import Idealize.ShloMosaic.Lib.ValueLayout
public import proofs.«01_k».proof.Proof.FfnCases
public import proofs.«01_k».proof.Proof.FfnMath

@[expose] public section

noncomputable section

open Idealize.ShloMosaic Idealize.ShloMosaic.TcCoe Idealize.SL.Sem
open Idealize.ShloMosaic.Pipeline (Dat)

namespace Cert.Ffn

open Cert.Kernel2Ideal Cert.Kernel2Ideal.Gen Cert.Kernel2Ideal.Value

/-! ## The body's values at one index -/

theorem pay1_at (x : Vec Ideal S512x2048 .f32) (g : Vec Ideal S1x2048 .f32) (p : Fin 512) (q : Fin 2048) :
    k0_pay1 x g (ix2 p q) = norm (fun k => x (ix2 p k)) (fun k => g (ix2 0 k)) q := by
  pointwise [k0_pay1]
  rfl

theorem pay2_at (p : Fin 512) (q : Fin 2048) : k0_pay2 (F := Ideal) (ix2 p q) = 0 := by
  pointwise [k0_pay2]

theorem pay3_at (h : Vec Ideal S512x2048 .bf16) (u v : Vec Ideal S2048x512 .bf16) (acc : Vec Ideal S512x2048 .f32)
    (w : Vec Ideal S512x2048 .bf16) (p : Fin 512) (q : Fin 2048) :
    k0_pay3 h u v acc w (ix2 p q) = acc (ix2 p q) + ∑ f : Fin 512,
      unit (fun k => h (ix2 p k)) (fun k => u (ix2 k f)) (fun k => v (ix2 k f)) * w (ix2 f q) := by
  pointwise [k0_pay3]
  simp only [zero_sub, unit]

theorem pay4_at (x acc : Vec Ideal S512x2048 .f32) (p : Fin 512) (q : Fin 2048) :
    k0_pay4 x acc (ix2 p q) = x (ix2 p q) + Ideal.ofBits .f32 0x3F000000#32 * acc (ix2 p q) := by
  pointwise [k0_pay4]

theorem pay5_at (x acc : Vec Ideal S512x2048 .f32) (g : Vec Ideal S1x2048 .f32) (p : Fin 512) (q : Fin 2048) :
    k0_pay5 x acc g (ix2 p q) = norm (fun k => k0_pay4 x acc (ix2 p k)) (fun k => g (ix2 0 k)) q := by
  pointwise [k0_pay5]
  rfl

/-! ## The blocks, by the arguments' own indices -/

variable (m : (ℓ : Loc nD τ sig) → Buf (Elt Ideal) ℓ) (ρ : Dev nD → PrngReg) (c : Dev nD)

theorem hidden_u : V m c main_v0 = m ((c : Thread nD τ).loc main_arg2) := by
  have h : @Eq (FVec Ideal S2048x5632 .bf16) (V m c main_v0)
      (truncf .bf16 (m ((c : Thread nD τ).loc main_arg2) : FVec Ideal S2048x5632 .f32) bitsLt_bf16_f32) := by
    dsimp only [V, hostOps0]
    after_results
  exact h

theorem hidden_v : V m c main_v1 = m ((c : Thread nD τ).loc main_arg3) := by
  have h : @Eq (FVec Ideal S2048x5632 .bf16) (V m c main_v1)
      (truncf .bf16 (m ((c : Thread nD τ).loc main_arg3) : FVec Ideal S2048x5632 .f32) bitsLt_bf16_f32) := by
    dsimp only [V, hostOps0]
    after_results
  exact h

theorem hidden_w : V m c main_v2 = m ((c : Thread nD τ).loc main_arg4) := by
  have h : @Eq (FVec Ideal S5632x2048 .bf16) (V m c main_v2)
      (truncf .bf16 (m ((c : Thread nD τ).loc main_arg4) : FVec Ideal S5632x2048 .f32) bitsLt_bf16_f32) := by
    dsimp only [V, hostOps0]
    after_results
  exact h

/-- The gains as a row are the argument's, column by column. -/
theorem gains (k : Fin 2048) :
    (V m c main_v3 : FVec Ideal S1x2048 .f32) (ix2 0 k) = (m ((c : Thread nD τ).loc main_arg1) : FVec Ideal S2048 .f32) (ix1 k) := by
  have h : @Eq (FVec Ideal S1x2048 .f32) (V m c main_v3)
      (shapeCast S1x2048 (m ((c : Thread nD τ).loc main_arg1) : FVec Ideal S2048 .f32) shapeCasts_S2048_S1x2048) := by
    dsimp only [V, hostOps0]
    after_results
    rfl
  rw [h]
  exact Idealize.ShloMosaic.ValueIdx.shapeCast_a_1a_apply _ _ 0 k

/-- … and so are the next norm's. -/
theorem gains_next (k : Fin 2048) :
    (V m c main_v4 : FVec Ideal S1x2048 .f32) (ix2 0 k) = (m ((c : Thread nD τ).loc main_arg5) : FVec Ideal S2048 .f32) (ix1 k) := by
  have h : @Eq (FVec Ideal S1x2048 .f32) (V m c main_v4)
      (shapeCast S1x2048 (m ((c : Thread nD τ).loc main_arg5) : FVec Ideal S2048 .f32) shapeCasts_S2048_S1x2048) := by
    dsimp only [V, hostOps0]
    after_results
    rfl
  rw [h]
  exact Idealize.ShloMosaic.ValueIdx.shapeCast_a_1a_apply _ _ 0 k

/-- Where each window's block lies at point `t`: row block `t / 11`, block of hidden units `t % 11`. -/
theorem blocks (t : Fin cfg0.N) : win0_0.index t 0 = t.val / 11 ∧ win0_0.index t 1 = 0
    ∧ win0_1.index t 0 = 0 ∧ win0_1.index t 1 = 0 ∧ win0_2.index t 0 = 0 ∧ win0_2.index t 1 = t.val % 11
    ∧ win0_3.index t 0 = 0 ∧ win0_3.index t 1 = t.val % 11 ∧ win0_4.index t 0 = t.val % 11 ∧ win0_4.index t 1 = 0
    ∧ win0_5.index t 0 = 0 ∧ win0_5.index t 1 = 0 ∧ win0_6.index t 0 = t.val / 11 ∧ win0_6.index t 1 = 0
    ∧ win0_7.index t 0 = t.val / 11 ∧ win0_7.index t 1 = 0 :=
  (by decide +kernel : ∀ t : Fin grid0.N, win0_0.index t 0 = t.val / 11 ∧ win0_0.index t 1 = 0
    ∧ win0_1.index t 0 = 0 ∧ win0_1.index t 1 = 0 ∧ win0_2.index t 0 = 0 ∧ win0_2.index t 1 = t.val % 11
    ∧ win0_3.index t 0 = 0 ∧ win0_3.index t 1 = t.val % 11 ∧ win0_4.index t 0 = t.val % 11 ∧ win0_4.index t 1 = 0
    ∧ win0_5.index t 0 = 0 ∧ win0_5.index t 1 = 0 ∧ win0_6.index t 0 = t.val / 11 ∧ win0_6.index t 1 = 0
    ∧ win0_7.index t 0 = t.val / 11 ∧ win0_7.index t 1 = 0) t

/-- The residual stream by row number, zero past its last row. -/
def rowX (i : ℕ) (k : Fin 2048) : EReal :=
  if h : i < 8704 then (m ((c : Thread nD τ).loc main_arg0) : FVec Ideal S8704x2048 .f32) (ix2 ⟨i, h⟩ k) else 0

/-- The norm's gains. -/
def gain (k : Fin 2048) : EReal := (m ((c : Thread nD τ).loc main_arg1) : FVec Ideal S2048 .f32) (ix1 k)

/-- The next norm's gains. -/
def gainNext (k : Fin 2048) : EReal := (m ((c : Thread nD τ).loc main_arg5) : FVec Ideal S2048 .f32) (ix1 k)

/-- Hidden unit `f`'s columns of the two weight arrays, zero past the last unit. -/
def colU (f : ℕ) (k : Fin 2048) : EReal :=
  if h : f < 5632 then (m ((c : Thread nD τ).loc main_arg2) : FVec Ideal S2048x5632 .f32) (ix2 k ⟨f, h⟩) else 0

@[inherit_doc colU] def colV (f : ℕ) (k : Fin 2048) : EReal :=
  if h : f < 5632 then (m ((c : Thread nD τ).loc main_arg3) : FVec Ideal S2048x5632 .f32) (ix2 k ⟨f, h⟩) else 0

/-- Hidden unit `f`'s row of the down weights, zero past the last unit. -/
def rowW (f : ℕ) (j : Fin 2048) : EReal :=
  if h : f < 5632 then (m ((c : Thread nD τ).loc main_arg4) : FVec Ideal S5632x2048 .f32) (ix2 ⟨f, h⟩ j) else 0

theorem blk_x (t : Fin cfg0.N) (p : Fin 512) (k : Fin 2048) :
    iblk m c 0 t (ix2 p k) = rowX m c (t.val / 11 * 512 + p) k := by
  have h := blocks t
  have ht : t.val < 187 := lt_of_lt_of_eq t.isLt N_0
  have hp := p.isLt
  rw [rowX, dif_pos (by omega)]
  show V m c main_arg0 (((cfg0.win 0).blk t).view.emb _) = _
  rw [V_main_arg0]
  refine congrArg (m ((c : Thread nD τ).loc main_arg0)) (Shape.idx_ext₂ ?_ ?_)
  · show win0_0.index t 0 * 512 + 1 * (p : Nat) = t.val / 11 * 512 + p
    omega
  · show win0_0.index t 1 * 2048 + 1 * (k : Nat) = k
    omega

theorem blk_g (t : Fin cfg0.N) (k : Fin 2048) : iblk m c 1 t (ix2 0 k) = gain m c k := by
  have h := blocks t
  rw [gain, ← gains m c k]
  show V m c main_v3 (((cfg0.win 1).blk t).view.emb _) = V m c main_v3 _
  refine congrArg (V m c main_v3) (Shape.idx_ext₂ ?_ ?_)
  · show win0_1.index t 0 * 1 + 1 * 0 = 0
    omega
  · show win0_1.index t 1 * 2048 + 1 * (k : Nat) = k
    omega

theorem blk_g' (t : Fin cfg0.N) (k : Fin 2048) : iblk m c 5 t (ix2 0 k) = gainNext m c k := by
  have h := blocks t
  rw [gainNext, ← gains_next m c k]
  show V m c main_v4 (((cfg0.win 5).blk t).view.emb _) = V m c main_v4 _
  refine congrArg (V m c main_v4) (Shape.idx_ext₂ ?_ ?_)
  · show win0_5.index t 0 * 1 + 1 * 0 = 0
    omega
  · show win0_5.index t 1 * 2048 + 1 * (k : Nat) = k
    omega

theorem blk_u (t : Fin cfg0.N) (k : Fin 2048) (f : Fin 512) :
    iblk m c 2 t (ix2 k f) = colU m c (t.val % 11 * 512 + f) k := by
  have h := blocks t
  have hf := f.isLt
  rw [colU, dif_pos (by omega)]
  show V m c main_v0 (((cfg0.win 2).blk t).view.emb _) = _
  rw [hidden_u]
  refine congrArg (m ((c : Thread nD τ).loc main_arg2)) (Shape.idx_ext₂ ?_ ?_)
  · show win0_2.index t 0 * 2048 + 1 * (k : Nat) = k
    omega
  · show win0_2.index t 1 * 512 + 1 * (f : Nat) = t.val % 11 * 512 + f
    omega

theorem blk_v (t : Fin cfg0.N) (k : Fin 2048) (f : Fin 512) :
    iblk m c 3 t (ix2 k f) = colV m c (t.val % 11 * 512 + f) k := by
  have h := blocks t
  have hf := f.isLt
  rw [colV, dif_pos (by omega)]
  show V m c main_v1 (((cfg0.win 3).blk t).view.emb _) = _
  rw [hidden_v]
  refine congrArg (m ((c : Thread nD τ).loc main_arg3)) (Shape.idx_ext₂ ?_ ?_)
  · show win0_3.index t 0 * 2048 + 1 * (k : Nat) = k
    omega
  · show win0_3.index t 1 * 512 + 1 * (f : Nat) = t.val % 11 * 512 + f
    omega

theorem blk_w (t : Fin cfg0.N) (f : Fin 512) (j : Fin 2048) :
    iblk m c 4 t (ix2 f j) = rowW m c (t.val % 11 * 512 + f) j := by
  have h := blocks t
  have hf := f.isLt
  rw [rowW, dif_pos (by omega)]
  show V m c main_v2 (((cfg0.win 4).blk t).view.emb _) = _
  rw [hidden_w]
  refine congrArg (m ((c : Thread nD τ).loc main_arg4)) (Shape.idx_ext₂ ?_ ?_)
  · show win0_4.index t 0 * 512 + 1 * (f : Nat) = t.val % 11 * 512 + f
    omega
  · show win0_4.index t 1 * 2048 + 1 * (j : Nat) = j
    omega

/-! ## The two scratch buffers, point by point -/

/-- What hidden unit `f` adds to row `i` at column `j`. -/
def addend (i : ℕ) (j : Fin 2048) (f : ℕ) : EReal :=
  unit (norm (rowX m c i) (gain m c)) (colU m c f) (colV m c f) * rowW m c f j

/-- The norm of the rows' block is the rows' norm. -/
theorem norm_blk (t : Fin cfg0.N) (p : Fin 512) (q : Fin 2048) :
    k0_pay1 (iblk m c 0 t) (iblk m c 1 t) (ix2 p q) = norm (rowX m c (t.val / 11 * 512 + p)) (gain m c) q := by
  rw [pay1_at]
  exact congrArg₂ (norm · · q) (funext fun k => blk_x m c t p k) (funext fun k => blk_g m c t k)

/-- A block of hidden units adds its 512 addends. -/
theorem acc_blk (t : Fin cfg0.N) (h : Vec Ideal S512x2048 .bf16) (acc : Vec Ideal S512x2048 .f32)
    (hh : ∀ p q, h (ix2 p q) = norm (rowX m c (t.val / 11 * 512 + (p : Fin 512))) (gain m c) q) (p : Fin 512) (q : Fin 2048) :
    k0_pay3 h (iblk m c 2 t) (iblk m c 3 t) acc (iblk m c 4 t) (ix2 p q)
      = acc (ix2 p q) + ∑ f : Fin 512, addend m c (t.val / 11 * 512 + p) q (t.val % 11 * 512 + f) := by
  rw [pay3_at]
  refine congrArg (acc (ix2 p q) + ·) (Finset.sum_congr rfl fun f _ => ?_)
  rw [addend, ← blk_w m c t f q]
  refine congrArg (· * _) ?_
  rw [show (fun k => h (ix2 p k)) = norm (rowX m c (t.val / 11 * 512 + p)) (gain m c) from funext fun k => hh p k,
    show (fun k => iblk m c 2 t (ix2 k f)) = colU m c (t.val % 11 * 512 + f) from funext fun k => blk_u m c t k f,
    show (fun k => iblk m c 3 t (ix2 k f)) = colV m c (t.val % 11 * 512 + f) from funext fun k => blk_v m c t k f]

/-- After point `n` the scratch buffers hold the rows' norm and the sum over the hidden units so far. -/
theorem scratch (n : ℕ) (hn : n < cfg0.N) :
    (∀ p q, (outsAt0 m c n hn).2.2.1 (ix2 p q) = norm (rowX m c (n / 11 * 512 + (p : Fin 512))) (gain m c) q)
    ∧ ∀ p q, (outsAt0 m c n hn).2.2.2 (ix2 p q)
        = ∑ b ∈ Finset.range (n % 11 + 1), ∑ f : Fin 512, addend m c (n / 11 * 512 + (p : Fin 512)) q (b * 512 + f) := by
  induction n with
  | zero =>
    have e := outsAt0_A m c ⟨0, hn⟩ (Nat.zero_mod 11) (by simp)
    simp only at e
    rw [e]
    dsimp only
    rw [norm_first, acc_first]
    refine ⟨fun p q => norm_blk m c ⟨0, hn⟩ p q, fun p q => ?_⟩
    rw [acc_blk m c ⟨0, hn⟩ _ _ (norm_blk m c ⟨0, hn⟩), pay2_at]
    simp
  | succ n ih =>
    obtain ⟨ih1, ih2⟩ := ih (Nat.lt_of_succ_lt hn)
    by_cases h0 : (n + 1) % 11 = 0
    · have e := outsAt0_A m c ⟨n + 1, hn⟩ h0 (by simp only; omega)
      simp only at e
      rw [e]
      dsimp only
      rw [norm_first, acc_first]
      refine ⟨fun p q => norm_blk m c ⟨n + 1, hn⟩ p q, fun p q => ?_⟩
      rw [acc_blk m c ⟨n + 1, hn⟩ _ _ (norm_blk m c ⟨n + 1, hn⟩), pay2_at]
      simp [h0]
    · have hq : (n + 1) / 11 = n / 11 := by omega
      have hr : (n + 1) % 11 = n % 11 + 1 := by omega
      have key : ∀ h acc, (∀ p q, h (ix2 p q) = norm (rowX m c (n / 11 * 512 + (p : Fin 512))) (gain m c) q) →
          (∀ p q, acc (ix2 p q) = ∑ b ∈ Finset.range (n % 11 + 1), ∑ f : Fin 512, addend m c (n / 11 * 512 + (p : Fin 512)) q (b * 512 + f)) →
          (∀ p q, h (ix2 p q) = norm (rowX m c ((n + 1) / 11 * 512 + (p : Fin 512))) (gain m c) q) ∧
          ∀ p q, k0_pay3 h (iblk m c 2 ⟨n + 1, hn⟩) (iblk m c 3 ⟨n + 1, hn⟩) acc (iblk m c 4 ⟨n + 1, hn⟩) (ix2 p q)
            = ∑ b ∈ Finset.range ((n + 1) % 11 + 1), ∑ f : Fin 512, addend m c ((n + 1) / 11 * 512 + (p : Fin 512)) q (b * 512 + f) := by
        intro h acc hh hacc
        rw [← hq] at hh hacc
        refine ⟨hh, fun p q => ?_⟩
        rw [acc_blk m c ⟨n + 1, hn⟩ h acc hh, hacc, hr, Finset.sum_range_succ _ (n % 11 + 1)]
      by_cases h1 : (n + 1) % 11 = 10
      · have e := outsAt0_C m c ⟨n + 1, hn⟩ h0 h1
        simp only [Nat.add_sub_cancel] at e
        rw [e]
        dsimp only
        rw [norm_last, acc_last]
        exact key _ _ ih1 ih2
      · have e := outsAt0_B m c ⟨n + 1, hn⟩ h0 h1
        simp only [Nat.add_sub_cancel] at e
        rw [e]
        dsimp only
        rw [norm_middle, acc_middle]
        exact key _ _ ih1 ih2

end Cert.Ffn

end
-- ==== Proof.FfnRun.lean ====
/-
  The feed-forward block's claim: at a row block's last block of hidden units the kernel writes what the reference computes.
-/
module

public import proofs.«01_k».proof.Proof.Ffn

@[expose] public section

noncomputable section

open Idealize.ShloMosaic Idealize.ShloMosaic.TcCoe Idealize.SL.Sem
open Idealize.ShloMosaic.Pipeline (Dat)

namespace Cert.Ffn

open Cert.Kernel2Ideal Cert.Kernel2Ideal.Gen Cert.Kernel2Ideal.Value

variable (m : (ℓ : Loc nD τ sig) → Buf (Elt Ideal) ℓ) (c : Dev nD)

/-- The first result from the arguments. -/
def out0 : S8704x2048.Idx → EReal :=
  res0 (m (c.tc.loc main_arg0)) (m (c.tc.loc main_arg1)) (m (c.tc.loc main_arg2)) (m (c.tc.loc main_arg3)) (m (c.tc.loc main_arg4))

/-- The second result from the arguments. -/
def out1 : S8704x2048.Idx → EReal :=
  res1 (m (c.tc.loc main_arg0)) (m (c.tc.loc main_arg1)) (m (c.tc.loc main_arg2)) (m (c.tc.loc main_arg3)) (m (c.tc.loc main_arg4))
    (m (c.tc.loc main_arg5))

/-- The row numbers' form of the first result. -/
theorem first_eq (i : Fin 8704) (j : Fin 2048) :
    first (m (c.tc.loc main_arg0)) (m (c.tc.loc main_arg1)) (m (c.tc.loc main_arg2)) (m (c.tc.loc main_arg3)) (m (c.tc.loc main_arg4)) i j
      = rowX m c i j + Ideal.ofBits .f32 0x3F000000#32 * ∑ b ∈ Finset.range 11, ∑ f : Fin 512, addend m c i j (b * 512 + f) := by
  rw [sum_blocks (addend m c i j) 11, Finset.sum_range, first]
  refine congrArg₂ (· + ·) ?_ (congrArg (_ * ·) (Finset.sum_congr rfl fun f _ => ?_))
  · rw [rowX, dif_pos i.isLt]
  · have hx : rowX m c i = fun k => m (c.tc.loc main_arg0) (ix2 i k) := funext fun k => by rw [rowX, dif_pos i.isLt]
    have hu : colU m c f = fun k => m (c.tc.loc main_arg2) (ix2 k f) := funext fun k => by rw [colU, dif_pos f.isLt]
    have hv : colV m c f = fun k => m (c.tc.loc main_arg3) (ix2 k f) := funext fun k => by rw [colV, dif_pos f.isLt]
    have hw : rowW m c f j = m (c.tc.loc main_arg4) (ix2 f j) := by rw [rowW, dif_pos f.isLt]
    rw [addend, hx, hu, hv, hw]
    rfl

/-- At a last point the first result's block is the rows' first result. -/
theorem last_first (t : Fin cfg0.N) (h1 : t.val % 11 = 10) (p : Fin 512) (q : Fin 2048) :
    k0_pay4 (iblk m c 0 t) (outsAt0 m c t.val t.isLt).2.2.2 (ix2 p q)
      = first (m (c.tc.loc main_arg0)) (m (c.tc.loc main_arg1)) (m (c.tc.loc main_arg2)) (m (c.tc.loc main_arg3)) (m (c.tc.loc main_arg4))
        ⟨t.val / 11 * 512 + p, by have := lt_of_lt_of_eq t.isLt N_0; have := p.isLt; omega⟩ q := by
  rw [pay4_at, blk_x, (scratch m c t.val t.isLt).2, h1, first_eq]

/-- The last point's outputs, by its accumulator. -/
theorem last_outs (t : Fin cfg0.N) (h1 : t.val % 11 = 10) :
    (outsAt0 m c t.val t.isLt).1 = k0_pay4 (iblk m c 0 t) (outsAt0 m c t.val t.isLt).2.2.2
    ∧ (outsAt0 m c t.val t.isLt).2.1 = k0_pay5 (iblk m c 0 t) (outsAt0 m c t.val t.isLt).2.2.2 (iblk m c 5 t) := by
  rw [outsAt0_C m c t (by omega) h1]
  dsimp only
  rw [out6_last, out7_last, acc_last]
  exact ⟨rfl, rfl⟩

theorem flushed6_eq (t : Fin cfg0.N) (hf : (cfg0.win 6).flush t = true) :
    (dats m 0 c).flushed 6 t = ((cfg0.win 6).blk t).view.read (Elt Ideal) (out0 m c) := by
  have h1 := (flush0_6 t).mp hf
  have hb := blocks t
  rw [flushed6, (last_outs m c t h1).1]
  funext y
  change S512x2048.Idx at y
  idx_vars y
  show k0_pay4 (iblk m c 0 t) (outsAt0 m c t.val t.isLt).2.2.2 (ix2 y0 y1) = out0 m c (((cfg0.win 6).blk t).view.emb (ix2 y0 y1))
  rw [last_first m c t h1]
  refine congrArg₂ (first _ _ _ _ _) (Fin.ext ?_) (Fin.ext ?_)
  · show t.val / 11 * 512 + y0 = win0_6.index t 0 * 512 + 1 * (y0 : Nat)
    omega
  · show (y1 : Nat) = win0_6.index t 1 * 2048 + 1 * (y1 : Nat)
    omega

theorem flushed7_eq (t : Fin cfg0.N) (hf : (cfg0.win 7).flush t = true) :
    (dats m 0 c).flushed 7 t = ((cfg0.win 7).blk t).view.read (Elt Ideal) (out1 m c) := by
  have h1 := (flush0_7 t).mp hf
  have hb := blocks t
  rw [flushed7, (last_outs m c t h1).2]
  funext y
  change S512x2048.Idx at y
  idx_vars y
  show k0_pay5 (iblk m c 0 t) (outsAt0 m c t.val t.isLt).2.2.2 (iblk m c 5 t) (ix2 y0 y1) = out1 m c (((cfg0.win 7).blk t).view.emb (ix2 y0 y1))
  rw [pay5_at, show (fun k => iblk m c 5 t (ix2 0 k)) = gainNext m c from funext fun k => blk_g' m c t k,
    show (fun k => k0_pay4 (iblk m c 0 t) (outsAt0 m c t.val t.isLt).2.2.2 (ix2 y0 k)) = _ from funext fun k => last_first m c t h1 y0 k]
  refine congrArg₂ (fun i j => norm (first _ _ _ _ _ i) (gainNext m c) j) (Fin.ext ?_) (Fin.ext ?_)
  · show t.val / 11 * 512 + y0 = win0_7.index t 0 * 512 + 1 * (y0 : Nat)
    omega
  · show (y1 : Nat) = win0_7.index t 1 * 2048 + 1 * (y1 : Nat)
    omega

theorem final0 : (dats m 0 c).arrAt 6 cfg0.N = out0 m c :=
  (dats m 0 c).arrAt_eq_of_cover 6 _ (fun t hf => flushed6_eq m c t hf) (fun i => (covered_iff6 i).2 (by
    have h0 : (i 0).val < 8704 := (i 0).isLt
    have h1 : (i 1).val < 2048 := (i 1).isLt
    omega))

theorem final1 : (dats m 0 c).arrAt 7 cfg0.N = out1 m c :=
  (dats m 0 c).arrAt_eq_of_cover 7 _ (fun t hf => flushed7_eq m c t hf) (fun i => (covered_iff7 i).2 (by
    have h0 : (i 0).val < 8704 := (i 0).isLt
    have h1 : (i 1).val < 2048 := (i 1).isLt
    omega))

/-- The claim: over the extended reals both programs leave `x + half * down (silu (h w1) * (h w3))` and its norm. -/
theorem algebraic : Cert.algebraic_Kernel2Ideal_Reference2Ideal := by
  intro m g m' g' _ hargs
  refine ⟨out0 m, out1 m, ?_, ?_⟩
  · exact (θ_run defs _ _).mono (fun r h c => ⟨(h c).1.trans ((final6 m c).symm.trans (final0 m c)),
      (h c).2.1.trans ((final7 m c).symm.trans (final1 m c)), (h c).2.2⟩) (run m g)
  · refine (θ_run Cert.Reference2Ideal.defs _ _).mono (fun r h c => ⟨(h c).1.trans ?_, (h c).2.1.trans ?_, (h c).2.2⟩) (reference m' g')
    · obtain ⟨e0, e1, e2, e3, e4, e5⟩ := hargs c
      rw [e0, e1, e2, e3, e4]
      rfl
    · obtain ⟨e0, e1, e2, e3, e4, e5⟩ := hargs c
      rw [e0, e1, e2, e3, e4, e5]
      rfl

end Cert.Ffn

end
-- ==== Proof.Fox.Runs.lean ====
module

public import proofs.«01_k».proof.Proof.Gen.Kernel.Skeleton
public import proofs.«01_k».proof.Proof.Fox.Tables

/-! The body of the attention call run once for each of the four kinds of point: the first point, the first block of keys
of a row, the diagonal block and a block between. -/

@[expose] public section

set_option maxRecDepth 16384

set_option Elab.async false

noncomputable section

namespace Cert.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The block of queries and the block of keys that the two tables hold for a point. -/
abbrev queryWord (i : grid0.Coords) (T : S136.Idx → Elt Bits .i32) := View.readAt (Elt Bits) (tbM0_0).view (Rect.unit (s := S136) (k0_off1 i) S1.size (k0_off1_inb i)).toLoadRect T (Shape.Idx.first (numel1_S1.symm ▸ Nat.one_pos))
abbrev keyWord (i : grid0.Coords) (T : S136.Idx → Elt Bits .i32) := View.readAt (Elt Bits) (tbM0_1).view (Rect.unit (s := S136) (k0_off1 i) S1.size (k0_off1_inb i)).toLoadRect T (Shape.Idx.first (numel1_S1.symm ▸ Nat.one_pos))

abbrev VO0_6 : View sig .tc .vmem S1x1024x512 .bf16 := (Memref.whole cc0_stg6_0 : Memref sig .tc .vmem S1x1024x512 .bf16).view

set_option backward.proofsInPublic true in
set_option maxHeartbeats 8000000 in

noncomputable def kernelRun0_A (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Bits .i32)) (T1 : (S136.Idx → Elt Bits .i32))
     (x0 : (S1x1024x512.Idx → Elt Bits .bf16)) (x1 : (S512x1024.Idx → Elt Bits .bf16)) (x2 : (S1x1024x512.Idx → Elt Bits .bf16)) (x3 : (S8x512x128.Idx → Elt Bits .f32)) (x4 : (S512x512.Idx → Elt Bits .f32)) (x5 : (S8.Idx → Elt Bits .f32)) (hc0 : (Scalar.cmpi .ne (Scalar.extui (Scalar.cmpi .eq (keyWord i T1) 0#32)) 0#32) = 1#1) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) :
    Σ' (out0 : List (View.Piece (Elt Bits) S1x1024x512 .bf16)) (out1 : Buf (Elt Bits) ((c : Thread nD τ).loc cc0_scratch0)) (out2 : Buf (Elt Bits) ((c : Thread nD τ).loc cc0_scratch1)) (out3 : Buf (Elt Bits) ((c : Thread nD τ).loc cc0_scratch2)) (out4 : Buf (Elt Bits) ((c : Thread nD τ).loc cc0_scratch3)), { out5 : Buf (Elt Bits) ((c : Thread nD τ).loc cc0_scratch4) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (xa4 : Buf (Elt Bits) ((c : Thread nD τ).loc cc0_scratch4)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)
              ∗ (scM0_4.view.loc (c : Thread nD τ) ↦{fullShare} out5)) -∗ K ⟨⟩))
          ⊢ wp frame (wpE (defs₀ (F := Bits)) Variants.none c none) Set.univ (cc0_attn_prompt_fox i tbM0_0 (Memref.isWhole_whole _) tbM0_1 (Memref.isWhole_whole _) arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _)) K } :=
  ⟨_, _, _, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (xa4 : Buf (Elt Bits) ((c : Thread nD τ).loc cc0_scratch4)) K => by
    unfold owns
    rw [cc0_attn_prompt_fox_eq_skeleton]; unfold cc0_attn_prompt_fox_skel
    iintro ⟨H0, H1, H2, H3, H4, H5, HT0, HT1, ⟨%d6, %f6, -, HO6⟩, HS0, HS1, HS2, HS3, HS4, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    isplitl [HS2]; · iexact HS2
    isplitl [HS3]; · iexact HS3
    iexact HS4⟩

theorem cover0_A_6 (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Bits .i32)) (T1 : (S136.Idx → Elt Bits .i32))
     (x0 : (S1x1024x512.Idx → Elt Bits .bf16)) (x1 : (S512x1024.Idx → Elt Bits .bf16)) (x2 : (S1x1024x512.Idx → Elt Bits .bf16)) (x3 : (S8x512x128.Idx → Elt Bits .f32)) (x4 : (S512x512.Idx → Elt Bits .f32)) (x5 : (S8.Idx → Elt Bits .f32)) (hc0 : (Scalar.cmpi .ne (Scalar.extui (Scalar.cmpi .eq (keyWord i T1) 0#32)) 0#32) = 1#1) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) (y : S1x1024x512.Idx) :
    ∃ pc ∈ (kernelRun0_A c i arg3 harg3 arg4 harg4 arg5 harg5 arg6 harg6 arg7 harg7 arg8 harg8 arg9 harg9 T0 T1 x0 x1 x2 x3 x4 x5 hc0 hc1 hc2 k0_h4).1, y ∈ pc.1.set :=
  View.cover_of_tiledL (kernelRun0_A c i arg3 harg3 arg4 harg4 arg5 harg5 arg6 harg6 arg7 harg7 arg8 harg8 arg9 harg9 T0 T1 x0 x1 x2 x3 x4 x5 hc0 hc1 hc2 k0_h4).1 S1x128x512.size (by sl_kernel_rfl) y

def out0_A_6 (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Bits .i32)) (T1 : (S136.Idx → Elt Bits .i32))
     (x0 : (S1x1024x512.Idx → Elt Bits .bf16)) (x1 : (S512x1024.Idx → Elt Bits .bf16)) (x2 : (S1x1024x512.Idx → Elt Bits .bf16)) (x3 : (S8x512x128.Idx → Elt Bits .f32)) (x4 : (S512x512.Idx → Elt Bits .f32)) (x5 : (S8.Idx → Elt Bits .f32)) (hc0 : (Scalar.cmpi .ne (Scalar.extui (Scalar.cmpi .eq (keyWord i T1) 0#32)) 0#32) = 1#1) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) : (S1x1024x512.Idx → Elt Bits .bf16) :=
  VO0_6.read (Elt Bits) (VO0_6.writes (Elt Bits) VO0_6.junk (kernelRun0_A c i arg3 harg3 arg4 harg4 arg5 harg5 arg6 harg6 arg7 harg7 arg8 harg8 arg9 harg9 T0 T1 x0 x1 x2 x3 x4 x5 hc0 hc1 hc2 k0_h4).1)

set_option backward.proofsInPublic true in
set_option maxHeartbeats 8000000 in

noncomputable def kernelRun0_B (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Bits .i32)) (T1 : (S136.Idx → Elt Bits .i32))
     (x0 : (S1x1024x512.Idx → Elt Bits .bf16)) (x1 : (S512x1024.Idx → Elt Bits .bf16)) (x2 : (S1x1024x512.Idx → Elt Bits .bf16)) (x3 : (S8x512x128.Idx → Elt Bits .f32)) (x4 : (S512x512.Idx → Elt Bits .f32)) (x5 : (S8.Idx → Elt Bits .f32)) (hc0 : (Scalar.cmpi .ne (Scalar.extui (Scalar.cmpi .eq (keyWord i T1) 0#32)) 0#32) = 1#1) (hc1 : ¬((Scalar.cmpi .ne (Scalar.extui (Scalar.cmpi .slt (Scalar.subi (queryWord i T0) (keyWord i T1)) 1#32)) 0#32) = 1#1)) (hc2 : (Scalar.cmpi .ne (Scalar.extui (Scalar.cmpi .sge (Scalar.subi (queryWord i T0) (keyWord i T1)) 1#32)) 0#32) = 1#1) (k0_h4 : ¬(k0_cond4 (queryWord i T0) (keyWord i T1) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)) (out3 : Buf (Elt Bits) ((c : Thread nD τ).loc cc0_scratch3)), { out4 : Buf (Elt Bits) ((c : Thread nD τ).loc cc0_scratch4) //
      ∀ (y6 : (S1x1024x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (xa4 : Buf (Elt Bits) ((c : Thread nD τ).loc cc0_scratch4)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ owns (c : Thread nD τ) arg9 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ owns (c : Thread nD τ) arg9 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)
              ∗ (scM0_4.view.loc (c : Thread nD τ) ↦{fullShare} out4)) -∗ K ⟨⟩))
          ⊢ wp frame (wpE (defs₀ (F := Bits)) Variants.none c none) Set.univ (cc0_attn_prompt_fox i tbM0_0 (Memref.isWhole_whole _) tbM0_1 (Memref.isWhole_whole _) arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _)) K } :=
  ⟨_, _, _, _, _, fun (y6 : (S1x1024x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (xa4 : Buf (Elt Bits) ((c : Thread nD τ).loc cc0_scratch4)) K => by
    unfold owns
    rw [cc0_attn_prompt_fox_eq_skeleton]; unfold cc0_attn_prompt_fox_skel
    iintro ⟨H0, H1, H2, H3, H4, H5, HT0, HT1, ⟨%f6, %hf6, HO6⟩, HS0, HS1, HS2, HS3, HS4, Hk⟩
    obtain rfl := harg9.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg9.read_unread _
      iexact HO6
    isplitl [HS0]; · iexact HS0
    isplitl [HS1]; · iexact HS1
    isplitl [HS2]; · iexact HS2
    isplitl [HS3]; · iexact HS3
    iexact HS4⟩

set_option backward.proofsInPublic true in
set_option maxHeartbeats 8000000 in

noncomputable def kernelRun0_C (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Bits .i32)) (T1 : (S136.Idx → Elt Bits .i32))
     (x0 : (S1x1024x512.Idx → Elt Bits .bf16)) (x1 : (S512x1024.Idx → Elt Bits .bf16)) (x2 : (S1x1024x512.Idx → Elt Bits .bf16)) (x3 : (S8x512x128.Idx → Elt Bits .f32)) (x4 : (S512x512.Idx → Elt Bits .f32)) (x5 : (S8.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (keyWord i T1) 0#32)) 0#32) = 1#1)) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) :
    Σ' (out0 : List (View.Piece (Elt Bits) S1x1024x512 .bf16)) (out1 : Buf (Elt Bits) ((c : Thread nD τ).loc cc0_scratch0)) (out2 : Buf (Elt Bits) ((c : Thread nD τ).loc cc0_scratch1)) (out3 : Buf (Elt Bits) ((c : Thread nD τ).loc cc0_scratch2)) (out4 : Buf (Elt Bits) ((c : Thread nD τ).loc cc0_scratch3)), { out5 : Buf (Elt Bits) ((c : Thread nD τ).loc cc0_scratch4) //
      ∀ (xa3 : Buf (Elt Bits) ((c : Thread nD τ).loc cc0_scratch3)) (xa4 : Buf (Elt Bits) ((c : Thread nD τ).loc cc0_scratch4)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)
              ∗ (scM0_4.view.loc (c : Thread nD τ) ↦{fullShare} out5)) -∗ K ⟨⟩))
          ⊢ wp frame (wpE (defs₀ (F := Bits)) Variants.none c none) Set.univ (cc0_attn_prompt_fox i tbM0_0 (Memref.isWhole_whole _) tbM0_1 (Memref.isWhole_whole _) arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _)) K } :=
  ⟨_, _, _, _, _, _, fun (xa3 : Buf (Elt Bits) ((c : Thread nD τ).loc cc0_scratch3)) (xa4 : Buf (Elt Bits) ((c : Thread nD τ).loc cc0_scratch4)) K => by
    unfold owns
    rw [cc0_attn_prompt_fox_eq_skeleton]; unfold cc0_attn_prompt_fox_skel
    iintro ⟨H0, H1, H2, H3, H4, H5, HT0, HT1, ⟨%d6, %f6, -, HO6⟩, HS0, HS1, HS2, HS3, HS4, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    isplitl [HS2]; · iexact HS2
    isplitl [HS3]; · iexact HS3
    iexact HS4⟩

theorem cover0_C_6 (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Bits .i32)) (T1 : (S136.Idx → Elt Bits .i32))
     (x0 : (S1x1024x512.Idx → Elt Bits .bf16)) (x1 : (S512x1024.Idx → Elt Bits .bf16)) (x2 : (S1x1024x512.Idx → Elt Bits .bf16)) (x3 : (S8x512x128.Idx → Elt Bits .f32)) (x4 : (S512x512.Idx → Elt Bits .f32)) (x5 : (S8.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (keyWord i T1) 0#32)) 0#32) = 1#1)) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) (y : S1x1024x512.Idx) :
    ∃ pc ∈ (kernelRun0_C c i arg3 harg3 arg4 harg4 arg5 harg5 arg6 harg6 arg7 harg7 arg8 harg8 arg9 harg9 T0 T1 x0 x1 x2 x3 x4 x5 xa0 xa1 xa2 hc0 hc1 hc2 k0_h4).1, y ∈ pc.1.set :=
  View.cover_of_tiledL (kernelRun0_C c i arg3 harg3 arg4 harg4 arg5 harg5 arg6 harg6 arg7 harg7 arg8 harg8 arg9 harg9 T0 T1 x0 x1 x2 x3 x4 x5 xa0 xa1 xa2 hc0 hc1 hc2 k0_h4).1 S1x128x512.size (by sl_kernel_rfl) y

def out0_C_6 (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Bits .i32)) (T1 : (S136.Idx → Elt Bits .i32))
     (x0 : (S1x1024x512.Idx → Elt Bits .bf16)) (x1 : (S512x1024.Idx → Elt Bits .bf16)) (x2 : (S1x1024x512.Idx → Elt Bits .bf16)) (x3 : (S8x512x128.Idx → Elt Bits .f32)) (x4 : (S512x512.Idx → Elt Bits .f32)) (x5 : (S8.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (keyWord i T1) 0#32)) 0#32) = 1#1)) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) : (S1x1024x512.Idx → Elt Bits .bf16) :=
  VO0_6.read (Elt Bits) (VO0_6.writes (Elt Bits) VO0_6.junk (kernelRun0_C c i arg3 harg3 arg4 harg4 arg5 harg5 arg6 harg6 arg7 harg7 arg8 harg8 arg9 harg9 T0 T1 x0 x1 x2 x3 x4 x5 xa0 xa1 xa2 hc0 hc1 hc2 k0_h4).1)

set_option backward.proofsInPublic true in
set_option maxHeartbeats 8000000 in

noncomputable def kernelRun0_D (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Bits .i32)) (T1 : (S136.Idx → Elt Bits .i32))
     (x0 : (S1x1024x512.Idx → Elt Bits .bf16)) (x1 : (S512x1024.Idx → Elt Bits .bf16)) (x2 : (S1x1024x512.Idx → Elt Bits .bf16)) (x3 : (S8x512x128.Idx → Elt Bits .f32)) (x4 : (S512x512.Idx → Elt Bits .f32)) (x5 : (S8.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (keyWord i T1) 0#32)) 0#32) = 1#1)) (hc1 : ¬((Scalar.cmpi .ne (Scalar.extui (Scalar.cmpi .slt (Scalar.subi (queryWord i T0) (keyWord i T1)) 1#32)) 0#32) = 1#1)) (hc2 : (Scalar.cmpi .ne (Scalar.extui (Scalar.cmpi .sge (Scalar.subi (queryWord i T0) (keyWord i T1)) 1#32)) 0#32) = 1#1) (k0_h4 : ¬(k0_cond4 (queryWord i T0) (keyWord i T1) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)) (out3 : Buf (Elt Bits) ((c : Thread nD τ).loc cc0_scratch3)), { out4 : Buf (Elt Bits) ((c : Thread nD τ).loc cc0_scratch4) //
      ∀ (y6 : (S1x1024x512.Idx → Elt Bits .bf16)) (xa3 : Buf (Elt Bits) ((c : Thread nD τ).loc cc0_scratch3)) (xa4 : Buf (Elt Bits) ((c : Thread nD τ).loc cc0_scratch4)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ owns (c : Thread nD τ) arg9 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ owns (c : Thread nD τ) arg9 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)
              ∗ (scM0_4.view.loc (c : Thread nD τ) ↦{fullShare} out4)) -∗ K ⟨⟩))
          ⊢ wp frame (wpE (defs₀ (F := Bits)) Variants.none c none) Set.univ (cc0_attn_prompt_fox i tbM0_0 (Memref.isWhole_whole _) tbM0_1 (Memref.isWhole_whole _) arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _)) K } :=
  ⟨_, _, _, _, _, fun (y6 : (S1x1024x512.Idx → Elt Bits .bf16)) (xa3 : Buf (Elt Bits) ((c : Thread nD τ).loc cc0_scratch3)) (xa4 : Buf (Elt Bits) ((c : Thread nD τ).loc cc0_scratch4)) K => by
    unfold owns
    rw [cc0_attn_prompt_fox_eq_skeleton]; unfold cc0_attn_prompt_fox_skel
    iintro ⟨H0, H1, H2, H3, H4, H5, HT0, HT1, ⟨%f6, %hf6, HO6⟩, HS0, HS1, HS2, HS3, HS4, Hk⟩
    obtain rfl := harg9.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg9.read_unread _
      iexact HO6
    isplitl [HS0]; · iexact HS0
    isplitl [HS1]; · iexact HS1
    isplitl [HS2]; · iexact HS2
    isplitl [HS3]; · iexact HS3
    iexact HS4⟩

end Cert.Fox

end
-- ==== Proof.Fox.Points.lean ====
module

public import proofs.«01_k».proof.Proof.Fox.Inside

/-! The blocks and buffers of the attention call at a point of its grid, and what tells the four kinds of point apart. -/

@[expose] public section

set_option maxRecDepth 16384

set_option Elab.async false

noncomputable section

namespace Cert.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (ch : Fin 1)

theorem ok_pfN : ∀ ch : Fin 1, ok0 (F := Bits) (pfN ch) := fun ch => match ch with
  | ⟨0, _⟩ => ok_pfN_0
  | ⟨_ + 1, h⟩ => absurd h (by omega)

def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

abbrev crd (t : Fin (cfgA ch).N) : (cfgA ch).grid.Coords := (cfgA ch).grid.coords t

abbrev ms0_0 (t : Fin (cfgA ch).N) : Memref sig .tc .vmem S1x1024x512 .bf16 := spec0_0.stage ((cfgA ch).slots t (0 : Fin 7))
abbrev hs0_0 (t : Fin (cfgA ch).N) : (ms0_0 ch t).IsWhole := hstage0_0 (((cfgA ch).slots t (0 : Fin 7)).cast nbuf0_0)
abbrev ms0_1 (t : Fin (cfgA ch).N) : Memref sig .tc .vmem S512x1024 .bf16 := spec0_1.stage ((cfgA ch).slots t (1 : Fin 7))
abbrev hs0_1 (t : Fin (cfgA ch).N) : (ms0_1 ch t).IsWhole := hstage0_1 (((cfgA ch).slots t (1 : Fin 7)).cast nbuf0_1)
abbrev ms0_2 (t : Fin (cfgA ch).N) : Memref sig .tc .vmem S1x1024x512 .bf16 := spec0_2.stage ((cfgA ch).slots t (2 : Fin 7))
abbrev hs0_2 (t : Fin (cfgA ch).N) : (ms0_2 ch t).IsWhole := hstage0_2 (((cfgA ch).slots t (2 : Fin 7)).cast nbuf0_2)
abbrev ms0_3 (t : Fin (cfgA ch).N) : Memref sig .tc .vmem S8x512x128 .f32 := spec0_3.stage ((cfgA ch).slots t (3 : Fin 7))
abbrev hs0_3 (t : Fin (cfgA ch).N) : (ms0_3 ch t).IsWhole := hstage0_3 (((cfgA ch).slots t (3 : Fin 7)).cast nbuf0_3)
abbrev ms0_4 (t : Fin (cfgA ch).N) : Memref sig .tc .vmem S512x512 .f32 := spec0_4.stage ((cfgA ch).slots t (4 : Fin 7))
abbrev hs0_4 (t : Fin (cfgA ch).N) : (ms0_4 ch t).IsWhole := hstage0_4 (((cfgA ch).slots t (4 : Fin 7)).cast nbuf0_4)
abbrev ms0_5 (t : Fin (cfgA ch).N) : Memref sig .tc .smem S8 .f32 := spec0_5.stage ((cfgA ch).slots t (5 : Fin 7))
abbrev hs0_5 (t : Fin (cfgA ch).N) : (ms0_5 ch t).IsWhole := hstage0_5 (((cfgA ch).slots t (5 : Fin 7)).cast nbuf0_5)
abbrev ms0_6 (t : Fin (cfgA ch).N) : Memref sig .tc .vmem S1x1024x512 .bf16 := spec0_6.stage ((cfgA ch).slots t (6 : Fin 7))
abbrev hs0_6 (t : Fin (cfgA ch).N) : (ms0_6 ch t).IsWhole := hstage0_6 (((cfgA ch).slots t (6 : Fin 7)).cast nbuf0_6)

def iblk (c : Dev nD) (w : Fin (cfgA ch).W) (t : Fin (cfgA ch).N) : (((cfgA ch).win w).xblock (crd ch t)).Idx → Elt Bits ((cfgA ch).win w).elt :=
  (((cfgA ch).win w).blk t).view.read (Elt Bits) (mV m ρ (((cfgA ch).win w).arr.view.loc (c : Thread nD τ)))

abbrev P0_0 (t : Fin (cfgA ch).N) : Prop := (Scalar.cmpi .ne (Scalar.extui (Scalar.cmpi .eq (View.readAt (Elt Bits) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .slt (Scalar.subi (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1

def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

def sfirst0_0 (ch : Fin 1) : ℕ := 0
def sfrTab0_0 : ℕ → Bool := fun n => decide (n ≤ sfirst0_0 ch)

def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

def sfirst0_1 (ch : Fin 1) : ℕ := 0
def sfrTab0_1 : ℕ → Bool := fun n => decide (n ≤ sfirst0_1 ch)

def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

def sfirst0_2 (ch : Fin 1) : ℕ := 0
def sfrTab0_2 : ℕ → Bool := fun n => decide (n ≤ sfirst0_2 ch)

def sfresh0_3 : ℕ → Bool
  | 0 => true
  | n + 1 => if h : n < (cfgA ch).N then (if P0_0 ch ⟨n, h⟩ then (if P0_1 ch ⟨n, h⟩ then false else false) else (if P0_1 ch ⟨n, h⟩ then false else false)) else true

def sfirst0_3 (ch : Fin 1) : ℕ := 0
def sfrTab0_3 : ℕ → Bool := fun n => decide (n ≤ sfirst0_3 ch)

def sfresh0_4 : ℕ → Bool
  | 0 => true
  | n + 1 => if h : n < (cfgA ch).N then (if P0_0 ch ⟨n, h⟩ then (if P0_1 ch ⟨n, h⟩ then false else false) else (if P0_1 ch ⟨n, h⟩ then false else false)) else true

def sfirst0_4 (ch : Fin 1) : ℕ := 0
def sfrTab0_4 : ℕ → Bool := fun n => decide (n ≤ sfirst0_4 ch)

set_option backward.proofsInPublic true in

def frMask0_6 : Fin 1 → ℕ
  | ⟨0, _⟩ => 0xffffffffffffffffffffffffffffffffff
  | ⟨_ + 1, h⟩ => absurd h (by omega)

def frTab0_6 : ℕ → Bool
  | 0 => true
  | n + 1 => (frMask0_6 ch).testBit n

end Cert.Fox

end
-- ==== Proof.Fox.Decisions.lean ====
module

public import proofs.«01_k».proof.Proof.Fox.Points

/-! What is decided of every point of the grid: which kind it is, and what is written back after it. -/

@[expose] public section

set_option maxRecDepth 16384

set_option Elab.async false

noncomputable section

namespace Cert.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (ch : Fin 1)
variable (m : (ℓ : Loc nD τ sig) → Buf (Elt Bits) ℓ) (ρ : Dev nD → PrngReg)

abbrev FactsAt (ch : Fin 1) (t : Fin (cfgA ch).N) : Prop :=

  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (sfrTab0_3 ch (t.val + 1) = (if P0_0 ch t then (if P0_1 ch t then false else false) else (if P0_1 ch t then false else false)))
  ∧ (sfrTab0_4 ch (t.val + 1) = (if P0_0 ch t then (if P0_1 ch t then false else false) else (if P0_1 ch t then false else false)))
  ∧ (frTab0_6 ch (t.val + 1) = (((cfgA ch).win (6 : Fin 7)).flush t || ((cfgA ch).idle (6 : Fin 7) ((cfgA ch).grid.coords t) && frTab0_6 ch t.val)))
  ∧ (P0_0 ch t → P0_1 ch t → ((Scalar.cmpi .ne (Scalar.extui (Scalar.cmpi .eq (View.readAt (Elt Bits) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (Scalar.subi (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1) ∧ ((¬((Scalar.cmpi .ne (Scalar.extui (Scalar.cmpi .sge (Scalar.subi (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1)) ∧ ((k0_cond4 (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos))) = 1#1) ∧ (True)))))
  ∧ (P0_0 ch t → P0_1 ch t → (cfgA ch).idle (6 : Fin 7) ((cfgA ch).grid.coords t) = false ∧ ((cfgA ch).win (6 : Fin 7)).flush t = true ∧ frTab0_6 ch t.val = true ∧ sfrTab0_0 ch t.val = true ∧ sfrTab0_0 ch (t.val + 1) = false ∧ sfrTab0_1 ch t.val = true ∧ sfrTab0_1 ch (t.val + 1) = false ∧ sfrTab0_2 ch t.val = true ∧ sfrTab0_2 ch (t.val + 1) = false ∧ sfrTab0_3 ch t.val = true ∧ sfrTab0_3 ch (t.val + 1) = false ∧ sfrTab0_4 ch t.val = true ∧ sfrTab0_4 ch (t.val + 1) = false)
  ∧ (P0_0 ch t → ¬P0_1 ch t → ((Scalar.cmpi .ne (Scalar.extui (Scalar.cmpi .eq (View.readAt (Elt Bits) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (Scalar.subi (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1)) ∧ (((Scalar.cmpi .ne (Scalar.extui (Scalar.cmpi .sge (Scalar.subi (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1) ∧ ((¬(k0_cond4 (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos))) = 1#1)) ∧ (True)))))
  ∧ (P0_0 ch t → ¬P0_1 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)
  ∧ (¬P0_0 ch t → P0_1 ch t → (¬((Scalar.cmpi .ne (Scalar.extui (Scalar.cmpi .eq (View.readAt (Elt Bits) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (Scalar.subi (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1) ∧ ((¬((Scalar.cmpi .ne (Scalar.extui (Scalar.cmpi .sge (Scalar.subi (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1)) ∧ ((k0_cond4 (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos))) = 1#1) ∧ (True)))))
  ∧ (¬P0_0 ch t → P0_1 ch t → (cfgA ch).idle (6 : Fin 7) ((cfgA ch).grid.coords t) = false ∧ ((cfgA ch).win (6 : Fin 7)).flush t = true ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)
  ∧ (¬P0_0 ch t → ¬P0_1 ch t → (¬((Scalar.cmpi .ne (Scalar.extui (Scalar.cmpi .eq (View.readAt (Elt Bits) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (Scalar.subi (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1)) ∧ (((Scalar.cmpi .ne (Scalar.extui (Scalar.cmpi .sge (Scalar.subi (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1) ∧ ((¬(k0_cond4 (View.readAt (Elt Bits) (tbM0_0).view (Rect.unit (s := S136) (k0_off1 (crd ch t)) S1.size (k0_off1_inb (crd ch t))).toLoadRect (pinT_0 ch) (Shape.Idx.first (numel1_S1.symm ▸ Nat.one_pos))) (View.readAt (Elt Bits) (tbM0_1).view (Rect.unit (s := S136) (k0_off1 (crd ch t)) S1.size (k0_off1_inb (crd ch t))).toLoadRect (pinT_1 ch) (Shape.Idx.first (numel1_S1.symm ▸ Nat.one_pos))) = 1#1)) ∧ (True)))))
  ∧ (¬P0_0 ch t → ¬P0_1 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))))

end Cert.Fox

end
-- ==== Proof.Fox.lean ====
module

public import proofs.«01_k».proof.Proof.Fox.Body

/-! The launch of the attention call: the program's own steps before it, the call, and what every array holds after it. -/

@[expose] public section

set_option maxRecDepth 16384

set_option Elab.async false

noncomputable section

namespace Cert.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (ch : Fin 1)
variable (m : (ℓ : Loc nD τ sig) → Buf (Elt Bits) ℓ) (ρ : Dev nD → PrngReg)

def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩, ⟨%a3, HS3⟩, ⟨%a4, HS4⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HS4]
  · iexists a4; isplitr; swap
    · iexact HS4
    · ipureintro; intro h; exact absurd (h.symm.trans (show sfresh0_4 ch 0 = true from rfl)) Bool.false_ne_true
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, ⟨%a4, -, HS4⟩, -, -⟩
  isplitr; · iempintro
  isplitl [HS0]
  · iexists a0; iexact HS0
  isplitl [HS1]
  · iexists a1; iexact HS1
  isplitl [HS2]
  · iexists a2; iexact HS2
  isplitl [HS3]
  · iexists a3; iexact HS3
  iexists a4; iexact HS4

/-- The arrays the call does not touch, of which the arguments are kept. -/
def kept (c : Dev nD) : sProp 𝕄 :=
  iprop((((c : Thread nD τ).loc main_arg0) ↦{fullShare} mV m ρ ((c : Thread nD τ).loc main_arg0))
    ∗ (((c : Thread nD τ).loc main_arg2) ↦{fullShare} mV m ρ ((c : Thread nD τ).loc main_arg2)))

/-- What holds after the run: each array of the call at its computed contents, and the other arguments as before. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ (r.2.mem ((c : Thread nD τ).loc main_arg0) = mV m ρ ((c : Thread nD τ).loc main_arg0)
      ∧ r.2.mem ((c : Thread nD τ).loc main_arg2) = mV m ρ ((c : Thread nD τ).loc main_arg2))

theorem table0 : (fun i => lit0 (S136.rowMajor i)) = pinT_0 ch :=
  funext fun i => (by decide +kernel : ∀ i : S136.Idx, lit0 (S136.rowMajor i) = pinT_0 0 i) i

theorem table1 : (fun i => lit1 (S136.rowMajor i)) = pinT_1 ch :=
  funext fun i => (by decide +kernel : ∀ i : S136.Idx, lit1 (S136.rowMajor i) = pinT_1 0 i) i

theorem mV_c (c : Dev nD) : mV m ρ ((c : Thread nD τ).loc main_c) = fun i => lit0 (S136.rowMajor i) := by
  show StableHlo.after _ (fun b => m (c, b)) main_c = _
  dsimp only [hostOps0, hostOps0_1, hostOps0_2, List.flatten, List.append_eq, List.cons_append, List.nil_append]
  after_results
  rfl

theorem mV_c_0 (c : Dev nD) : mV m ρ ((c : Thread nD τ).loc main_c_0) = fun i => lit1 (S136.rowMajor i) := by
  show StableHlo.after _ (fun b => m (c, b)) main_c_0 = _
  dsimp only [hostOps0, hostOps0_1, hostOps0_2, List.flatten, List.append_eq, List.cons_append, List.nil_append]
  after_results
  rfl

theorem V_pre (c : Dev nD) (j : Fin 2) : mV m ρ ((c : Thread nD τ).loc (pre0.ref j)) = (adm ch).1 j := by
  fin_cases j
  · exact (mV_c m ρ c).trans (table0 ch)
  · exact (mV_c_0 m ρ c).trans (table1 ch)

theorem hsub : [hostOps0 (F := Bits), hostOps0_1, hostOps0_2].Forall fun ops => ops.Forall fun op => op.bufs ⊆ StableHlo.tcRefs τ sig :=
  ⟨hostOps0_sub, hostOps0_1_sub, hostOps0_2_sub⟩

theorem hfresh : [hostOps0 (F := Bits), hostOps0_1, hostOps0_2].Forall fun ops => ops.Forall fun op => op.fresh = ∅ := by
  refine ⟨?_, ?_, ?_⟩ <;> · simp only [hostOps0, hostOps0_1, hostOps0_2, List.Forall]; repeat' constructor

set_option backward.isDefEq.respectTransparency.types false in
set_option maxHeartbeats 4000000 in
/-- Every fair run ends, with the arrays as computed and every counter at zero. -/
theorem run : θ_run (defs (F := Bits)) (onTc (τ := τ) (main (F := Bits))) ⟨m, fun _ => 0, ρ⟩ (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => mV m ρ ((c : Thread nD τ).loc b))
    (hmain := Pipeline.hmainP_prefixes pcfgs (0 : Fin 1) defs₀ Variants.none m main [hostOps0, hostOps0_1, hostOps0_2] hsub hfresh (fun c => main_chain c))
    (hsplit := fun c => Pipeline.arrays_split (pcs ch) (dats ch m ρ) 0 (launch0 (F := Bits)).win.arr_inj c (launch0 (F := Bits)).arr_whole
      (share_eq ch m ρ c) _ _ fun _ => rfl)
    (hpf := V_pre ch m ρ)
    (X := fun _ => iprop(emp)) (Y := fun _ => iprop(emp)) (Z := kept m ρ)
    (hX := fun c => by
      rw [unscopedRestP0_eq]; unfold kept
      iintro ⟨H0, H2, -⟩
      isplitr; · iempintro
      isplitl [H0] <;> iassumption)
    (hin := phi0_intro ch m ρ)
    (hout := phiN_exit ch m ρ)
    (QY := fun c s => s.mem ((c : Thread nD τ).loc main_arg0) = mV m ρ ((c : Thread nD τ).loc main_arg0)
      ∧ s.mem ((c : Thread nD τ).loc main_arg2) = mV m ρ ((c : Thread nD τ).loc main_arg2))
    (hY := fun c s' => by
      unfold kept
      iintro ⟨-, ⟨H0, H2⟩, HSI⟩
      icombine HSI H0 gives %h0
      icombine HSI H2 gives %h2
      imodintro
      isplitr; · ipureintro; exact ⟨Buf.eq_of_forall_mem_univ h0, Buf.eq_of_forall_mem_univ h2⟩
      iexact HSI)
    (hQ := fun _ h hz => ⟨fun c => ⟨(h c).1, (h c).2.2⟩, hz⟩)

theorem mV_arg (c : Dev nD) : mV m ρ ((c : Thread nD τ).loc main_arg0) = m ((c : Thread nD τ).loc main_arg0)
    ∧ mV m ρ ((c : Thread nD τ).loc main_arg1) = m ((c : Thread nD τ).loc main_arg1)
    ∧ mV m ρ ((c : Thread nD τ).loc main_arg2) = m ((c : Thread nD τ).loc main_arg2)
    ∧ mV m ρ ((c : Thread nD τ).loc main_arg3) = m ((c : Thread nD τ).loc main_arg3) := by
  refine ⟨?_, ?_, ?_, ?_⟩
  · show StableHlo.after _ (fun b => m (c, b)) main_arg0 = _
    dsimp only [hostOps0, hostOps0_1, hostOps0_2, List.flatten, List.append_eq, List.cons_append, List.nil_append]
    after_results
  · show StableHlo.after _ (fun b => m (c, b)) main_arg1 = _
    dsimp only [hostOps0, hostOps0_1, hostOps0_2, List.flatten, List.append_eq, List.cons_append, List.nil_append]
    after_results
  · show StableHlo.after _ (fun b => m (c, b)) main_arg2 = _
    dsimp only [hostOps0, hostOps0_1, hostOps0_2, List.flatten, List.append_eq, List.cons_append, List.nil_append]
    after_results
  · show StableHlo.after _ (fun b => m (c, b)) main_arg3 = _
    dsimp only [hostOps0, hostOps0_1, hostOps0_2, List.flatten, List.append_eq, List.cons_append, List.nil_append]
    after_results

/-- The call runs to its end without a fault, its arguments end as they began, and every counter reads zero. -/
theorem frame : Cert.quiescent_Kernel := fun m ρ _ =>
  (θ_run defs _ _).mono (fun _ h => ⟨fun c => by
    obtain ⟨h0, h1, h2, h3⟩ := mV_arg m ρ c
    exact ⟨((h.1 c).2.1).trans h0,
      (((h.1 c).1 (1 : Fin 7)).trans ((dats 0 m ρ 0 c).arrAt_in (1 : Fin 7) rfl _)).trans h1,
      ((h.1 c).2.2).trans h2,
      (((h.1 c).1 (3 : Fin 7)).trans ((dats 0 m ρ 0 c).arrAt_in (3 : Fin 7) rfl _)).trans h3⟩, h.2⟩) (run 0 m ρ)

end Cert.Fox

end
-- ==== Proof.FoxIdeal.Tables.lean ====
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The two tables the attention call is steered by: for each point of the grid, the block of queries and the block of
keys it works on. -/

@[expose] public section

set_option maxRecDepth 16384

set_option Elab.async false

noncomputable section

namespace Cert.FoxIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev tbM0_0 : Memref sig .tc .smem S136 .i32 := Memref.whole main_c
abbrev tbM0_1 : Memref sig .tc .smem S136 .i32 := Memref.whole main_c_0
abbrev scM0_0 : Memref sig .tc .vmem S8x1x512 .f32 := Memref.whole cc0_scratch0
abbrev scM0_1 : Memref sig .tc .vmem S8x1x512 .f32 := Memref.whole cc0_scratch1
abbrev scM0_2 : Memref sig .tc .vmem S1024x512 .f32 := Memref.whole cc0_scratch2
abbrev scM0_3 : Memref sig .tc .vmem S8x512x512 .f32 := Memref.whole cc0_scratch3
abbrev scM0_4 : Memref sig .tc .vmem S8x1x512 .f32 := Memref.whole cc0_scratch4

variable (ch : Fin 1)

def pinT_0 (ch : Fin 1) : S136.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32, 8#32, 8#32, 8#32, 8#32, 8#32, 8#32, 8#32, 8#32, 8#32, 9#32, 9#32, 9#32, 9#32, 9#32, 9#32, 9#32, 9#32, 9#32, 9#32, 10#32, 10#32, 10#32, 10#32, 10#32, 10#32, 10#32, 10#32, 10#32, 10#32, 10#32, 11#32, 11#32, 11#32, 11#32, 11#32, 11#32, 11#32, 11#32, 11#32, 11#32, 11#32, 11#32, 12#32, 12#32, 12#32, 12#32, 12#32, 12#32, 12#32, 12#32, 12#32, 12#32, 12#32, 12#32, 12#32, 13#32, 13#32, 13#32, 13#32, 13#32, 13#32, 13#32, 13#32, 13#32, 13#32, 13#32, 13#32, 13#32, 13#32, 14#32, 14#32, 14#32, 14#32, 14#32, 14#32, 14#32, 14#32, 14#32, 14#32, 14#32, 14#32, 14#32, 14#32, 14#32, 15#32, 15#32, 15#32, 15#32, 15#32, 15#32, 15#32, 15#32, 15#32, 15#32, 15#32, 15#32, 15#32, 15#32, 15#32, 15#32] : List (BitVec 32)).getD ((x 0).val) 0#32)

def pinT_1 (ch : Fin 1) : S136.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32, 0#32, 1#32, 2#32, 3#32, 4#32, 5#32, 6#32, 7#32, 8#32, 0#32, 1#32, 2#32, 3#32, 4#32, 5#32, 6#32, 7#32, 8#32, 9#32, 0#32, 1#32, 2#32, 3#32, 4#32, 5#32, 6#32, 7#32, 8#32, 9#32, 10#32, 0#32, 1#32, 2#32, 3#32, 4#32, 5#32, 6#32, 7#32, 8#32, 9#32, 10#32, 11#32, 0#32, 1#32, 2#32, 3#32, 4#32, 5#32, 6#32, 7#32, 8#32, 9#32, 10#32, 11#32, 12#32, 0#32, 1#32, 2#32, 3#32, 4#32, 5#32, 6#32, 7#32, 8#32, 9#32, 10#32, 11#32, 12#32, 13#32, 0#32, 1#32, 2#32, 3#32, 4#32, 5#32, 6#32, 7#32, 8#32, 9#32, 10#32, 11#32, 12#32, 13#32, 14#32, 0#32, 1#32, 2#32, 3#32, 4#32, 5#32, 6#32, 7#32, 8#32, 9#32, 10#32, 11#32, 12#32, 13#32, 14#32, 15#32] : List (BitVec 32)).getD ((x 0).val) 0#32)

set_option backward.proofsInPublic true in

def pfN : pre0.Contents (Elt Ideal) := fun | ⟨0, _⟩ => pinT_0 ch | ⟨1, _⟩ => pinT_1 ch | ⟨_ + 2, h⟩ => absurd h (by simp)

theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- What the arrays hold when the attention call begins: the program's own steps before it have run. -/
def mV (m : (ℓ : Loc nD τ sig) → Buf (Elt Ideal) ℓ) (ρ : Dev nD → PrngReg) : (ℓ : Loc nD τ sig) → Buf (Elt Ideal) ℓ := fun ℓ =>
  StableHlo.after [hostOps0, hostOps0_1, hostOps0_2].flatten (fun b => m (ℓ.1, b)) ℓ.2

end Cert.FoxIdeal

end
-- ==== Proof.FoxIdeal.Runs.lean ====
module

public import proofs.«01_k».proof.Proof.Gen.KernelIdeal.Skeleton
public import proofs.«01_k».proof.Proof.FoxIdeal.Tables

/-! The body of the attention call run once for each of the four kinds of point: the first point, the first block of keys
of a row, the diagonal block and a block between. -/

@[expose] public section

set_option maxRecDepth 16384

set_option Elab.async false

noncomputable section

namespace Cert.FoxIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The block of queries and the block of keys that the two tables hold for a point. -/
abbrev queryWord (i : grid0.Coords) (T : S136.Idx → Elt Ideal .i32) := View.readAt (Elt Ideal) (tbM0_0).view (Rect.unit (s := S136) (k0_off1 i) S1.size (k0_off1_inb i)).toLoadRect T (Shape.Idx.first (numel1_S1.symm ▸ Nat.one_pos))
abbrev keyWord (i : grid0.Coords) (T : S136.Idx → Elt Ideal .i32) := View.readAt (Elt Ideal) (tbM0_1).view (Rect.unit (s := S136) (k0_off1 i) S1.size (k0_off1_inb i)).toLoadRect T (Shape.Idx.first (numel1_S1.symm ▸ Nat.one_pos))

abbrev VO0_6 : View sig .tc .vmem S1x1024x512 .bf16 := (Memref.whole cc0_stg6_0 : Memref sig .tc .vmem S1x1024x512 .bf16).view

set_option backward.proofsInPublic true in
set_option maxHeartbeats 8000000 in

noncomputable def kernelRun0_A (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Ideal .i32)) (T1 : (S136.Idx → Elt Ideal .i32))
     (x0 : (S1x1024x512.Idx → Elt Ideal .bf16)) (x1 : (S512x1024.Idx → Elt Ideal .bf16)) (x2 : (S1x1024x512.Idx → Elt Ideal .bf16)) (x3 : (S8x512x128.Idx → Elt Ideal .f32)) (x4 : (S512x512.Idx → Elt Ideal .f32)) (x5 : (S8.Idx → Elt Ideal .f32)) (hc0 : (Scalar.cmpi .ne (Scalar.extui (Scalar.cmpi .eq (keyWord i T1) 0#32)) 0#32) = 1#1) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) :
    Σ' (out0 : List (View.Piece (Elt Ideal) S1x1024x512 .bf16)) (out1 : Buf (Elt Ideal) ((c : Thread nD τ).loc cc0_scratch0)) (out2 : Buf (Elt Ideal) ((c : Thread nD τ).loc cc0_scratch1)) (out3 : Buf (Elt Ideal) ((c : Thread nD τ).loc cc0_scratch2)) (out4 : Buf (Elt Ideal) ((c : Thread nD τ).loc cc0_scratch3)), { out5 : Buf (Elt Ideal) ((c : Thread nD τ).loc cc0_scratch4) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)
              ∗ (scM0_4.view.loc (c : Thread nD τ) ↦{fullShare} out5)) -∗ K ⟨⟩))
          ⊢ wp frame (wpE (defs₀ (F := Ideal)) Variants.none c none) Set.univ (cc0_attn_prompt_fox i tbM0_0 (Memref.isWhole_whole _) tbM0_1 (Memref.isWhole_whole _) arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _)) K } :=
  ⟨_, _, _, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) K => by
    unfold owns
    rw [cc0_attn_prompt_fox_eq_skeleton]; unfold cc0_attn_prompt_fox_skel
    iintro ⟨H0, H1, H2, H3, H4, H5, HT0, HT1, ⟨%d6, %f6, -, HO6⟩, HS0, HS1, HS2, HS3, HS4, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    isplitl [HS2]; · iexact HS2
    isplitl [HS3]; · iexact HS3
    iexact HS4⟩

theorem cover0_A_6 (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Ideal .i32)) (T1 : (S136.Idx → Elt Ideal .i32))
     (x0 : (S1x1024x512.Idx → Elt Ideal .bf16)) (x1 : (S512x1024.Idx → Elt Ideal .bf16)) (x2 : (S1x1024x512.Idx → Elt Ideal .bf16)) (x3 : (S8x512x128.Idx → Elt Ideal .f32)) (x4 : (S512x512.Idx → Elt Ideal .f32)) (x5 : (S8.Idx → Elt Ideal .f32)) (hc0 : (Scalar.cmpi .ne (Scalar.extui (Scalar.cmpi .eq (keyWord i T1) 0#32)) 0#32) = 1#1) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) (y : S1x1024x512.Idx) :
    ∃ pc ∈ (kernelRun0_A c i arg3 harg3 arg4 harg4 arg5 harg5 arg6 harg6 arg7 harg7 arg8 harg8 arg9 harg9 T0 T1 x0 x1 x2 x3 x4 x5 hc0 hc1 hc2 k0_h4).1, y ∈ pc.1.set :=
  View.cover_of_tiledL (kernelRun0_A c i arg3 harg3 arg4 harg4 arg5 harg5 arg6 harg6 arg7 harg7 arg8 harg8 arg9 harg9 T0 T1 x0 x1 x2 x3 x4 x5 hc0 hc1 hc2 k0_h4).1 S1x128x512.size (by sl_kernel_rfl) y

def out0_A_6 (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Ideal .i32)) (T1 : (S136.Idx → Elt Ideal .i32))
     (x0 : (S1x1024x512.Idx → Elt Ideal .bf16)) (x1 : (S512x1024.Idx → Elt Ideal .bf16)) (x2 : (S1x1024x512.Idx → Elt Ideal .bf16)) (x3 : (S8x512x128.Idx → Elt Ideal .f32)) (x4 : (S512x512.Idx → Elt Ideal .f32)) (x5 : (S8.Idx → Elt Ideal .f32)) (hc0 : (Scalar.cmpi .ne (Scalar.extui (Scalar.cmpi .eq (keyWord i T1) 0#32)) 0#32) = 1#1) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) : (S1x1024x512.Idx → Elt Ideal .bf16) :=
  VO0_6.read (Elt Ideal) (VO0_6.writes (Elt Ideal) VO0_6.junk (kernelRun0_A c i arg3 harg3 arg4 harg4 arg5 harg5 arg6 harg6 arg7 harg7 arg8 harg8 arg9 harg9 T0 T1 x0 x1 x2 x3 x4 x5 hc0 hc1 hc2 k0_h4).1)

set_option backward.proofsInPublic true in
set_option maxHeartbeats 8000000 in

noncomputable def kernelRun0_B (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Ideal .i32)) (T1 : (S136.Idx → Elt Ideal .i32))
     (x0 : (S1x1024x512.Idx → Elt Ideal .bf16)) (x1 : (S512x1024.Idx → Elt Ideal .bf16)) (x2 : (S1x1024x512.Idx → Elt Ideal .bf16)) (x3 : (S8x512x128.Idx → Elt Ideal .f32)) (x4 : (S512x512.Idx → Elt Ideal .f32)) (x5 : (S8.Idx → Elt Ideal .f32)) (hc0 : (Scalar.cmpi .ne (Scalar.extui (Scalar.cmpi .eq (keyWord i T1) 0#32)) 0#32) = 1#1) (hc1 : ¬((Scalar.cmpi .ne (Scalar.extui (Scalar.cmpi .slt (Scalar.subi (queryWord i T0) (keyWord i T1)) 1#32)) 0#32) = 1#1)) (hc2 : (Scalar.cmpi .ne (Scalar.extui (Scalar.cmpi .sge (Scalar.subi (queryWord i T0) (keyWord i T1)) 1#32)) 0#32) = 1#1) (k0_h4 : ¬(k0_cond4 (queryWord i T0) (keyWord i T1) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)) (out3 : Buf (Elt Ideal) ((c : Thread nD τ).loc cc0_scratch3)), { out4 : Buf (Elt Ideal) ((c : Thread nD τ).loc cc0_scratch4) //
      ∀ (y6 : (S1x1024x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ owns (c : Thread nD τ) arg9 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ owns (c : Thread nD τ) arg9 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)
              ∗ (scM0_4.view.loc (c : Thread nD τ) ↦{fullShare} out4)) -∗ K ⟨⟩))
          ⊢ wp frame (wpE (defs₀ (F := Ideal)) Variants.none c none) Set.univ (cc0_attn_prompt_fox i tbM0_0 (Memref.isWhole_whole _) tbM0_1 (Memref.isWhole_whole _) arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _)) K } :=
  ⟨_, _, _, _, _, fun (y6 : (S1x1024x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) K => by
    unfold owns
    rw [cc0_attn_prompt_fox_eq_skeleton]; unfold cc0_attn_prompt_fox_skel
    iintro ⟨H0, H1, H2, H3, H4, H5, HT0, HT1, ⟨%f6, %hf6, HO6⟩, HS0, HS1, HS2, HS3, HS4, Hk⟩
    obtain rfl := harg9.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg9.read_unread _
      iexact HO6
    isplitl [HS0]; · iexact HS0
    isplitl [HS1]; · iexact HS1
    isplitl [HS2]; · iexact HS2
    isplitl [HS3]; · iexact HS3
    iexact HS4⟩

set_option backward.proofsInPublic true in
set_option maxHeartbeats 8000000 in

noncomputable def kernelRun0_C (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Ideal .i32)) (T1 : (S136.Idx → Elt Ideal .i32))
     (x0 : (S1x1024x512.Idx → Elt Ideal .bf16)) (x1 : (S512x1024.Idx → Elt Ideal .bf16)) (x2 : (S1x1024x512.Idx → Elt Ideal .bf16)) (x3 : (S8x512x128.Idx → Elt Ideal .f32)) (x4 : (S512x512.Idx → Elt Ideal .f32)) (x5 : (S8.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (keyWord i T1) 0#32)) 0#32) = 1#1)) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) :
    Σ' (out0 : List (View.Piece (Elt Ideal) S1x1024x512 .bf16)) (out1 : Buf (Elt Ideal) ((c : Thread nD τ).loc cc0_scratch0)) (out2 : Buf (Elt Ideal) ((c : Thread nD τ).loc cc0_scratch1)) (out3 : Buf (Elt Ideal) ((c : Thread nD τ).loc cc0_scratch2)) (out4 : Buf (Elt Ideal) ((c : Thread nD τ).loc cc0_scratch3)), { out5 : Buf (Elt Ideal) ((c : Thread nD τ).loc cc0_scratch4) //
      ∀ (xa3 : Buf (Elt Ideal) ((c : Thread nD τ).loc cc0_scratch3)) (xa4 : Buf (Elt Ideal) ((c : Thread nD τ).loc cc0_scratch4)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)
              ∗ (scM0_4.view.loc (c : Thread nD τ) ↦{fullShare} out5)) -∗ K ⟨⟩))
          ⊢ wp frame (wpE (defs₀ (F := Ideal)) Variants.none c none) Set.univ (cc0_attn_prompt_fox i tbM0_0 (Memref.isWhole_whole _) tbM0_1 (Memref.isWhole_whole _) arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _)) K } :=
  ⟨_, _, _, _, _, _, fun (xa3 : Buf (Elt Ideal) ((c : Thread nD τ).loc cc0_scratch3)) (xa4 : Buf (Elt Ideal) ((c : Thread nD τ).loc cc0_scratch4)) K => by
    unfold owns
    rw [cc0_attn_prompt_fox_eq_skeleton]; unfold cc0_attn_prompt_fox_skel
    iintro ⟨H0, H1, H2, H3, H4, H5, HT0, HT1, ⟨%d6, %f6, -, HO6⟩, HS0, HS1, HS2, HS3, HS4, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    isplitl [HS2]; · iexact HS2
    isplitl [HS3]; · iexact HS3
    iexact HS4⟩

theorem cover0_C_6 (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Ideal .i32)) (T1 : (S136.Idx → Elt Ideal .i32))
     (x0 : (S1x1024x512.Idx → Elt Ideal .bf16)) (x1 : (S512x1024.Idx → Elt Ideal .bf16)) (x2 : (S1x1024x512.Idx → Elt Ideal .bf16)) (x3 : (S8x512x128.Idx → Elt Ideal .f32)) (x4 : (S512x512.Idx → Elt Ideal .f32)) (x5 : (S8.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (keyWord i T1) 0#32)) 0#32) = 1#1)) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) (y : S1x1024x512.Idx) :
    ∃ pc ∈ (kernelRun0_C c i arg3 harg3 arg4 harg4 arg5 harg5 arg6 harg6 arg7 harg7 arg8 harg8 arg9 harg9 T0 T1 x0 x1 x2 x3 x4 x5 xa0 xa1 xa2 hc0 hc1 hc2 k0_h4).1, y ∈ pc.1.set :=
  View.cover_of_tiledL (kernelRun0_C c i arg3 harg3 arg4 harg4 arg5 harg5 arg6 harg6 arg7 harg7 arg8 harg8 arg9 harg9 T0 T1 x0 x1 x2 x3 x4 x5 xa0 xa1 xa2 hc0 hc1 hc2 k0_h4).1 S1x128x512.size (by sl_kernel_rfl) y

def out0_C_6 (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Ideal .i32)) (T1 : (S136.Idx → Elt Ideal .i32))
     (x0 : (S1x1024x512.Idx → Elt Ideal .bf16)) (x1 : (S512x1024.Idx → Elt Ideal .bf16)) (x2 : (S1x1024x512.Idx → Elt Ideal .bf16)) (x3 : (S8x512x128.Idx → Elt Ideal .f32)) (x4 : (S512x512.Idx → Elt Ideal .f32)) (x5 : (S8.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (keyWord i T1) 0#32)) 0#32) = 1#1)) (hc1 : (Scalar.cmpi .ne (Scalar.extui (Scalar.cmpi .slt (Scalar.subi (queryWord i T0) (keyWord i T1)) 1#32)) 0#32) = 1#1) (hc2 : ¬((Scalar.cmpi .ne (Scalar.extui (Scalar.cmpi .sge (Scalar.subi (queryWord i T0) (keyWord i T1)) 1#32)) 0#32) = 1#1)) (k0_h4 : k0_cond4 (queryWord i T0) (keyWord i T1) = 1#1) : (S1x1024x512.Idx → Elt Ideal .bf16) :=
  VO0_6.read (Elt Ideal) (VO0_6.writes (Elt Ideal) VO0_6.junk (kernelRun0_C c i arg3 harg3 arg4 harg4 arg5 harg5 arg6 harg6 arg7 harg7 arg8 harg8 arg9 harg9 T0 T1 x0 x1 x2 x3 x4 x5 xa0 xa1 xa2 hc0 hc1 hc2 k0_h4).1)

set_option backward.proofsInPublic true in
set_option maxHeartbeats 8000000 in

noncomputable def kernelRun0_D (c : Dev nD) (i : grid0.Coords) (arg3 : Memref sig .tc .vmem S1x1024x512 .bf16) (harg3 : arg3.IsWhole) (arg4 : Memref sig .tc .vmem S512x1024 .bf16) (harg4 : arg4.IsWhole) (arg5 : Memref sig .tc .vmem S1x1024x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .smem S8 .f32) (harg8 : arg8.IsWhole) (arg9 : Memref sig .tc .vmem S1x1024x512 .bf16) (harg9 : arg9.IsWhole) (T0 : (S136.Idx → Elt Ideal .i32)) (T1 : (S136.Idx → Elt Ideal .i32))
     (x0 : (S1x1024x512.Idx → Elt Ideal .bf16)) (x1 : (S512x1024.Idx → Elt Ideal .bf16)) (x2 : (S1x1024x512.Idx → Elt Ideal .bf16)) (x3 : (S8x512x128.Idx → Elt Ideal .f32)) (x4 : (S512x512.Idx → Elt Ideal .f32)) (x5 : (S8.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (keyWord i T1) 0#32)) 0#32) = 1#1)) (hc1 : ¬((Scalar.cmpi .ne (Scalar.extui (Scalar.cmpi .slt (Scalar.subi (queryWord i T0) (keyWord i T1)) 1#32)) 0#32) = 1#1)) (hc2 : (Scalar.cmpi .ne (Scalar.extui (Scalar.cmpi .sge (Scalar.subi (queryWord i T0) (keyWord i T1)) 1#32)) 0#32) = 1#1) (k0_h4 : ¬(k0_cond4 (queryWord i T0) (keyWord i T1) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)) (out3 : Buf (Elt Ideal) ((c : Thread nD τ).loc cc0_scratch3)), { out4 : Buf (Elt Ideal) ((c : Thread nD τ).loc cc0_scratch4) //
      ∀ (y6 : (S1x1024x512.Idx → Elt Ideal .bf16)) (xa3 : Buf (Elt Ideal) ((c : Thread nD τ).loc cc0_scratch3)) (xa4 : Buf (Elt Ideal) ((c : Thread nD τ).loc cc0_scratch4)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ owns (c : Thread nD τ) arg9 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ owns (c : Thread nD τ) arg9 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)
              ∗ (scM0_4.view.loc (c : Thread nD τ) ↦{fullShare} out4)) -∗ K ⟨⟩))
          ⊢ wp frame (wpE (defs₀ (F := Ideal)) Variants.none c none) Set.univ (cc0_attn_prompt_fox i tbM0_0 (Memref.isWhole_whole _) tbM0_1 (Memref.isWhole_whole _) arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _)) K } :=
  ⟨_, _, _, _, _, fun (y6 : (S1x1024x512.Idx → Elt Ideal .bf16)) (xa3 : Buf (Elt Ideal) ((c : Thread nD τ).loc cc0_scratch3)) (xa4 : Buf (Elt Ideal) ((c : Thread nD τ).loc cc0_scratch4)) K => by
    unfold owns
    rw [cc0_attn_prompt_fox_eq_skeleton]; unfold cc0_attn_prompt_fox_skel
    iintro ⟨H0, H1, H2, H3, H4, H5, HT0, HT1, ⟨%f6, %hf6, HO6⟩, HS0, HS1, HS2, HS3, HS4, Hk⟩
    obtain rfl := harg9.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg9.read_unread _
      iexact HO6
    isplitl [HS0]; · iexact HS0
    isplitl [HS1]; · iexact HS1
    isplitl [HS2]; · iexact HS2
    isplitl [HS3]; · iexact HS3
    iexact HS4⟩

end Cert.FoxIdeal

end
-- ==== Proof.FoxIdeal.Inside.lean ====
module

public import proofs.«01_k».proof.Proof.FoxIdeal.Tables

/-! Every block the attention call reads or writes lies inside its array. -/

@[expose] public section

set_option maxRecDepth 16384

set_option Elab.async false

noncomputable section

namespace Cert.FoxIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN_0_0_inb : ∀ i : grid0.Coords, ∀ a, (cc0_transform_0 k0_off1_inb numel1_S1 (pfN (⟨0, by omega⟩ : Fin 1)) i a + 1) * S1x1024x512.size a ≤ S16x1024x512.size a := by decide +kernel
theorem ok_pfN_0_0 : (∀ i : grid0.Coords, ∃ h : (∀ a, (cc0_transform_0 k0_off1_inb numel1_S1 (pfN (⟨0, by omega⟩ : Fin 1)) i a + 1) * S1x1024x512.size a ≤ S16x1024x512.size a), EltTy.bits .bf16 = 32 ∨ (Rect.block (s := S16x1024x512) S1x1024x512.size (cc0_transform_0 k0_off1_inb numel1_S1 (pfN (⟨0, by omega⟩ : Fin 1)) i) h).WholeWords (EltTy.packing .bf16)) := fun i => ⟨ok_pfN_0_0_inb i, .inr (Affine.block_words_dvd (s := S16x1024x512) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S512x1024.size a ≤ S8704x1024.size a := by decide +kernel
theorem ok_pfN_0_1 : (∀ i : grid0.Coords, ∃ h : (∀ a, (cc0_transform_1 k0_off1_inb numel1_S1 (pfN (⟨0, by omega⟩ : Fin 1)) i a + 1) * S512x1024.size a ≤ S8704x1024.size a), EltTy.bits .bf16 = 32 ∨ (Rect.block (s := S8704x1024) S512x1024.size (cc0_transform_1 k0_off1_inb numel1_S1 (pfN (⟨0, by omega⟩ : Fin 1)) i) h).WholeWords (EltTy.packing .bf16)) := fun i => ⟨ok_pfN_0_1_inb i, .inr (Affine.block_words_dvd (s := S8704x1024) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S1x1024x512.size a ≤ S16x1024x512.size a := by decide +kernel
theorem ok_pfN_0_2 : (∀ i : grid0.Coords, ∃ h : (∀ a, (cc0_transform_2 k0_off1_inb numel1_S1 (pfN (⟨0, by omega⟩ : Fin 1)) i a + 1) * S1x1024x512.size a ≤ S16x1024x512.size a), EltTy.bits .bf16 = 32 ∨ (Rect.block (s := S16x1024x512) S1x1024x512.size (cc0_transform_2 k0_off1_inb numel1_S1 (pfN (⟨0, by omega⟩ : Fin 1)) i) h).WholeWords (EltTy.packing .bf16)) := fun i => ⟨ok_pfN_0_2_inb i, .inr (Affine.block_words_dvd (s := S16x1024x512) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S8x512x128.size a ≤ S8x8192x128.size a := by decide +kernel
theorem ok_pfN_0_3 : (∀ i : grid0.Coords, ∃ h : (∀ a, (cc0_transform_3 k0_off1_inb numel1_S1 (pfN (⟨0, by omega⟩ : Fin 1)) i a + 1) * S8x512x128.size a ≤ S8x8192x128.size a), EltTy.bits .f32 = 32 ∨ (Rect.block (s := S8x8192x128) S8x512x128.size (cc0_transform_3 k0_off1_inb numel1_S1 (pfN (⟨0, by omega⟩ : Fin 1)) i) h).WholeWords (EltTy.packing .f32)) := fun i => ⟨ok_pfN_0_3_inb i, .inl rfl⟩
theorem ok_pfN_0_4_inb : ∀ i : grid0.Coords, ∀ a, (cc0_transform_6 k0_off1_inb numel1_S1 (pfN (⟨0, by omega⟩ : Fin 1)) i a + 1) * S1x1024x512.size a ≤ S16x1024x512.size a := by decide +kernel
theorem ok_pfN_0_4 : (∀ i : grid0.Coords, ∃ h : (∀ a, (cc0_transform_6 k0_off1_inb numel1_S1 (pfN (⟨0, by omega⟩ : Fin 1)) i a + 1) * S1x1024x512.size a ≤ S16x1024x512.size a), EltTy.bits .bf16 = 32 ∨ (Rect.block (s := S16x1024x512) S1x1024x512.size (cc0_transform_6 k0_off1_inb numel1_S1 (pfN (⟨0, by omega⟩ : Fin 1)) i) h).WholeWords (EltTy.packing .bf16)) := fun i => ⟨ok_pfN_0_4_inb i, .inr (Affine.block_words_dvd (s := S16x1024x512) (p := EltTy.packing .bf16) (by decide) (by decide))⟩
theorem ok_pfN_0 : ok0 (F := Ideal) (pfN (⟨0, by omega⟩ : Fin 1)) := ⟨ok_pfN_0_0, ok_pfN_0_1, ok_pfN_0_2, ok_pfN_0_3, ok_pfN_0_4⟩

end Cert.FoxIdeal

end
-- ==== Proof.FoxIdeal.Points.lean ====
module

public import proofs.«01_k».proof.Proof.FoxIdeal.Inside

/-! The blocks and buffers of the attention call at a point of its grid, and what tells the four kinds of point apart. -/

@[expose] public section

set_option maxRecDepth 16384

set_option Elab.async false

noncomputable section

namespace Cert.FoxIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (ch : Fin 1)

theorem ok_pfN : ∀ ch : Fin 1, ok0 (F := Ideal) (pfN ch) := fun ch => match ch with
  | ⟨0, _⟩ => ok_pfN_0
  | ⟨_ + 1, h⟩ => absurd h (by omega)

def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

abbrev crd (t : Fin (cfgA ch).N) : (cfgA ch).grid.Coords := (cfgA ch).grid.coords t

abbrev ms0_0 (t : Fin (cfgA ch).N) : Memref sig .tc .vmem S1x1024x512 .bf16 := spec0_0.stage ((cfgA ch).slots t (0 : Fin 7))
abbrev hs0_0 (t : Fin (cfgA ch).N) : (ms0_0 ch t).IsWhole := hstage0_0 (((cfgA ch).slots t (0 : Fin 7)).cast nbuf0_0)
abbrev ms0_1 (t : Fin (cfgA ch).N) : Memref sig .tc .vmem S512x1024 .bf16 := spec0_1.stage ((cfgA ch).slots t (1 : Fin 7))
abbrev hs0_1 (t : Fin (cfgA ch).N) : (ms0_1 ch t).IsWhole := hstage0_1 (((cfgA ch).slots t (1 : Fin 7)).cast nbuf0_1)
abbrev ms0_2 (t : Fin (cfgA ch).N) : Memref sig .tc .vmem S1x1024x512 .bf16 := spec0_2.stage ((cfgA ch).slots t (2 : Fin 7))
abbrev hs0_2 (t : Fin (cfgA ch).N) : (ms0_2 ch t).IsWhole := hstage0_2 (((cfgA ch).slots t (2 : Fin 7)).cast nbuf0_2)
abbrev ms0_3 (t : Fin (cfgA ch).N) : Memref sig .tc .vmem S8x512x128 .f32 := spec0_3.stage ((cfgA ch).slots t (3 : Fin 7))
abbrev hs0_3 (t : Fin (cfgA ch).N) : (ms0_3 ch t).IsWhole := hstage0_3 (((cfgA ch).slots t (3 : Fin 7)).cast nbuf0_3)
abbrev ms0_4 (t : Fin (cfgA ch).N) : Memref sig .tc .vmem S512x512 .f32 := spec0_4.stage ((cfgA ch).slots t (4 : Fin 7))
abbrev hs0_4 (t : Fin (cfgA ch).N) : (ms0_4 ch t).IsWhole := hstage0_4 (((cfgA ch).slots t (4 : Fin 7)).cast nbuf0_4)
abbrev ms0_5 (t : Fin (cfgA ch).N) : Memref sig .tc .smem S8 .f32 := spec0_5.stage ((cfgA ch).slots t (5 : Fin 7))
abbrev hs0_5 (t : Fin (cfgA ch).N) : (ms0_5 ch t).IsWhole := hstage0_5 (((cfgA ch).slots t (5 : Fin 7)).cast nbuf0_5)
abbrev ms0_6 (t : Fin (cfgA ch).N) : Memref sig .tc .vmem S1x1024x512 .bf16 := spec0_6.stage ((cfgA ch).slots t (6 : Fin 7))
abbrev hs0_6 (t : Fin (cfgA ch).N) : (ms0_6 ch t).IsWhole := hstage0_6 (((cfgA ch).slots t (6 : Fin 7)).cast nbuf0_6)

def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) (mV m ρ (((cfgA ch).win w).arr.view.loc (c : Thread nD τ)))

abbrev P0_0 (t : Fin (cfgA ch).N) : Prop := (Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .slt (Scalar.subi (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1

def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

def sfirst0_0 (ch : Fin 1) : ℕ := 0
def sfrTab0_0 : ℕ → Bool := fun n => decide (n ≤ sfirst0_0 ch)

def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

def sfirst0_1 (ch : Fin 1) : ℕ := 0
def sfrTab0_1 : ℕ → Bool := fun n => decide (n ≤ sfirst0_1 ch)

def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

def sfirst0_2 (ch : Fin 1) : ℕ := 0
def sfrTab0_2 : ℕ → Bool := fun n => decide (n ≤ sfirst0_2 ch)

def sfresh0_3 : ℕ → Bool
  | 0 => true
  | n + 1 => if h : n < (cfgA ch).N then (if P0_0 ch ⟨n, h⟩ then (if P0_1 ch ⟨n, h⟩ then false else false) else (if P0_1 ch ⟨n, h⟩ then false else false)) else true

def sfirst0_3 (ch : Fin 1) : ℕ := 0
def sfrTab0_3 : ℕ → Bool := fun n => decide (n ≤ sfirst0_3 ch)

def sfresh0_4 : ℕ → Bool
  | 0 => true
  | n + 1 => if h : n < (cfgA ch).N then (if P0_0 ch ⟨n, h⟩ then (if P0_1 ch ⟨n, h⟩ then false else false) else (if P0_1 ch ⟨n, h⟩ then false else false)) else true

def sfirst0_4 (ch : Fin 1) : ℕ := 0
def sfrTab0_4 : ℕ → Bool := fun n => decide (n ≤ sfirst0_4 ch)

set_option backward.proofsInPublic true in

def frMask0_6 : Fin 1 → ℕ
  | ⟨0, _⟩ => 0xffffffffffffffffffffffffffffffffff
  | ⟨_ + 1, h⟩ => absurd h (by omega)

def frTab0_6 : ℕ → Bool
  | 0 => true
  | n + 1 => (frMask0_6 ch).testBit n

end Cert.FoxIdeal

end
-- ==== Proof.FoxIdeal.Decisions.lean ====
module

public import proofs.«01_k».proof.Proof.FoxIdeal.Points

/-! What is decided of every point of the grid: which kind it is, and what is written back after it. -/

@[expose] public section

set_option maxRecDepth 16384

set_option Elab.async false

noncomputable section

namespace Cert.FoxIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (ch : Fin 1)
variable (m : (ℓ : Loc nD τ sig) → Buf (Elt Ideal) ℓ) (ρ : Dev nD → PrngReg)

abbrev FactsAt (ch : Fin 1) (t : Fin (cfgA ch).N) : Prop :=

  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (sfrTab0_3 ch (t.val + 1) = (if P0_0 ch t then (if P0_1 ch t then false else false) else (if P0_1 ch t then false else false)))
  ∧ (sfrTab0_4 ch (t.val + 1) = (if P0_0 ch t then (if P0_1 ch t then false else false) else (if P0_1 ch t then false else false)))
  ∧ (frTab0_6 ch (t.val + 1) = (((cfgA ch).win (6 : Fin 7)).flush t || ((cfgA ch).idle (6 : Fin 7) ((cfgA ch).grid.coords t) && frTab0_6 ch t.val)))
  ∧ (P0_0 ch t → P0_1 ch t → ((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (Scalar.subi (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1) ∧ ((¬((Scalar.cmpi .ne (Scalar.extui (Scalar.cmpi .sge (Scalar.subi (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1)) ∧ ((k0_cond4 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ (True)))))
  ∧ (P0_0 ch t → P0_1 ch t → (cfgA ch).idle (6 : Fin 7) ((cfgA ch).grid.coords t) = false ∧ ((cfgA ch).win (6 : Fin 7)).flush t = true ∧ frTab0_6 ch t.val = true ∧ sfrTab0_0 ch t.val = true ∧ sfrTab0_0 ch (t.val + 1) = false ∧ sfrTab0_1 ch t.val = true ∧ sfrTab0_1 ch (t.val + 1) = false ∧ sfrTab0_2 ch t.val = true ∧ sfrTab0_2 ch (t.val + 1) = false ∧ sfrTab0_3 ch t.val = true ∧ sfrTab0_3 ch (t.val + 1) = false ∧ sfrTab0_4 ch t.val = true ∧ sfrTab0_4 ch (t.val + 1) = false)
  ∧ (P0_0 ch t → ¬P0_1 ch t → ((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (Scalar.subi (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1)) ∧ (((Scalar.cmpi .ne (Scalar.extui (Scalar.cmpi .sge (Scalar.subi (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1) ∧ ((¬(k0_cond4 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1)) ∧ (True)))))
  ∧ (P0_0 ch t → ¬P0_1 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)
  ∧ (¬P0_0 ch t → P0_1 ch t → (¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (Scalar.subi (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1) ∧ ((¬((Scalar.cmpi .ne (Scalar.extui (Scalar.cmpi .sge (Scalar.subi (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1)) ∧ ((k0_cond4 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ (True)))))
  ∧ (¬P0_0 ch t → P0_1 ch t → (cfgA ch).idle (6 : Fin 7) ((cfgA ch).grid.coords t) = false ∧ ((cfgA ch).win (6 : Fin 7)).flush t = true ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)
  ∧ (¬P0_0 ch t → ¬P0_1 ch t → (¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (Scalar.subi (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1)) ∧ (((Scalar.cmpi .ne (Scalar.extui (Scalar.cmpi .sge (Scalar.subi (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos)))) 1#32)) 0#32) = 1#1) ∧ ((¬(k0_cond4 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1)) ∧ (True)))))
  ∧ (¬P0_0 ch t → ¬P0_1 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))))

end Cert.FoxIdeal

end
-- ==== Proof.FoxIdeal.Every.lean ====
module

public import proofs.«01_k».proof.Proof.FoxIdeal.Decisions

/-! The decisions of `Decisions`, at each of the 136 points. -/

@[expose] public section

set_option maxRecDepth 16384

set_option Elab.async false

noncomputable section

namespace Cert.FoxIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem allFacts_0_0 : ∀ t : Fin (cfgA (⟨0, by omega⟩ : Fin 1)).N, 0 ≤ t.val → t.val < 17 → FactsAt (⟨0, by omega⟩ : Fin 1) t := by decide +kernel
theorem allFacts_0_1 : ∀ t : Fin (cfgA (⟨0, by omega⟩ : Fin 1)).N, 17 ≤ t.val → t.val < 34 → FactsAt (⟨0, by omega⟩ : Fin 1) t := by decide +kernel
theorem allFacts_0_2 : ∀ t : Fin (cfgA (⟨0, by omega⟩ : Fin 1)).N, 34 ≤ t.val → t.val < 51 → FactsAt (⟨0, by omega⟩ : Fin 1) t := by decide +kernel
theorem allFacts_0_3 : ∀ t : Fin (cfgA (⟨0, by omega⟩ : Fin 1)).N, 51 ≤ t.val → t.val < 68 → FactsAt (⟨0, by omega⟩ : Fin 1) t := by decide +kernel
theorem allFacts_0_4 : ∀ t : Fin (cfgA (⟨0, by omega⟩ : Fin 1)).N, 68 ≤ t.val → t.val < 85 → FactsAt (⟨0, by omega⟩ : Fin 1) t := by decide +kernel
theorem allFacts_0_5 : ∀ t : Fin (cfgA (⟨0, by omega⟩ : Fin 1)).N, 85 ≤ t.val → t.val < 102 → FactsAt (⟨0, by omega⟩ : Fin 1) t := by decide +kernel
theorem allFacts_0_6 : ∀ t : Fin (cfgA (⟨0, by omega⟩ : Fin 1)).N, 102 ≤ t.val → t.val < 119 → FactsAt (⟨0, by omega⟩ : Fin 1) t := by decide +kernel
theorem allFacts_0_7 : ∀ t : Fin (cfgA (⟨0, by omega⟩ : Fin 1)).N, 119 ≤ t.val → t.val < 136 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 17 with h1 | h1; · exact allFacts_0_0 t h0 h1
  rcases Nat.lt_or_ge t.val 34 with h2 | h2; · exact allFacts_0_1 t h1 h2
  rcases Nat.lt_or_ge t.val 51 with h3 | h3; · exact allFacts_0_2 t h2 h3
  rcases Nat.lt_or_ge t.val 68 with h4 | h4; · exact allFacts_0_3 t h3 h4
  rcases Nat.lt_or_ge t.val 85 with h5 | h5; · exact allFacts_0_4 t h4 h5
  rcases Nat.lt_or_ge t.val 102 with h6 | h6; · exact allFacts_0_5 t h5 h6
  rcases Nat.lt_or_ge t.val 119 with h7 | h7; · exact allFacts_0_6 t h6 h7
  exact allFacts_0_7 t h7 t.isLt

end Cert.FoxIdeal

end
-- ==== Proof.FoxIdeal.Body.lean ====
module

public import proofs.«01_k».proof.Proof.FoxIdeal.Runs
public import proofs.«01_k».proof.Proof.FoxIdeal.Every
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! What the running maximum, sum and product hold after each point, and the body at every point. -/

@[expose] public section

set_option maxRecDepth 16384

set_option Elab.async false

noncomputable section

namespace Cert.FoxIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (ch : Fin 1)
variable (m : (ℓ : Loc nD τ sig) → Buf (Elt Ideal) ℓ) (ρ : Dev nD → PrngReg)

theorem allFacts : ∀ (ch : Fin 1) (t : Fin (cfgA ch).N), FactsAt ch t := fun ch => match ch with
  | ⟨0, _⟩ => allFacts_0
  | ⟨_ + 1, h⟩ => absurd h (by omega)

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else sfrTab0_2 ch t.val)) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 1) (t : Fin (cfgA ch).N), sfrTab0_3 ch (t.val + 1) = (if P0_0 ch t then (if P0_1 ch t then false else false) else (if P0_1 ch t then false else false)) := fun ch t => (allFacts ch t).2.2.2.1
theorem sfresh0_3_eq : ∀ n, n ≤ (cfgA ch).N → sfresh0_3 ch n = sfrTab0_3 ch n
  | 0, _ => by simp only [sfresh0_3, sfrTab0_3, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem sfrTab0_4_step : ∀ (ch : Fin 1) (t : Fin (cfgA ch).N), sfrTab0_4 ch (t.val + 1) = (if P0_0 ch t then (if P0_1 ch t then false else false) else (if P0_1 ch t then false else false)) := fun ch t => (allFacts ch t).2.2.2.2.1
theorem sfresh0_4_eq : ∀ n, n ≤ (cfgA ch).N → sfresh0_4 ch n = sfrTab0_4 ch n
  | 0, _ => by simp only [sfresh0_4, sfrTab0_4, Nat.zero_le, decide_true]
  | n + 1, h => by simp only [sfresh0_4, dif_pos (show n < (cfgA ch).N from h), sfresh0_4_eq n (Nat.le_of_lt h), sfrTab0_4_step ch ⟨n, h⟩]
theorem sfreshF0_4 (t : Fin (cfgA ch).N) : sfresh0_4 ch t.val = sfrTab0_4 ch t.val := sfresh0_4_eq ch t.val (Nat.le_of_lt t.isLt)
theorem sfreshS0_4 (t : Fin (cfgA ch).N) : sfresh0_4 ch (t.val + 1) = sfrTab0_4 ch (t.val + 1) := sfresh0_4_eq ch (t.val + 1) t.isLt

theorem frTab0_6_step : ∀ (ch : Fin 1) (t : Fin (cfgA ch).N),
    frTab0_6 ch (t.val + 1) = (((cfgA ch).win (6 : Fin 7)).flush t || ((cfgA ch).idle (6 : Fin 7) ((cfgA ch).grid.coords t) && frTab0_6 ch t.val)) := fun ch t => (allFacts ch t).2.2.2.2.2.1
theorem freshF0_6 (t : Fin (cfgA ch).N) : (cfgA ch).fresh (6 : Fin 7) t.val = frTab0_6 ch t.val :=
  Pipeline.Cfg.fresh_tab (cfgA ch) (6 : Fin 7) (frTab0_6 ch) rfl (frTab0_6_step ch) t.val (Nat.le_of_lt t.isLt)

/-- What one point leaves to the next: the block of the result and the five buffers. -/
abbrev Carry (c : Dev nD) := (S1x1024x512.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4)

theorem hyps0_A : ∀ (ch : Fin 1) (t : Fin (cfgA ch).N), P0_0 ch t → P0_1 ch t →
    ((Scalar.cmpi .ne (Scalar.extui (Scalar.cmpi .eq (keyWord (crd ch t) (pinT_1 ch)) 0#32)) 0#32) = 1#1) ∧ (((Scalar.cmpi .ne (Scalar.extui (Scalar.cmpi .slt (Scalar.subi (queryWord (crd ch t) (pinT_0 ch)) (keyWord (crd ch t) (pinT_1 ch))) 1#32)) 0#32) = 1#1) ∧ ((¬((Scalar.cmpi .ne (Scalar.extui (Scalar.cmpi .sge (Scalar.subi (queryWord (crd ch t) (pinT_0 ch)) (keyWord (crd ch t) (pinT_1 ch))) 1#32)) 0#32) = 1#1)) ∧ ((k0_cond4 (queryWord (crd ch t) (pinT_0 ch)) (keyWord (crd ch t) (pinT_1 ch)) = 1#1) ∧ (True)))) := fun ch t => (allFacts ch t).2.2.2.2.2.2.1

theorem hypsR0_A : ∀ (ch : Fin 1) (t : Fin (cfgA ch).N), P0_0 ch t → P0_1 ch t →
    ((Scalar.cmpi .ne (Scalar.extui (Scalar.cmpi .eq (keyWord (crd ch t) (pinT_1 ch)) 0#32)) 0#32) = 1#1) ∧ (((Scalar.cmpi .ne (Scalar.extui (Scalar.cmpi .slt (Scalar.subi (queryWord (crd ch t) (pinT_0 ch)) (keyWord (crd ch t) (pinT_1 ch))) 1#32)) 0#32) = 1#1) ∧ ((¬((Scalar.cmpi .ne (Scalar.extui (Scalar.cmpi .sge (Scalar.subi (queryWord (crd ch t) (pinT_0 ch)) (keyWord (crd ch t) (pinT_1 ch))) 1#32)) 0#32) = 1#1)) ∧ ((k0_cond4 (queryWord (crd ch t) (pinT_0 ch)) (keyWord (crd ch t) (pinT_1 ch)) = 1#1) ∧ (True)))) := hyps0_A

theorem sched0_A : ∀ (ch : Fin 1) (t : Fin (cfgA ch).N), P0_0 ch t → P0_1 ch t →
    (cfgA ch).idle (6 : Fin 7) ((cfgA ch).grid.coords t) = false ∧ ((cfgA ch).win (6 : Fin 7)).flush t = true ∧ (cfgA ch).fresh (6 : Fin 7) t.val = true ∧ sfresh0_0 ch t.val = true ∧ sfresh0_0 ch (t.val + 1) = false ∧ sfresh0_1 ch t.val = true ∧ sfresh0_1 ch (t.val + 1) = false ∧ sfresh0_2 ch t.val = true ∧ sfresh0_2 ch (t.val + 1) = false ∧ sfresh0_3 ch t.val = true ∧ sfresh0_3 ch (t.val + 1) = false ∧ sfresh0_4 ch t.val = true ∧ sfresh0_4 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t]; exact (fun ch t => (allFacts ch t).2.2.2.2.2.2.2.1) ch t

theorem hyps0_B : ∀ (ch : Fin 1) (t : Fin (cfgA ch).N), P0_0 ch t → ¬P0_1 ch t →
    ((Scalar.cmpi .ne (Scalar.extui (Scalar.cmpi .eq (keyWord (crd ch t) (pinT_1 ch)) 0#32)) 0#32) = 1#1) ∧ ((¬((Scalar.cmpi .ne (Scalar.extui (Scalar.cmpi .slt (Scalar.subi (queryWord (crd ch t) (pinT_0 ch)) (keyWord (crd ch t) (pinT_1 ch))) 1#32)) 0#32) = 1#1)) ∧ (((Scalar.cmpi .ne (Scalar.extui (Scalar.cmpi .sge (Scalar.subi (queryWord (crd ch t) (pinT_0 ch)) (keyWord (crd ch t) (pinT_1 ch))) 1#32)) 0#32) = 1#1) ∧ ((¬(k0_cond4 (queryWord (crd ch t) (pinT_0 ch)) (keyWord (crd ch t) (pinT_1 ch)) = 1#1)) ∧ (True)))) := fun ch t => (allFacts ch t).2.2.2.2.2.2.2.2.1

theorem hypsR0_B : ∀ (ch : Fin 1) (t : Fin (cfgA ch).N), P0_0 ch t → ¬P0_1 ch t →
    ((Scalar.cmpi .ne (Scalar.extui (Scalar.cmpi .eq (keyWord (crd ch t) (pinT_1 ch)) 0#32)) 0#32) = 1#1) ∧ ((¬((Scalar.cmpi .ne (Scalar.extui (Scalar.cmpi .slt (Scalar.subi (queryWord (crd ch t) (pinT_0 ch)) (keyWord (crd ch t) (pinT_1 ch))) 1#32)) 0#32) = 1#1)) ∧ (((Scalar.cmpi .ne (Scalar.extui (Scalar.cmpi .sge (Scalar.subi (queryWord (crd ch t) (pinT_0 ch)) (keyWord (crd ch t) (pinT_1 ch))) 1#32)) 0#32) = 1#1) ∧ ((¬(k0_cond4 (queryWord (crd ch t) (pinT_0 ch)) (keyWord (crd ch t) (pinT_1 ch)) = 1#1)) ∧ (True)))) := hyps0_B

theorem sched0_B : ∀ (ch : Fin 1) (t : Fin (cfgA ch).N), P0_0 ch t → ¬P0_1 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t]; exact (fun ch t => (allFacts ch t).2.2.2.2.2.2.2.2.2.1) ch t

theorem hyps0_C : ∀ (ch : Fin 1) (t : Fin (cfgA ch).N), ¬P0_0 ch t → P0_1 ch t →
    (¬((Scalar.cmpi .ne (Scalar.extui (Scalar.cmpi .eq (keyWord (crd ch t) (pinT_1 ch)) 0#32)) 0#32) = 1#1)) ∧ (((Scalar.cmpi .ne (Scalar.extui (Scalar.cmpi .slt (Scalar.subi (queryWord (crd ch t) (pinT_0 ch)) (keyWord (crd ch t) (pinT_1 ch))) 1#32)) 0#32) = 1#1) ∧ ((¬((Scalar.cmpi .ne (Scalar.extui (Scalar.cmpi .sge (Scalar.subi (queryWord (crd ch t) (pinT_0 ch)) (keyWord (crd ch t) (pinT_1 ch))) 1#32)) 0#32) = 1#1)) ∧ ((k0_cond4 (queryWord (crd ch t) (pinT_0 ch)) (keyWord (crd ch t) (pinT_1 ch)) = 1#1) ∧ (True)))) := fun ch t => (allFacts ch t).2.2.2.2.2.2.2.2.2.2.1

theorem hypsR0_C : ∀ (ch : Fin 1) (t : Fin (cfgA ch).N), ¬P0_0 ch t → P0_1 ch t →
    (¬((Scalar.cmpi .ne (Scalar.extui (Scalar.cmpi .eq (keyWord (crd ch t) (pinT_1 ch)) 0#32)) 0#32) = 1#1)) ∧ (((Scalar.cmpi .ne (Scalar.extui (Scalar.cmpi .slt (Scalar.subi (queryWord (crd ch t) (pinT_0 ch)) (keyWord (crd ch t) (pinT_1 ch))) 1#32)) 0#32) = 1#1) ∧ ((¬((Scalar.cmpi .ne (Scalar.extui (Scalar.cmpi .sge (Scalar.subi (queryWord (crd ch t) (pinT_0 ch)) (keyWord (crd ch t) (pinT_1 ch))) 1#32)) 0#32) = 1#1)) ∧ ((k0_cond4 (queryWord (crd ch t) (pinT_0 ch)) (keyWord (crd ch t) (pinT_1 ch)) = 1#1) ∧ (True)))) := hyps0_C

theorem sched0_C : ∀ (ch : Fin 1) (t : Fin (cfgA ch).N), ¬P0_0 ch t → P0_1 ch t →
    (cfgA ch).idle (6 : Fin 7) ((cfgA ch).grid.coords t) = false ∧ ((cfgA ch).win (6 : Fin 7)).flush t = true ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t]; exact (fun ch t => (allFacts ch t).2.2.2.2.2.2.2.2.2.2.2.1) ch t

theorem hyps0_D : ∀ (ch : Fin 1) (t : Fin (cfgA ch).N), ¬P0_0 ch t → ¬P0_1 ch t →
    (¬((Scalar.cmpi .ne (Scalar.extui (Scalar.cmpi .eq (keyWord (crd ch t) (pinT_1 ch)) 0#32)) 0#32) = 1#1)) ∧ ((¬((Scalar.cmpi .ne (Scalar.extui (Scalar.cmpi .slt (Scalar.subi (queryWord (crd ch t) (pinT_0 ch)) (keyWord (crd ch t) (pinT_1 ch))) 1#32)) 0#32) = 1#1)) ∧ (((Scalar.cmpi .ne (Scalar.extui (Scalar.cmpi .sge (Scalar.subi (queryWord (crd ch t) (pinT_0 ch)) (keyWord (crd ch t) (pinT_1 ch))) 1#32)) 0#32) = 1#1) ∧ ((¬(k0_cond4 (queryWord (crd ch t) (pinT_0 ch)) (keyWord (crd ch t) (pinT_1 ch)) = 1#1)) ∧ (True)))) := fun ch t => (allFacts ch t).2.2.2.2.2.2.2.2.2.2.2.2.1

theorem hypsR0_D : ∀ (ch : Fin 1) (t : Fin (cfgA ch).N), ¬P0_0 ch t → ¬P0_1 ch t →
    (¬((Scalar.cmpi .ne (Scalar.extui (Scalar.cmpi .eq (keyWord (crd ch t) (pinT_1 ch)) 0#32)) 0#32) = 1#1)) ∧ ((¬((Scalar.cmpi .ne (Scalar.extui (Scalar.cmpi .slt (Scalar.subi (queryWord (crd ch t) (pinT_0 ch)) (keyWord (crd ch t) (pinT_1 ch))) 1#32)) 0#32) = 1#1)) ∧ (((Scalar.cmpi .ne (Scalar.extui (Scalar.cmpi .sge (Scalar.subi (queryWord (crd ch t) (pinT_0 ch)) (keyWord (crd ch t) (pinT_1 ch))) 1#32)) 0#32) = 1#1) ∧ ((¬(k0_cond4 (queryWord (crd ch t) (pinT_0 ch)) (keyWord (crd ch t) (pinT_1 ch)) = 1#1)) ∧ (True)))) := hyps0_D

theorem sched0_D : ∀ (ch : Fin 1) (t : Fin (cfgA ch).N), ¬P0_0 ch t → ¬P0_1 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t]; exact (fun ch t => (allFacts ch t).2.2.2.2.2.2.2.2.2.2.2.2.2) ch t

/-- The body at a point of kind A. -/
abbrev runA (c : Dev nD) (t : Fin (cfgA ch).N)  (q0 : P0_0 ch t) (q1 : P0_1 ch t) :=
  kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1).1 (hypsR0_A ch t q0 q1).2.1 (hypsR0_A ch t q0 q1).2.2.1 (hypsR0_A ch t q0 q1).2.2.2.1

/-- The body at a point of kind B. -/
abbrev runB (c : Dev nD) (t : Fin (cfgA ch).N)  (q0 : P0_0 ch t) (q1 : ¬P0_1 ch t) :=
  kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1).1 (hypsR0_B ch t q0 q1).2.1 (hypsR0_B ch t q0 q1).2.2.1 (hypsR0_B ch t q0 q1).2.2.2.1

/-- The body at a point of kind C. -/
abbrev runC (c : Dev nD) (t : Fin (cfgA ch).N) (prev : Carry c) (q0 : ¬P0_0 ch t) (q1 : P0_1 ch t) :=
  kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 (hypsR0_C ch t q0 q1).1 (hypsR0_C ch t q0 q1).2.1 (hypsR0_C ch t q0 q1).2.2.1 (hypsR0_C ch t q0 q1).2.2.2.1

/-- The body at a point of kind D. -/
abbrev runD (c : Dev nD) (t : Fin (cfgA ch).N) (prev : Carry c) (q0 : ¬P0_0 ch t) (q1 : ¬P0_1 ch t) :=
  kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 (hypsR0_D ch t q0 q1).1 (hypsR0_D ch t q0 q1).2.1 (hypsR0_D ch t q0 q1).2.2.1 (hypsR0_D ch t q0 q1).2.2.2.1

def step0 (c : Dev nD) (t : Fin (cfgA ch).N) (prev : Carry c) : Carry c :=
  if q0 : P0_0 ch t then
    if q1 : P0_1 ch t then
      (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1).1 (hypsR0_A ch t q0 q1).2.1 (hypsR0_A ch t q0 q1).2.2.1 (hypsR0_A ch t q0 q1).2.2.2.1, (runA ch m ρ c t q0 q1).2.1, (runA ch m ρ c t q0 q1).2.2.1, (runA ch m ρ c t q0 q1).2.2.2.1, (runA ch m ρ c t q0 q1).2.2.2.2.1, (runA ch m ρ c t q0 q1).2.2.2.2.2.1)
    else
      ((if (cfgA ch).fresh (6 : Fin 7) t.val then default else prev.1), (runB ch m ρ c t q0 q1).1, (runB ch m ρ c t q0 q1).2.1, (runB ch m ρ c t q0 q1).2.2.1, (runB ch m ρ c t q0 q1).2.2.2.1, (runB ch m ρ c t q0 q1).2.2.2.2.1)
  else
    if q1 : P0_1 ch t then
      (out0_C_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 (hypsR0_C ch t q0 q1).1 (hypsR0_C ch t q0 q1).2.1 (hypsR0_C ch t q0 q1).2.2.1 (hypsR0_C ch t q0 q1).2.2.2.1, (runC ch m ρ c t prev q0 q1).2.1, (runC ch m ρ c t prev q0 q1).2.2.1, (runC ch m ρ c t prev q0 q1).2.2.2.1, (runC ch m ρ c t prev q0 q1).2.2.2.2.1, (runC ch m ρ c t prev q0 q1).2.2.2.2.2.1)
    else
      ((if (cfgA ch).fresh (6 : Fin 7) t.val then default else prev.1), (runD ch m ρ c t prev q0 q1).1, (runD ch m ρ c t prev q0 q1).2.1, (runD ch m ρ c t prev q0 q1).2.2.1, (runD ch m ρ c t prev q0 q1).2.2.2.1, (runD ch m ρ c t prev q0 q1).2.2.2.2.1)

def traj0 (c : Dev nD) : (n : ℕ) → n < (cfgA ch).N → Carry c
  | 0, h => step0 ch m ρ c ⟨0, h⟩ (default, default, default, default, default, default)
  | n + 1, h => step0 ch m ρ c ⟨n + 1, h⟩ (traj0 c n (Nat.lt_of_succ_lt h))

def prev0 (c : Dev nD) (t : Fin (cfgA ch).N) : Carry c :=
  if h : t.val = 0 then (default, default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : Carry c) (q0 : P0_0 ch t) (q1 : P0_1 ch t) :
    step0 ch m ρ c t prev = (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1).1 (hypsR0_A ch t q0 q1).2.1 (hypsR0_A ch t q0 q1).2.2.1 (hypsR0_A ch t q0 q1).2.2.2.1, (runA ch m ρ c t q0 q1).2.1, (runA ch m ρ c t q0 q1).2.2.1, (runA ch m ρ c t q0 q1).2.2.2.1, (runA ch m ρ c t q0 q1).2.2.2.2.1, (runA ch m ρ c t q0 q1).2.2.2.2.2.1) := by
  unfold step0; simp only [dif_pos q0, dif_pos q1]

theorem step0_B (c : Dev nD) (t : Fin (cfgA ch).N) (prev : Carry c) (q0 : P0_0 ch t) (q1 : ¬P0_1 ch t) :
    step0 ch m ρ c t prev = ((if (cfgA ch).fresh (6 : Fin 7) t.val then default else prev.1), (runB ch m ρ c t q0 q1).1, (runB ch m ρ c t q0 q1).2.1, (runB ch m ρ c t q0 q1).2.2.1, (runB ch m ρ c t q0 q1).2.2.2.1, (runB ch m ρ c t q0 q1).2.2.2.2.1) := by
  unfold step0; simp only [dif_pos q0, dif_neg q1]

theorem step0_C (c : Dev nD) (t : Fin (cfgA ch).N) (prev : Carry c) (q0 : ¬P0_0 ch t) (q1 : P0_1 ch t) :
    step0 ch m ρ c t prev = (out0_C_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 (hypsR0_C ch t q0 q1).1 (hypsR0_C ch t q0 q1).2.1 (hypsR0_C ch t q0 q1).2.2.1 (hypsR0_C ch t q0 q1).2.2.2.1, (runC ch m ρ c t prev q0 q1).2.1, (runC ch m ρ c t prev q0 q1).2.2.1, (runC ch m ρ c t prev q0 q1).2.2.2.1, (runC ch m ρ c t prev q0 q1).2.2.2.2.1, (runC ch m ρ c t prev q0 q1).2.2.2.2.2.1) := by
  unfold step0; simp only [dif_neg q0, dif_pos q1]

theorem step0_D (c : Dev nD) (t : Fin (cfgA ch).N) (prev : Carry c) (q0 : ¬P0_0 ch t) (q1 : ¬P0_1 ch t) :
    step0 ch m ρ c t prev = ((if (cfgA ch).fresh (6 : Fin 7) t.val then default else prev.1), (runD ch m ρ c t prev q0 q1).1, (runD ch m ρ c t prev q0 q1).2.1, (runD ch m ρ c t prev q0 q1).2.2.1, (runD ch m ρ c t prev q0 q1).2.2.2.1, (runD ch m ρ c t prev q0 q1).2.2.2.2.1) := by
  unfold step0; simp only [dif_neg q0, dif_neg q1]

def prev0T (c : Dev nD) (t : Fin ((cfgA ch).N + 1)) : Carry c :=
  if h : t.val = 0 then (default, default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_3 ch t.val = false → a = (prev0T ch m ρ c t).2.2.2.2.1⌝ ∗ (scM0_3.view.loc (c : Thread nD τ) ↦{fullShare} a)) ∗ (∃ a, ⌜sfresh0_4 ch t.val = false → a = (prev0T ch m ρ c t).2.2.2.2.2⌝ ∗ (scM0_4.view.loc (c : Thread nD τ) ↦{fullShare} a)) ∗ (tbM0_0.view.loc (c : Thread nD τ) ↦{fullShare.right} pinT_0 ch) ∗ (tbM0_1.view.loc (c : Thread nD τ) ↦{fullShare.right} pinT_1 ch))

def dats (_ : Fin 1) (c : Dev nD) : Dat τ (Elt Ideal) Unit ℕ (UR sig nD τ) ℕ (cfgA ch) c where
  A w := mV m ρ (((cfgA ch).win w).arr.view.loc (c : Thread nD τ))
  after w t := match w with
    | ⟨0, _⟩ => iblk ch m ρ c (0 : Fin 7) t
    | ⟨1, _⟩ => iblk ch m ρ c (1 : Fin 7) t
    | ⟨2, _⟩ => iblk ch m ρ c (2 : Fin 7) t
    | ⟨3, _⟩ => iblk ch m ρ c (3 : Fin 7) t
    | ⟨4, _⟩ => iblk ch m ρ c (4 : Fin 7) t
    | ⟨5, _⟩ => iblk ch m ρ c (5 : Fin 7) t
    | ⟨6, _⟩ => (traj0 ch m ρ c t.val t.isLt).1
  Φ t := Phi ch m ρ c t
  q _ := fullShare
  owed _ := 0

theorem after0_0 (c : Dev nD) (t : Fin (cfgA ch).N) : (dats ch m ρ 0 c).after (0 : Fin 7) t = iblk ch m ρ c (0 : Fin 7) t := rfl
theorem after0_1 (c : Dev nD) (t : Fin (cfgA ch).N) : (dats ch m ρ 0 c).after (1 : Fin 7) t = iblk ch m ρ c (1 : Fin 7) t := rfl
theorem after0_2 (c : Dev nD) (t : Fin (cfgA ch).N) : (dats ch m ρ 0 c).after (2 : Fin 7) t = iblk ch m ρ c (2 : Fin 7) t := rfl
theorem after0_3 (c : Dev nD) (t : Fin (cfgA ch).N) : (dats ch m ρ 0 c).after (3 : Fin 7) t = iblk ch m ρ c (3 : Fin 7) t := rfl
theorem after0_4 (c : Dev nD) (t : Fin (cfgA ch).N) : (dats ch m ρ 0 c).after (4 : Fin 7) t = iblk ch m ρ c (4 : Fin 7) t := rfl
theorem after0_5 (c : Dev nD) (t : Fin (cfgA ch).N) : (dats ch m ρ 0 c).after (5 : Fin 7) t = iblk ch m ρ c (5 : Fin 7) t := rfl
theorem after0_6 (c : Dev nD) (t : Fin (cfgA ch).N) : (dats ch m ρ 0 c).after (6 : Fin 7) t = (traj0 ch m ρ c t.val t.isLt).1 := rfl

theorem before0_0 (c : Dev nD) (t : Fin (cfgA ch).N) (d) : (dats ch m ρ 0 c).before (0 : Fin 7) t d = iblk ch m ρ c (0 : Fin 7) t :=
  ((dats ch m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 7) t d = iblk ch m ρ c (1 : Fin 7) t :=
  ((dats ch m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 7) t d = iblk ch m ρ c (2 : Fin 7) t :=
  ((dats ch m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 7) t d = iblk ch m ρ c (3 : Fin 7) t :=
  ((dats ch m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA ch).N) (d) : (dats ch m ρ 0 c).before (4 : Fin 7) t d = iblk ch m ρ c (4 : Fin 7) t :=
  ((dats ch m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)

theorem before0_5 (c : Dev nD) (t : Fin (cfgA ch).N) (d) : (dats ch m ρ 0 c).before (5 : Fin 7) t d = iblk ch m ρ c (5 : Fin 7) t :=
  ((dats ch m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)

theorem hcarry0_6 (c : Dev nD) : ∀ (t : Fin (cfgA ch).N) (ht : t.val ≠ 0), (cfgA ch).idle (6 : Fin 7) ((cfgA ch).grid.coords t) = true → (cfgA ch).fresh (6 : Fin 7) t.val = false →
    (dats ch m ρ 0 c).after (6 : Fin 7) t = (dats ch m ρ 0 c).after (6 : Fin 7) ⟨t.val - 1, by omega⟩ := by
  intro t ht hi hf
  rw [after0_6, after0_6, traj0_eq]
  by_cases q0 : P0_0 ch t
  · by_cases q1 : P0_1 ch t
    · obtain ⟨i6, -, -, -, -, -, -, -, -, -, -, -, -⟩ := sched0_A ch t q0 q1
      rw [i6] at hi; exact absurd hi (by decide)
    · rw [step0_B ch m ρ c t _ q0 q1]
      simp only [hf, Bool.false_eq_true, ↓reduceIte]
      unfold prev0; rw [dif_neg ht]
  · by_cases q1 : P0_1 ch t
    · obtain ⟨i6, -, -, -, -, -, -, -, -, -, -, -, -⟩ := sched0_C ch t q0 q1
      rw [i6] at hi; exact absurd hi (by decide)
    · rw [step0_D ch m ρ c t _ q0 q1]
      simp only [hf, Bool.false_eq_true, ↓reduceIte]
      unfold prev0; rw [dif_neg ht]

theorem before0_6 (c : Dev nD) (t : Fin (cfgA ch).N) (d) :
    (dats ch m ρ 0 c).before (6 : Fin 7) t d = if (cfgA ch).fresh (6 : Fin 7) t.val then d else (prev0 ch m ρ c t).1 := by
  rw [(dats ch m ρ 0 c).before_out_traj (6 : Fin 7) rfl (fun _ _ => rfl) (hcarry0_6 ch m ρ c) t.val t rfl d]
  by_cases hf : (cfgA ch).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

abbrev bodyAt0 (t : Fin (cfgA ch).N) : Prog (TpuEff nD τ sig (Elt Ideal) Λ₀ .tc) PUnit :=
  cc0_attn_prompt_fox (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

set_option maxHeartbeats 4000000 in

theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 7) t d))
        ∗ (∃ d, owns (c : Thread nD τ) (ms0_1 ch t) fullShare ((dats ch m ρ 0 c).before (1 : Fin 7) t d))
        ∗ (∃ d, owns (c : Thread nD τ) (ms0_2 ch t) fullShare ((dats ch m ρ 0 c).before (2 : Fin 7) t d))
        ∗ (∃ d, owns (c : Thread nD τ) (ms0_3 ch t) fullShare ((dats ch m ρ 0 c).before (3 : Fin 7) t d))
        ∗ (∃ d, owns (c : Thread nD τ) (ms0_4 ch t) fullShare ((dats ch m ρ 0 c).before (4 : Fin 7) t d))
        ∗ (∃ d, owns (c : Thread nD τ) (ms0_5 ch t) fullShare ((dats ch m ρ 0 c).before (5 : Fin 7) t d))
        ∗ (∃ d, owns (c : Thread nD τ) (ms0_6 ch t) fullShare ((dats ch m ρ 0 c).before (6 : Fin 7) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i6, f6, fr6, sf0, sfn0, sf1, sfn1, sf2, sfn2, sf3, sfn3, sf4, sfn4⟩ := sched0_A ch t q0 q1
      have F0 := hypsR0_A ch t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, ⟨%a4, %ha4, HS4⟩, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) hc0 hc1 hc2 k0_h4).2.2.2.2.2.2 a0 a1 a2 a3 a4 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, HT0, HT1, ⟨%e6, H6⟩, HS0, HS1, HS2, HS3, HS4⟩
      isplitl [HS0 HS1 HS2 HS3 HS4 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      unfold owns; iexists _; isplitr; swap
      · iexact H6
      · ipureintro; exact View.read_writes_of_cover _ _ _ _ _ (cover0_A_6 c _ _ _ _ _ _ _ _ _ _ _ _ _ _ _ _ _ _ _ _ _ _ _ _ _ _ _)
    · obtain ⟨i6, f6, fr6, sf0, sfn0, sf1, sfn1, sf2, sfn2, sf3, sfn3, sf4, sfn4⟩ := sched0_B ch t q0 q1
      have F0 := hypsR0_B ch t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, ⟨%a4, %ha4, HS4⟩, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) hc0 hc1 hc2 k0_h4).2.2.2.2.2 _ a0 a1 a2 a3 a4 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, HT0, HT1, H6, HS0, HS1, HS2, HS3, HS4⟩
      isplitl [HS0 HS1 HS2 HS3 HS4 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
  · by_cases q1 : P0_1 ch t
    · obtain ⟨i6, f6, fr6, sf0, sfn0, sf1, sfn1, sf2, sfn2, sf3, sfn3, sf4, sfn4⟩ := sched0_C ch t q0 q1
      have F0 := hypsR0_C ch t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1, exists_held sf2]
      iintro ⟨⟨HS0, HS1, HS2, ⟨%a3, %ha3, HS3⟩, ⟨%a4, %ha4, HS4⟩, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ _ _ hc0 hc1 hc2 k0_h4).2.2.2.2.2.2 a3 a4 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, HT0, HT1, ⟨%e6, H6⟩, HS0, HS1, HS2, HS3, HS4⟩
      isplitl [HS0 HS1 HS2 HS3 HS4 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      unfold owns; iexists _; isplitr; swap
      · iexact H6
      · ipureintro; exact View.read_writes_of_cover _ _ _ _ _ (cover0_C_6 c _ _ _ _ _ _ _ _ _ _ _ _ _ _ _ _ _ _ _ _ _ _ _ _ _ _ _ _ _ _)
    · obtain ⟨i6, f6, fr6, sf0, sfn0, sf1, sfn1, sf2, sfn2, sf3, sfn3, sf4, sfn4⟩ := sched0_D ch t q0 q1
      have F0 := hypsR0_D ch t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1, exists_held sf2]
      iintro ⟨⟨HS0, HS1, HS2, ⟨%a3, %ha3, HS3⟩, ⟨%a4, %ha4, HS4⟩, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ _ _ hc0 hc1 hc2 k0_h4).2.2.2.2.2 _ a3 a4 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, HT0, HT1, H6, HS0, HS1, HS2, HS3, HS4⟩
      isplitl [HS0 HS1 HS2 HS3 HS4 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6

theorem body_obligation (c : Dev nD) : BodyObligation (dats ch m ρ 0 c) (defs₀ (F := Ideal)) Variants.none () Set.univ := fun t => by
  rw [bigSep_W0]
  exact sound_body ch m ρ c t

end Cert.FoxIdeal

end
-- ==== Proof.FoxIdeal.lean ====
module

public import proofs.«01_k».proof.Proof.FoxIdeal.Body

/-! The launch of the attention call: the program's own steps before it, the call, and what every array holds after it. -/

@[expose] public section

set_option maxRecDepth 16384

set_option Elab.async false

noncomputable section

namespace Cert.FoxIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (ch : Fin 1)
variable (m : (ℓ : Loc nD τ sig) → Buf (Elt Ideal) ℓ) (ρ : Dev nD → PrngReg)

def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩, ⟨%a3, HS3⟩, ⟨%a4, HS4⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HS4]
  · iexists a4; isplitr; swap
    · iexact HS4
    · ipureintro; intro h; exact absurd (h.symm.trans (show sfresh0_4 ch 0 = true from rfl)) Bool.false_ne_true
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, ⟨%a4, -, HS4⟩, -, -⟩
  isplitr; · iempintro
  isplitl [HS0]
  · iexists a0; iexact HS0
  isplitl [HS1]
  · iexists a1; iexact HS1
  isplitl [HS2]
  · iexists a2; iexact HS2
  isplitl [HS3]
  · iexists a3; iexact HS3
  iexists a4; iexact HS4

/-- The arrays the call does not touch, of which the arguments are kept. -/
def kept (c : Dev nD) : sProp 𝕄 :=
  iprop((((c : Thread nD τ).loc main_arg0) ↦{fullShare} mV m ρ ((c : Thread nD τ).loc main_arg0))
    ∗ (((c : Thread nD τ).loc main_arg2) ↦{fullShare} mV m ρ ((c : Thread nD τ).loc main_arg2)))

/-- What holds after the run: each array of the call at its computed contents, and the other arguments as before. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ (r.2.mem ((c : Thread nD τ).loc main_arg0) = mV m ρ ((c : Thread nD τ).loc main_arg0)
      ∧ r.2.mem ((c : Thread nD τ).loc main_arg2) = mV m ρ ((c : Thread nD τ).loc main_arg2))

theorem table0 : (fun i => lit0 (S136.rowMajor i)) = pinT_0 ch :=
  funext fun i => (by decide +kernel : ∀ i : S136.Idx, lit0 (S136.rowMajor i) = pinT_0 0 i) i

theorem table1 : (fun i => lit1 (S136.rowMajor i)) = pinT_1 ch :=
  funext fun i => (by decide +kernel : ∀ i : S136.Idx, lit1 (S136.rowMajor i) = pinT_1 0 i) i

theorem mV_c (c : Dev nD) : mV m ρ ((c : Thread nD τ).loc main_c) = fun i => lit0 (S136.rowMajor i) := by
  show StableHlo.after _ (fun b => m (c, b)) main_c = _
  dsimp only [hostOps0, hostOps0_1, hostOps0_2, List.flatten, List.append_eq, List.cons_append, List.nil_append]
  after_results
  rfl

theorem mV_c_0 (c : Dev nD) : mV m ρ ((c : Thread nD τ).loc main_c_0) = fun i => lit1 (S136.rowMajor i) := by
  show StableHlo.after _ (fun b => m (c, b)) main_c_0 = _
  dsimp only [hostOps0, hostOps0_1, hostOps0_2, List.flatten, List.append_eq, List.cons_append, List.nil_append]
  after_results
  rfl

theorem V_pre (c : Dev nD) (j : Fin 2) : mV m ρ ((c : Thread nD τ).loc (pre0.ref j)) = (adm ch).1 j := by
  fin_cases j
  · exact (mV_c m ρ c).trans (table0 ch)
  · exact (mV_c_0 m ρ c).trans (table1 ch)

theorem hsub : [hostOps0 (F := Ideal), hostOps0_1, hostOps0_2].Forall fun ops => ops.Forall fun op => op.bufs ⊆ StableHlo.tcRefs τ sig :=
  ⟨hostOps0_sub, hostOps0_1_sub, hostOps0_2_sub⟩

theorem hfresh : [hostOps0 (F := Ideal), hostOps0_1, hostOps0_2].Forall fun ops => ops.Forall fun op => op.fresh = ∅ := by
  refine ⟨?_, ?_, ?_⟩ <;> · simp only [hostOps0, hostOps0_1, hostOps0_2, List.Forall]; repeat' constructor

set_option backward.isDefEq.respectTransparency.types false in
set_option maxHeartbeats 4000000 in
/-- Every fair run ends, with the arrays as computed and every counter at zero. -/
theorem run : θ_run (defs (F := Ideal)) (onTc (τ := τ) (main (F := Ideal))) ⟨m, fun _ => 0, ρ⟩ (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => mV m ρ ((c : Thread nD τ).loc b))
    (hmain := Pipeline.hmainP_prefixes pcfgs (0 : Fin 1) defs₀ Variants.none m main [hostOps0, hostOps0_1, hostOps0_2] hsub hfresh (fun c => main_chain c))
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m ρ)
    (X := fun _ => iprop(emp)) (Y := fun _ => iprop(emp)) (Z := kept m ρ)
    (hX := fun c => by
      rw [unscopedRestP0_eq]; unfold kept
      iintro ⟨H0, H2, -⟩
      isplitr; · iempintro
      isplitl [H0] <;> iassumption)
    (hin := phi0_intro ch m ρ)
    (hout := phiN_exit ch m ρ)
    (QY := fun c s => s.mem ((c : Thread nD τ).loc main_arg0) = mV m ρ ((c : Thread nD τ).loc main_arg0)
      ∧ s.mem ((c : Thread nD τ).loc main_arg2) = mV m ρ ((c : Thread nD τ).loc main_arg2))
    (hY := fun c s' => by
      unfold kept
      iintro ⟨-, ⟨H0, H2⟩, HSI⟩
      icombine HSI H0 gives %h0
      icombine HSI H2 gives %h2
      imodintro
      isplitr; · ipureintro; exact ⟨Buf.eq_of_forall_mem_univ h0, Buf.eq_of_forall_mem_univ h2⟩
      iexact HSI)
    (hQ := fun _ h hz => ⟨fun c => ⟨(h c).1, (h c).2.2⟩, hz⟩)

theorem mV_arg (c : Dev nD) : mV m ρ ((c : Thread nD τ).loc main_arg0) = m ((c : Thread nD τ).loc main_arg0)
    ∧ mV m ρ ((c : Thread nD τ).loc main_arg1) = m ((c : Thread nD τ).loc main_arg1)
    ∧ mV m ρ ((c : Thread nD τ).loc main_arg2) = m ((c : Thread nD τ).loc main_arg2)
    ∧ mV m ρ ((c : Thread nD τ).loc main_arg3) = m ((c : Thread nD τ).loc main_arg3) := by
  refine ⟨?_, ?_, ?_, ?_⟩
  · show StableHlo.after _ (fun b => m (c, b)) main_arg0 = _
    dsimp only [hostOps0, hostOps0_1, hostOps0_2, List.flatten, List.append_eq, List.cons_append, List.nil_append]
    after_results
  · show StableHlo.after _ (fun b => m (c, b)) main_arg1 = _
    dsimp only [hostOps0, hostOps0_1, hostOps0_2, List.flatten, List.append_eq, List.cons_append, List.nil_append]
    after_results
  · show StableHlo.after _ (fun b => m (c, b)) main_arg2 = _
    dsimp only [hostOps0, hostOps0_1, hostOps0_2, List.flatten, List.append_eq, List.cons_append, List.nil_append]
    after_results
  · show StableHlo.after _ (fun b => m (c, b)) main_arg3 = _
    dsimp only [hostOps0, hostOps0_1, hostOps0_2, List.flatten, List.append_eq, List.cons_append, List.nil_append]
    after_results

/-- The call runs to its end without a fault, its arguments end as they began, and every counter reads zero. -/
theorem frame : Cert.quiescent_KernelIdeal := fun m ρ _ =>
  (θ_run defs _ _).mono (fun _ h => ⟨fun c => by
    obtain ⟨h0, h1, h2, h3⟩ := mV_arg m ρ c
    exact ⟨((h.1 c).2.1).trans h0,
      (((h.1 c).1 (1 : Fin 7)).trans ((dats 0 m ρ 0 c).arrAt_in (1 : Fin 7) rfl _)).trans h1,
      ((h.1 c).2.2).trans h2,
      (((h.1 c).1 (3 : Fin 7)).trans ((dats 0 m ρ 0 c).arrAt_in (3 : Fin 7) rfl _)).trans h3⟩, h.2⟩) (run 0 m ρ)

end Cert.FoxIdeal

end
-- ==== Proof.FoxStep.lean ====
/-
  One block of keys against one block of queries, head by head: what each store of the attention's body holds, of what the
  body read before it.
-/
module

public import proofs.«01_k».proof.Defs
public import proofs.«01_k».proof.Proof.FoxIdeal
public import Idealize.ShloMosaic.Lib.Pointwise
public import Idealize.ShloMosaic.Lib.ValueLayout
public import Idealize.ShloMosaic.Lib.Tactic

@[expose] public section

noncomputable section

open Idealize.ShloMosaic Idealize.ShloMosaic.TcCoe Idealize.SL.Sem
open Idealize.ShloMosaic.Pipeline (Dat)

namespace Cert.Fox

open Cert.KernelIdeal Cert.KernelIdeal.Gen Cert.FoxIdeal

/-- Stores whose first `n` agree with one array and cover an index leave the array there. -/
theorem canon_take {s : Shape} {e : EltTy} (g : s.Idx → Elt Ideal e) (n : Nat) : ∀ L : List (View.Piece (Elt Ideal) s e),
    (∀ p ∈ L.take n, ∀ x, p.2 x = g (p.1.emb x)) → ∀ y, (∃ p ∈ L.take n, y ∈ p.1.set) → View.canon L y = g y := by
  induction n with
  | zero => intro L _ y h; obtain ⟨_, hm, _⟩ := h; rw [List.take_zero] at hm; exact absurd hm List.not_mem_nil
  | succ n ih =>
    intro L hg y h
    cases L with
    | nil => obtain ⟨_, hm, _⟩ := h; exact absurd hm List.not_mem_nil
    | cons p L =>
      rw [List.take_succ_cons] at hg h
      by_cases hy : y ∈ p.1.set
      · obtain ⟨x, rfl⟩ : ∃ x, p.1.emb x = y := p.1.exists_idx_of_mem hy
        exact (View.canon_cons_emb p.1 p.2 L x).trans (hg p List.mem_cons_self x)
      · rw [View.canon_cons_of_not_mem p L hy]
        refine ih L (fun q hq => hg q (List.mem_cons_of_mem p hq)) y ?_
        obtain ⟨q, hq, hyq⟩ := h
        rcases List.mem_cons.mp hq with rfl | hq
        · exact absurd hyq hy
        · exact ⟨q, hq, hyq⟩

/-- Stores that end before row `o` leave what is there at row `o` and after. -/
theorem canon_drop {s : Shape} {e : EltTy} (a : Fin s.rank) (o : Nat) (n : Nat) : ∀ L : List (View.Piece (Elt Ideal) s e),
    (L.take n).all (fun p => decide (p.1.off a + p.1.stride a * p.1.size a ≤ o)) = true → ∀ y, o ≤ (y a).val → View.canon L y = View.canon (L.drop n) y := by
  induction n with
  | zero => intro L _ y _; rw [List.drop_zero]
  | succ n ih =>
    intro L hL y hy
    cases L with
    | nil => rfl
    | cons p L =>
      rw [List.take_succ_cons, List.all_cons, Bool.and_eq_true, decide_eq_true_eq] at hL
      rw [List.drop_succ_cons, ← ih L hL.2 y hy]
      refine View.canon_cons_of_not_mem p L fun hm => ?_
      obtain ⟨j, hj, he⟩ := (LoadRect.mem_set _).mp hm a
      have h1 := Nat.mul_lt_mul_of_pos_left hj (p.1.stride_pos a)
      have h2 := hL.1
      omega

/-- Entry `d` of head `h`, among a row's 1024. -/
def col (h : Fin 8) (d : Fin 128) : Fin 1024 := ⟨128 * h.val + d.val, by omega⟩

abbrev scale2 : EReal := (((11863283 / 134217728) * (Real.log 2)⁻¹ : ℝ) : EReal)

theorem named_scale2 : (Named.named (F := Ideal) κ (φ := .f32) "scale2" 0x3E0293EE#32 : Ideal .f32) = scale2 := IdealRules.named_const.ideal_named_scalar _ _ _ _ rfl

theorem ofBits_bot : Ideal.ofBits .f32 0xFF800000#32 = ⊥ := by
  simp [Ideal.ofBits, Ideal.ieee]

theorem raw_at (kb : Vec Ideal S512x128 .bf16) (qb : Vec Ideal S1x128x512 .bf16) (fb : Vec Ideal S1x512x128 .f32) (g : Fin 512 → EReal)
    (hf : ∀ u s l, fb (ix3 u s l) = g s) (u : Fin 1) (s t : Fin 512) :
    k0_pay57 kb qb fb (ix3 u s t) = (∑ d : Fin 128, kb (ix2 s d) * qb (ix3 (0 : Fin 1) d t)) * scale2 - g s := by
  pointwise [k0_pay57, k0_pay56]
  simp only [hf, dite_eq_ite, ite_self, named_scale2]

theorem score_at (kb : Vec Ideal S512x128 .bf16) (qb : Vec Ideal S1x128x512 .bf16) (fb : Vec Ideal S1x512x128 .f32) (g : Fin 512 → EReal)
    (hf : ∀ u s l, fb (ix3 u s l) = g s) (s t : Fin 512) :
    k0_pay56 kb qb fb (ix2 s t) = (∑ d : Fin 128, kb (ix2 s d) * qb (ix3 (0 : Fin 1) d t)) * scale2 - g s := by
  pointwise [k0_pay56]
  simp only [hf, dite_eq_ite, ite_self, named_scale2]

theorem maskedScore_at (kb : Vec Ideal S512x128 .bf16) (qb : Vec Ideal S1x128x512 .bf16) (fb : Vec Ideal S1x512x128 .f32) (mb : Vec Ideal S512x512 .f32) (g : Fin 512 → EReal)
    (hf : ∀ u s l, fb (ix3 u s l) = g s) (s t : Fin 512) :
    k0_pay28 kb qb fb mb (ix2 s t) = (∑ d : Fin 128, kb (ix2 s d) * qb (ix3 (0 : Fin 1) d t)) * scale2 - g s + mb (ix2 s t) := by
  pointwise [k0_pay28]
  simp only [hf, dite_eq_ite, ite_self, named_scale2]

theorem masked_at (kb : Vec Ideal S512x128 .bf16) (qb : Vec Ideal S1x128x512 .bf16) (fb : Vec Ideal S1x512x128 .f32) (mb : Vec Ideal S512x512 .f32) (g : Fin 512 → EReal)
    (hf : ∀ u s l, fb (ix3 u s l) = g s) (u : Fin 1) (s t : Fin 512) :
    k0_pay29 kb qb fb mb (ix3 u s t) = (∑ d : Fin 128, kb (ix2 s d) * qb (ix3 (0 : Fin 1) d t)) * scale2 - g s + mb (ix2 s t) := by
  pointwise [k0_pay29, k0_pay28]
  simp only [hf, dite_eq_ite, ite_self, named_scale2]

theorem newMax_at (mo mx : Vec Ideal S1x1x512 .f32) (u w : Fin 1) (t : Fin 512) :
    k0_pay2 (k0_pay73 mo mx) (ix3 u w t) = max (mo (ix3 (0 : Fin 1) (0 : Fin 1) t)) (mx (ix3 (0 : Fin 1) (0 : Fin 1) t)) := by
  pointwise [k0_pay2, k0_pay73, k0_pay72]

theorem newSum_at (sc : Vec Ideal S1x512x512 .f32) (mo mx lo : Vec Ideal S1x1x512 .f32) (v : Vec Ideal S1x128x512 .bf16) (u w : Fin 1) (t : Fin 512) :
    k0_pay76 (k0_pay74 mo mx) (k0_pay75 sc mo mx v) lo (ix3 u w t)
      = Ideal.exp2 (mo (ix3 (0 : Fin 1) (0 : Fin 1) t) - max (mo (ix3 (0 : Fin 1) (0 : Fin 1) t)) (mx (ix3 (0 : Fin 1) (0 : Fin 1) t))) * lo (ix3 (0 : Fin 1) (0 : Fin 1) t)
        + ∑ s : Fin 512, Ideal.exp2 (sc (ix3 (0 : Fin 1) s t) - max (mo (ix3 (0 : Fin 1) (0 : Fin 1) t)) (mx (ix3 (0 : Fin 1) (0 : Fin 1) t))) := by
  pointwise [k0_pay76, k0_pay75, k0_pay74, k0_pay73, k0_pay72]
  rfl

theorem newAcc_at (sc : Vec Ideal S1x512x512 .f32) (mo mx : Vec Ideal S1x1x512 .f32) (ao : Vec Ideal S128x512 .f32) (v : Vec Ideal S1x128x512 .bf16) (d : Fin 128) (t : Fin 512) :
    k0_pay77 (k0_pay74 mo mx) (k0_pay75 sc mo mx v) ao (ix2 d t)
      = Ideal.exp2 (mo (ix3 (0 : Fin 1) (0 : Fin 1) t) - max (mo (ix3 (0 : Fin 1) (0 : Fin 1) t)) (mx (ix3 (0 : Fin 1) (0 : Fin 1) t))) * ao (ix2 d t)
        + ∑ s : Fin 512, v (ix3 (0 : Fin 1) d s) * Ideal.exp2 (sc (ix3 (0 : Fin 1) s t) - max (mo (ix3 (0 : Fin 1) (0 : Fin 1) t)) (mx (ix3 (0 : Fin 1) (0 : Fin 1) t))) := by
  pointwise [k0_pay77, k0_pay75, k0_pay74, k0_pay73, k0_pay72]
  rfl

theorem quot_at (a : Vec Ideal S128x512 .f32) (l : Vec Ideal S1x1x512 .f32) (u : Fin 1) (d : Fin 128) (t : Fin 512) :
   k0_pay59 a l (ix3 u d t) = Ideal.div (a (ix2 d t)) (l (ix3 (0 : Fin 1) (0 : Fin 1) t)) := by
  pointwise [k0_pay59]

/-! ## One head's stores -/

/-- The largest score of each query. -/
def top (z : Fin 8 → Fin 512 → Fin 512 → EReal) (h : Fin 8) (t : Fin 512) : EReal := Finset.univ.fold max ⊥ fun s => z h s t

/-- The running maximum after a block. -/
def newMax (z : Fin 8 → Fin 512 → Fin 512 → EReal) (m : Fin 8 → Fin 512 → EReal) (h : Fin 8) (t : Fin 512) : EReal := max (m h t) (top z h t)

/-- The running sum after a block. -/
def newSum (z : Fin 8 → Fin 512 → Fin 512 → EReal) (m l : Fin 8 → Fin 512 → EReal) (h : Fin 8) (t : Fin 512) : EReal :=
  Ideal.exp2 (m h t - newMax z m h t) * l h t + ∑ s : Fin 512, Ideal.exp2 (z h s t - newMax z m h t)

/-- The running weighted sum of the values after a block. -/
def newAcc (z : Fin 8 → Fin 512 → Fin 512 → EReal) (m : Fin 8 → Fin 512 → EReal) (a : Fin 1024 → Fin 512 → EReal) (v : S1x1024x512.Idx → EReal)
    (h : Fin 8) (d : Fin 128) (t : Fin 512) : EReal :=
  Ideal.exp2 (m h t - newMax z m h t) * a (col h d) t + ∑ s : Fin 512, v (ix3 (0 : Fin 1) (col h d) s) * Ideal.exp2 (z h s t - newMax z m h t)

/-- The head a row of the 1024 belongs to, and its entry there. -/
def hd (r : Fin 1024) : Fin 8 := ⟨r.val / 128, by omega⟩
def ln (r : Fin 1024) : Fin 128 := ⟨r.val % 128, by omega⟩

section
variable {z : Fin 8 → Fin 512 → Fin 512 → EReal} {m l : Fin 8 → Fin 512 → EReal} {a : Fin 1024 → Fin 512 → EReal} {vv : S1x1024x512.Idx → EReal}
  {sc : Vec Ideal S1x512x512 .f32} {mo mx lo : Vec Ideal S1x1x512 .f32} {ao : Vec Ideal S128x512 .f32} {v : Vec Ideal S1x128x512 .bf16} (h : Fin 8)

theorem max_piece (hmo : ∀ t, mo (ix3 (0 : Fin 1) (0 : Fin 1) t) = m h t) (hmx : ∀ t, mx (ix3 (0 : Fin 1) (0 : Fin 1) t) = top z h t)
    (inb) (x : S1x1x512.Idx) :
    k0_pay2 (k0_pay73 mo mx) x = (fun y : S8x1x512.Idx => newMax z m (y 0) (y 2)) ((Rect.unit (s := S8x1x512) ![h.val, 0, 0] S1x1x512.size inb).emb x) := by
  idx_vars x
  have h0 := x0.isLt
  refine (newMax_at mo mx x0 x1 x2).trans ?_
  rw [hmo, hmx]
  refine congrArg₂ (newMax z m) (Fin.ext ?_) (Fin.ext ?_)
  · show h.val = h.val + 1 * x0.val
    omega
  · show x2.val = 0 + 1 * x2.val
    omega

theorem sum_piece (hsc : ∀ s t, sc (ix3 (0 : Fin 1) s t) = z h s t) (hmo : ∀ t, mo (ix3 (0 : Fin 1) (0 : Fin 1) t) = m h t)
    (hmx : ∀ t, mx (ix3 (0 : Fin 1) (0 : Fin 1) t) = top z h t) (hlo : ∀ t, lo (ix3 (0 : Fin 1) (0 : Fin 1) t) = l h t)
    (_hv : ∀ d s, v (ix3 (0 : Fin 1) d s) = vv (ix3 (0 : Fin 1) (col h d) s)) (inb) (x : S1x1x512.Idx) :
    k0_pay76 (k0_pay74 mo mx) (k0_pay75 sc mo mx v) lo x
      = (fun y : S8x1x512.Idx => newSum z m l (y 0) (y 2)) ((Rect.unit (s := S8x1x512) ![h.val, 0, 0] S1x1x512.size inb).emb x) := by
  idx_vars x
  have h0 := x0.isLt
  refine (newSum_at sc mo mx lo v x0 x1 x2).trans ?_
  rw [hmo, hmx, hlo]
  simp only [hsc]
  refine congrArg₂ (newSum z m l) (Fin.ext ?_) (Fin.ext ?_)
  · show h.val = h.val + 1 * x0.val
    omega
  · show x2.val = 0 + 1 * x2.val
    omega

theorem acc_piece (o : Nat) (ho : o = 128 * h.val) (hsc : ∀ s t, sc (ix3 (0 : Fin 1) s t) = z h s t) (hmo : ∀ t, mo (ix3 (0 : Fin 1) (0 : Fin 1) t) = m h t)
    (hmx : ∀ t, mx (ix3 (0 : Fin 1) (0 : Fin 1) t) = top z h t) (hv : ∀ d s, v (ix3 (0 : Fin 1) d s) = vv (ix3 (0 : Fin 1) (col h d) s))
    (hao : ∀ d t, ao (ix2 d t) = a (col h d) t)
    (inb) (x : S128x512.Idx) :
    k0_pay77 (k0_pay74 mo mx) (k0_pay75 sc mo mx v) ao x
      = (fun y : S1024x512.Idx => newAcc z m a vv (hd (y 0)) (ln (y 0)) (y 1)) ((Rect.unit (s := S1024x512) ![o, 0] S128x512.size inb).emb x) := by
  subst ho
  idx_vars x
  have h0 := x0.isLt
  refine (newAcc_at sc mo mx ao v x0 x1).trans ?_
  rw [hmo, hmx, hao]
  simp only [hsc, hv]
  have e1 : hd ((Rect.unit (s := S1024x512) ![128 * h.val, 0] S128x512.size inb).emb (ix2 x0 x1) 0) = h := Fin.ext (by
    show (128 * h.val + 1 * x0.val) / 128 = h.val
    omega)
  have e2 : ln ((Rect.unit (s := S1024x512) ![128 * h.val, 0] S128x512.size inb).emb (ix2 x0 x1) 0) = x0 := Fin.ext (by
    show (128 * h.val + 1 * x0.val) % 128 = x0.val
    omega)
  have e3 : (Rect.unit (s := S1024x512) ![128 * h.val, 0] S128x512.size inb).emb (ix2 x0 x1) 1 = x1 := Fin.ext (by
    show 0 + 1 * x1.val = x1.val
    omega)
  show _ = newAcc z m a vv (hd _) (ln _) _
  rw [e1, e2, e3]
  rfl

theorem out_piece (o : Nat) (ho : o = 128 * h.val) (hao : ∀ d t, ao (ix2 d t) = a (col h d) t) (hlo : ∀ t, lo (ix3 (0 : Fin 1) (0 : Fin 1) t) = l h t)
    (inb) (x : S1x128x512.Idx) :
    k0_pay59 ao lo x
      = (fun y : S1x1024x512.Idx => Ideal.div (a (y 1) (y 2)) (l (hd (y 1)) (y 2))) ((Rect.unit (s := S1x1024x512) ![0, o, 0] S1x128x512.size inb).emb x) := by
  subst ho
  idx_vars x
  have h0 := x1.isLt
  refine (quot_at ao lo x0 x1 x2).trans ?_
  rw [hao, hlo]
  have e1 : (Rect.unit (s := S1x1024x512) ![0, 128 * h.val, 0] S1x128x512.size inb).emb (ix3 x0 x1 x2) 1 = col h x1 := Fin.ext (by
    show 128 * h.val + 1 * x1.val = 128 * h.val + x1.val
    omega)
  have e3 : (Rect.unit (s := S1x1024x512) ![0, 128 * h.val, 0] S1x128x512.size inb).emb (ix3 x0 x1 x2) 2 = x2 := Fin.ext (by
    show 0 + 1 * x2.val = x2.val
    omega)
  have e2 : hd (col h x1) = h := Fin.ext (by
    show (128 * h.val + x1.val) / 128 = h.val
    omega)
  show _ = Ideal.div (a _ _) (l (hd _) _)
  rw [e1, e3, e2]

end

/-! ## Reading one head back -/

section
variable (h : Fin 8)

/-- What a rectangle of one head holds, of an array known head by head. -/
theorem row3 {b c : Nat} (g : Fin 8 → Fin b → Fin c → EReal) (y : (⟨3, ![8, b, c]⟩ : Shape).Idx) (s : Fin b) (t : Fin c)
    (h0 : (y 0).val = h.val) (h1 : (y 1).val = s.val) (h2 : (y 2).val = t.val) : g (y 0) (y 1) (y 2) = g h s t := by
  rw [show y 0 = h from Fin.ext h0, show y 1 = s from Fin.ext h1, show y 2 = t from Fin.ext h2]

theorem cov3 {L : List (View.Piece (Elt Ideal) S8x512x512 .f32)} {z : Fin 8 → Fin 512 → Fin 512 → EReal}
    (hL : ∀ y : S8x512x512.Idx, View.canon L y = z (y 0) (y 1) (y 2)) (inb) (s t : Fin 512) :
    scM0_3.view.readCov L (Rect.unit (s := S8x512x512) ![h.val, 0, 0] S1x512x512.size inb).toLoadRect (ix3 (0 : Fin 1) s t) = z h s t := by
  rw [View.readCov_eq_canon']
  refine (hL _).trans (row3 h z _ s t ?_ ?_ ?_)
  · show h.val + 1 * 0 = h.val
    omega
  · show 0 + 1 * s.val = s.val
    omega
  · show 0 + 1 * t.val = t.val
    omega

theorem cov4 {L : List (View.Piece (Elt Ideal) S8x1x512 .f32)} {g : Fin 8 → Fin 512 → EReal}
    (hL : ∀ y : S8x1x512.Idx, View.canon L y = g (y 0) (y 2)) (v : View sig .tc .vmem S8x1x512 .f32) (inb) (t : Fin 512) :
    v.readCov L (Rect.unit (s := S8x1x512) ![h.val, 0, 0] S1x1x512.size inb).toLoadRect (ix3 (0 : Fin 1) (0 : Fin 1) t) = g h t := by
  rw [View.readCov_eq_canon']
  refine (hL _).trans (row3 h (fun a _ c => g a c) _ (0 : Fin 1) t ?_ ?_ ?_)
  · show h.val + 1 * 0 = h.val
    omega
  · show 0 + 1 * 0 = 0
    omega
  · show 0 + 1 * t.val = t.val
    omega

/-- One head of the running maxima or sums, before any head after it is stored. -/
theorem old4 (n : Nat) {L : List (View.Piece (Elt Ideal) S8x1x512 .f32)} {x : EReal}
    (hL : (L.take n).all (fun p => decide (p.1.off 0 + p.1.stride 0 * p.1.size 0 ≤ h.val)) = true)
    (hx : ∀ y, View.canon (L.drop n) y = x) (v : View sig .tc .vmem S8x1x512 .f32) (inb) (t : Fin 512) :
    v.readCov L (Rect.unit (s := S8x1x512) ![h.val, 0, 0] S1x1x512.size inb).toLoadRect (ix3 (0 : Fin 1) (0 : Fin 1) t) = x := by
  rw [View.readCov_eq_canon']
  refine (canon_drop (0 : Fin 3) h.val n L hL _ ?_).trans (hx _)
  show h.val ≤ h.val + 1 * 0
  omega

theorem old2 (n o : Nat) {L : List (View.Piece (Elt Ideal) S1024x512 .f32)} {x : EReal}
    (hL : (L.take n).all (fun p => decide (p.1.off 0 + p.1.stride 0 * p.1.size 0 ≤ o)) = true)
    (hx : ∀ y, View.canon (L.drop n) y = x) (v : View sig .tc .vmem S1024x512 .f32) (inb) (d : Fin 128) (t : Fin 512) :
    v.readCov L (Rect.unit (s := S1024x512) ![o, 0] S128x512.size inb).toLoadRect (ix2 d t) = x := by
  rw [View.readCov_eq_canon']
  refine (canon_drop (0 : Fin 2) o n L hL _ ?_).trans (hx _)
  show o ≤ o + 1 * d.val
  omega

theorem cov2 {L : List (View.Piece (Elt Ideal) S1024x512 .f32)} {g : Fin 1024 → Fin 512 → EReal}
    (hL : ∀ y : S1024x512.Idx, View.canon L y = g (y 0) (y 1)) (v : View sig .tc .vmem S1024x512 .f32) (o : Nat) (ho : o = 128 * h.val) (inb)
    (d : Fin 128) (t : Fin 512) :
    v.readCov L (Rect.unit (s := S1024x512) ![o, 0] S128x512.size inb).toLoadRect (ix2 d t) = g (col h d) t := by
  subst ho
  rw [View.readCov_eq_canon']
  refine (hL _).trans (congrArg₂ g (Fin.ext ?_) (Fin.ext ?_))
  · show 128 * h.val + 1 * d.val = 128 * h.val + d.val
    omega
  · show 0 + 1 * t.val = t.val
    omega

theorem at4 (v : View sig .tc .vmem S8x1x512 .f32) (x : v.ty.Contents (Elt Ideal)) (inb) (t : Fin 512) :
    v.readAt (Elt Ideal) (Rect.unit (s := S8x1x512) ![h.val, 0, 0] S1x1x512.size inb).toLoadRect x (ix3 (0 : Fin 1) (0 : Fin 1) t)
      = v.read (Elt Ideal) x (ix3 h (0 : Fin 1) t) := by
  rw [View.readAt_apply]
  refine congrArg (v.read (Elt Ideal) x) (funext fun a => Fin.ext ?_)
  fin_cases a
  · show h.val + 1 * 0 = h.val
    omega
  · rfl
  · show 0 + 1 * t.val = t.val
    omega

theorem at2 (v : View sig .tc .vmem S1024x512 .f32) (x : v.ty.Contents (Elt Ideal)) (o : Nat) (ho : o = 128 * h.val) (inb) (d : Fin 128) (t : Fin 512) :
    v.readAt (Elt Ideal) (Rect.unit (s := S1024x512) ![o, 0] S128x512.size inb).toLoadRect x (ix2 d t) = v.read (Elt Ideal) x (ix2 (col h d) t) := by
  subst ho
  rw [View.readAt_apply]
  refine congrArg (v.read (Elt Ideal) x) (Shape.idx_ext₂ ?_ ?_)
  · show 128 * h.val + 1 * d.val = 128 * h.val + d.val
    omega
  · show 0 + 1 * t.val = t.val
    omega

/-- One head of a block of values. -/
theorem rep1 (v : View sig .tc .vmem S1x1024x512 .bf16) (x : S1x1024x512.Idx → Elt Ideal .bf16) (o : Nat) (ho : o = 128 * h.val) (inb) (d : Fin 128) (t : Fin 512) :
    v.readAt (Elt Ideal) (Rect.unit (s := S1x1024x512) ![0, o, 0] S1x128x512.size inb).toLoadRect (v.rep x) (ix3 (0 : Fin 1) d t)
      = x (ix3 (0 : Fin 1) (col h d) t) := by
  subst ho
  rw [View.readAt_rep]
  refine congrArg x (funext fun a => Fin.ext ?_)
  fin_cases a
  · rfl
  · show 128 * h.val + 1 * d.val = 128 * h.val + d.val
    omega
  · show 0 + 1 * t.val = t.val
    omega

/-- One head of a block of keys. -/
theorem repk (v : View sig .tc .vmem S512x1024 .bf16) (x : S512x1024.Idx → Elt Ideal .bf16) (o : Nat) (ho : o = 128 * h.val) (inb) (s : Fin 512) (d : Fin 128) :
    v.readAt (Elt Ideal) (Rect.unit (s := S512x1024) ![0, o] S512x128.size inb).toLoadRect (v.rep x) (ix2 s d) = x (ix2 s (col h d)) := by
  subst ho
  rw [View.readAt_rep]
  refine congrArg x (Shape.idx_ext₂ ?_ ?_)
  · show 0 + 1 * s.val = s.val
    omega
  · show 128 * h.val + 1 * d.val = 128 * h.val + d.val
    omega

/-- One head of a block of forget sums. -/
theorem repf (v : View sig .tc .vmem S8x512x128 .f32) (x : S8x512x128.Idx → Elt Ideal .f32) {f : Fin 8 → Fin 512 → EReal}
    (hf : ∀ h s l, x (ix3 h s l) = f h s) (inb) (u : Fin 1) (s : Fin 512) (l : Fin 128) :
    v.readAt (Elt Ideal) (Rect.unit (s := S8x512x128) ![h.val, 0, 0] S1x512x128.size inb).toLoadRect (v.rep x) (ix3 u s l) = f h s := by
  rw [View.readAt_rep]
  refine Eq.trans (congrArg x (funext fun a => Fin.ext ?_)) (hf h s l)
  have hu : u.val = 0 := by omega
  fin_cases a
  · show h.val + 1 * u.val = h.val
    omega
  · show 0 + 1 * s.val = s.val
    omega
  · show 0 + 1 * l.val = l.val
    omega

/-- The block of the causal mask. -/
theorem repm (v : View sig .tc .vmem S512x512 .f32) (x : S512x512.Idx → Elt Ideal .f32) (inb) (s t : Fin 512) :
    v.readAt (Elt Ideal) (Rect.unit (s := S512x512) ![0, 0] S512x512.size inb).toLoadRect (v.rep x) (ix2 s t) = x (ix2 s t) := by
  rw [View.readAt_rep]
  refine congrArg x (Shape.idx_ext₂ ?_ ?_)
  · show 0 + 1 * s.val = s.val
    omega
  · show 0 + 1 * t.val = t.val
    omega

end

/-! ## One head's scores -/

/-- The scores of one block: keys `s` against queries `t`. -/
def score (x0 : S1x1024x512.Idx → EReal) (x1 : S512x1024.Idx → EReal) (f : Fin 8 → Fin 512 → EReal) (h : Fin 8) (s t : Fin 512) : EReal :=
  (∑ d : Fin 128, x1 (ix2 s (col h d)) * x0 (ix3 (0 : Fin 1) (col h d) t)) * scale2 - f h s

section
variable {x0 : S1x1024x512.Idx → EReal} {x1 : S512x1024.Idx → EReal} {x4 : S512x512.Idx → EReal} {f : Fin 8 → Fin 512 → EReal}
  {kb : Vec Ideal S512x128 .bf16} {qb : Vec Ideal S1x128x512 .bf16} {fb : Vec Ideal S1x512x128 .f32} {mb : Vec Ideal S512x512 .f32} (h : Fin 8)

theorem raw_piece (hk : ∀ s d, kb (ix2 s d) = x1 (ix2 s (col h d))) (hq : ∀ d t, qb (ix3 (0 : Fin 1) d t) = x0 (ix3 (0 : Fin 1) (col h d) t))
    (hf : ∀ u s l, fb (ix3 u s l) = f h s) (inb) (x : S1x512x512.Idx) :
    k0_pay57 kb qb fb x = (fun y : S8x512x512.Idx => score x0 x1 f (y 0) (y 1) (y 2)) ((Rect.unit (s := S8x512x512) ![h.val, 0, 0] S1x512x512.size inb).emb x) := by
  idx_vars x
  have h0 := x0.isLt
  refine (raw_at kb qb fb (f h) hf x0 x1 x2).trans ?_
  simp only [hk, hq]
  refine (row3 h (score _ _ f) _ x1 x2 ?_ ?_ ?_).symm
  · show h.val + 1 * x0.val = h.val
    omega
  · show 0 + 1 * x1.val = x1.val
    omega
  · show 0 + 1 * x2.val = x2.val
    omega

theorem masked_piece (hk : ∀ s d, kb (ix2 s d) = x1 (ix2 s (col h d))) (hq : ∀ d t, qb (ix3 (0 : Fin 1) d t) = x0 (ix3 (0 : Fin 1) (col h d) t))
    (hf : ∀ u s l, fb (ix3 u s l) = f h s) (hm : ∀ s t, mb (ix2 s t) = x4 (ix2 s t)) (inb) (x : S1x512x512.Idx) :
    k0_pay29 kb qb fb mb x = (fun y : S8x512x512.Idx => (fun h s t => score x0 x1 f h s t + x4 (ix2 s t) : Fin 8 → Fin 512 → Fin 512 → EReal) (y 0) (y 1) (y 2))
      ((Rect.unit (s := S8x512x512) ![h.val, 0, 0] S1x512x512.size inb).emb x) := by
  idx_vars x
  have h0 := x0.isLt
  refine (masked_at kb qb fb mb (f h) hf x0 x1 x2).trans ?_
  simp only [hk, hq, hm]
  refine (row3 h (fun h s t => score _ _ f h s t + x4 (ix2 s t) : Fin 8 → Fin 512 → Fin 512 → EReal) _ x1 x2 ?_ ?_ ?_).symm
  · show h.val + 1 * x0.val = h.val
    omega
  · show 0 + 1 * x1.val = x1.val
    omega
  · show 0 + 1 * x2.val = x2.val
    omega

end

section
variable {x0 : S1x1024x512.Idx → Elt Ideal .bf16} {x1 : S512x1024.Idx → Elt Ideal .bf16} {x3 : S8x512x128.Idx → Elt Ideal .f32}
  {x4 : S512x512.Idx → Elt Ideal .f32} {f : Fin 8 → Fin 512 → EReal} (hf : ∀ h s l, x3 (ix3 h s l) = f h s) (h : Fin 8) (o : Nat) (ho : o = 128 * h.val)
  (v0 : View sig .tc .vmem S1x1024x512 .bf16) (v1 : View sig .tc .vmem S512x1024 .bf16) (v3 : View sig .tc .vmem S8x512x128 .f32)
  (v4 : View sig .tc .vmem S512x512 .f32)
include ho hf

theorem raw_store (i1 i0 i3 inb) (x : S1x512x512.Idx) :
    k0_pay57 (v1.readAt (Elt Ideal) (Rect.unit (s := S512x1024) ![0, o] S512x128.size i1).toLoadRect (v1.rep x1))
      (v0.readAt (Elt Ideal) (Rect.unit (s := S1x1024x512) ![0, o, 0] S1x128x512.size i0).toLoadRect (v0.rep x0))
      (v3.readAt (Elt Ideal) (Rect.unit (s := S8x512x128) ![h.val, 0, 0] S1x512x128.size i3).toLoadRect (v3.rep x3)) x
      = (fun y : S8x512x512.Idx => score x0 x1 f (y 0) (y 1) (y 2)) ((Rect.unit (s := S8x512x512) ![h.val, 0, 0] S1x512x512.size inb).emb x) :=
  raw_piece h (repk h v1 x1 o ho i1) (rep1 h v0 x0 o ho i0) (repf h v3 x3 hf i3) inb x

theorem raw_score (i1 i0 i3) (s t : Fin 512) :
    k0_pay56 (v1.readAt (Elt Ideal) (Rect.unit (s := S512x1024) ![0, o] S512x128.size i1).toLoadRect (v1.rep x1))
      (v0.readAt (Elt Ideal) (Rect.unit (s := S1x1024x512) ![0, o, 0] S1x128x512.size i0).toLoadRect (v0.rep x0))
      (v3.readAt (Elt Ideal) (Rect.unit (s := S8x512x128) ![h.val, 0, 0] S1x512x128.size i3).toLoadRect (v3.rep x3)) (ix2 s t)
      = score x0 x1 f h s t := by
  refine (score_at _ _ _ (f h) (repf h v3 x3 hf i3) s t).trans ?_
  simp only [repk h v1 x1 o ho i1, rep1 h v0 x0 o ho i0, score]

theorem masked_store (i1 i0 i3 i4 inb) (x : S1x512x512.Idx) :
    k0_pay29 (v1.readAt (Elt Ideal) (Rect.unit (s := S512x1024) ![0, o] S512x128.size i1).toLoadRect (v1.rep x1))
      (v0.readAt (Elt Ideal) (Rect.unit (s := S1x1024x512) ![0, o, 0] S1x128x512.size i0).toLoadRect (v0.rep x0))
      (v3.readAt (Elt Ideal) (Rect.unit (s := S8x512x128) ![h.val, 0, 0] S1x512x128.size i3).toLoadRect (v3.rep x3))
      (v4.readAt (Elt Ideal) (Rect.unit (s := S512x512) ![0, 0] S512x512.size i4).toLoadRect (v4.rep x4)) x
      = (fun y : S8x512x512.Idx => (fun h s t => score x0 x1 f h s t + x4 (ix2 s t) : Fin 8 → Fin 512 → Fin 512 → EReal) (y 0) (y 1) (y 2))
        ((Rect.unit (s := S8x512x512) ![h.val, 0, 0] S1x512x512.size inb).emb x) :=
  masked_piece h (repk h v1 x1 o ho i1) (rep1 h v0 x0 o ho i0) (repf h v3 x3 hf i3) (repm v4 x4 i4) inb x

theorem masked_score (i1 i0 i3 i4) (s t : Fin 512) :
    k0_pay28 (v1.readAt (Elt Ideal) (Rect.unit (s := S512x1024) ![0, o] S512x128.size i1).toLoadRect (v1.rep x1))
      (v0.readAt (Elt Ideal) (Rect.unit (s := S1x1024x512) ![0, o, 0] S1x128x512.size i0).toLoadRect (v0.rep x0))
      (v3.readAt (Elt Ideal) (Rect.unit (s := S8x512x128) ![h.val, 0, 0] S1x512x128.size i3).toLoadRect (v3.rep x3))
      (v4.readAt (Elt Ideal) (Rect.unit (s := S512x512) ![0, 0] S512x512.size i4).toLoadRect (v4.rep x4)) (ix2 s t)
      = (fun h s t => score x0 x1 f h s t + x4 (ix2 s t) : Fin 8 → Fin 512 → Fin 512 → EReal) h s t := by
  refine (maskedScore_at _ _ _ _ (f h) (repf h v3 x3 hf i3) s t).trans ?_
  simp only [repk h v1 x1 o ho i1, rep1 h v0 x0 o ho i0, repm v4 x4 i4, score]

end

/-- The largest score of each query in a block of scores. -/
def topOf (w : FVec Ideal S512x512 .f32) : FVec Ideal S1x1x512 .f32 :=
  shapeCast S1x1x512 (shapeCast S1x512 (multiReduction .maximumf [0] S512 w 0xFF800000#32 reduces_S512x512_S512 (.inl rfl) rfl) shapeCasts_S512_S1x512) shapeCasts_S1x512_S1x1x512

theorem topOf_at (w : FVec Ideal S512x512 .f32) (u v : Fin 1) (t : Fin 512) : topOf w (ix3 u v t) = Finset.univ.fold max ⊥ fun s : Fin 512 => w (ix2 s t) := by
  pointwise [topOf]
  simp only [ofBits_bot]

theorem top_store {z : Fin 8 → Fin 512 → Fin 512 → EReal} (h : Fin 8) {w : FVec Ideal S512x512 .f32} (hw : ∀ s t, w (ix2 s t) = z h s t) (inb) (x : S1x1x512.Idx) :
    topOf w x = (fun y : S8x1x512.Idx => top z (y 0) (y 2)) ((Rect.unit (s := S8x1x512) ![h.val, 0, 0] S1x1x512.size inb).emb x) := by
  idx_vars x
  have h0 := x0.isLt
  refine (topOf_at w x0 x1 x2).trans ?_
  simp only [hw]
  refine (row3 h (fun a _ c => top z a c) _ x1 x2 ?_ ?_ ?_).symm
  · show h.val + 1 * x0.val = h.val
    omega
  · show 0 + 1 * x1.val = x1.val
    omega
  · show 0 + 1 * x2.val = x2.val
    omega

end Cert.Fox
-- ==== Proof.FoxKinds.lean ====
/-
  The attention's body on the four kinds of blocks: what it leaves in the buffers that carry the running maxima, sums and
  weighted sums of the values from one block of keys to the next.
-/
module

public import proofs.«01_k».proof.Proof.FoxStep

@[expose] public section

noncomputable section

open Idealize.ShloMosaic Idealize.ShloMosaic.TcCoe Idealize.SL.Sem
open Idealize.ShloMosaic.Pipeline (Dat)

namespace Cert.Fox

open Cert.KernelIdeal Cert.KernelIdeal.Gen Cert.FoxIdeal

/-- The running maximum before the first block. -/
def first : EReal := Ideal.ofBits .f32 0xF149F2CA#32

theorem canon_m (y : S8x1x512.Idx) :
    View.canon [(⟨Rect.unit (s := S8x1x512) ![0, 0, 0] S8x1x512.size inb_S8x1x512_S8x1x512_0_0_0, k0_pay66 (F := Ideal)⟩ : View.Piece (Elt Ideal) S8x1x512 .f32)] y = first := by
  rw [View.canon_unit_zero (S := S8x1x512) (funext fun a => by fin_cases a <;> rfl)]
  idx_vars y
  pointwise [k0_pay66, first]

theorem canon_l (y : S8x1x512.Idx) :
    View.canon [(⟨Rect.unit (s := S8x1x512) ![0, 0, 0] S8x1x512.size inb_S8x1x512_S8x1x512_0_0_0, k0_pay67 (F := Ideal)⟩ : View.Piece (Elt Ideal) S8x1x512 .f32)] y = (0 : EReal) := by
  rw [View.canon_unit_zero (S := S8x1x512) (funext fun a => by fin_cases a <;> rfl)]
  idx_vars y
  pointwise [k0_pay67]

theorem canon_a (y : S1024x512.Idx) :
    View.canon [(⟨Rect.unit (s := S1024x512) ![0, 0] S1024x512.size inb_S1024x512_S1024x512_0_0, k0_pay68 (F := Ideal)⟩ : View.Piece (Elt Ideal) S1024x512 .f32)] y = (0 : EReal) := by
  rw [View.canon_unit_zero (S := S1024x512) (funext fun a => by fin_cases a <;> rfl)]
  idx_vars y
  pointwise [k0_pay68]

/-- What the three carried buffers hold. -/
abbrev maxOf (c : Dev nD) (xa : Buf (Elt Ideal) ((c : Thread nD τ).loc cc0_scratch0)) : Fin 8 → Fin 512 → EReal := fun h x => scM0_0.view.read (Elt Ideal) xa (ix3 h (0 : Fin 1) x)
abbrev sumOf (c : Dev nD) (xa : Buf (Elt Ideal) ((c : Thread nD τ).loc cc0_scratch1)) : Fin 8 → Fin 512 → EReal := fun h x => scM0_1.view.read (Elt Ideal) xa (ix3 h (0 : Fin 1) x)
abbrev accOf (c : Dev nD) (xa : Buf (Elt Ideal) ((c : Thread nD τ).loc cc0_scratch2)) : Fin 1024 → Fin 512 → EReal := fun r x => scM0_2.view.read (Elt Ideal) xa (ix2 r x)

/-- The scores of a block on the diagonal. -/
abbrev diag (x0 : S1x1024x512.Idx → EReal) (x1 : S512x1024.Idx → EReal) (x4 : S512x512.Idx → EReal) (f : Fin 8 → Fin 512 → EReal) : Fin 8 → Fin 512 → Fin 512 → EReal :=
  fun h s t => score x0 x1 f h s t + x4 (ix2 s t)

variable (c : Dev nD) (arg3 : Memref sig .tc .vmem S1x1024x512 .bf16) (arg4 : Memref sig .tc .vmem S512x1024 .bf16) (arg5 : Memref sig .tc .vmem S1x1024x512 .bf16)
  (arg6 : Memref sig .tc .vmem S8x512x128 .f32) (arg7 : Memref sig .tc .vmem S512x512 .f32)
  (x0 : S1x1024x512.Idx → Elt Ideal .bf16) (x1 : S512x1024.Idx → Elt Ideal .bf16) (x2 : S1x1024x512.Idx → Elt Ideal .bf16)
  (x3 : S8x512x128.Idx → Elt Ideal .f32) (x4 : S512x512.Idx → Elt Ideal .f32)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))
  {f : Fin 8 → Fin 512 → EReal} (hf : ∀ h s l, x3 (ix3 h s l) = f h s)

/-! ## The first block of all, on the diagonal -/

section A
include hf in
theorem scores_A (y : S8x512x512.Idx) : View.canon (kernelRun0_A.sl.HS3_8 arg3 arg4 arg6 arg7 x0 x1 x3 x4) y = (diag x0 x1 x4 f) (y 0) (y 1) (y 2) := by
  refine canon_take (fun y : S8x512x512.Idx => (diag x0 x1 x4 f) (y 0) (y 1) (y 2)) 8 (kernelRun0_A.sl.HS3_8 arg3 arg4 arg6 arg7 x0 x1 x3 x4) (fun p hp x => ?_) y (View.cover_of_tiled ((kernelRun0_A.sl.HS3_8 arg3 arg4 arg6 arg7 x0 x1 x3 x4).take 8) S1x512x512.size (by rfl) y)
  change p ∈ [_, _, _, _, _, _, _, _] at hp
  simp only [List.mem_cons, List.not_mem_nil, or_false] at hp
  rcases hp with rfl | rfl | rfl | rfl | rfl | rfl | rfl | rfl
  · exact masked_store hf 7 896 rfl arg3.view arg4.view arg6.view arg7.view (by decide) (by decide) (by decide) (by decide) (by decide) x
  · exact masked_store hf 6 768 rfl arg3.view arg4.view arg6.view arg7.view (by decide) (by decide) (by decide) (by decide) (by decide) x
  · exact masked_store hf 5 640 rfl arg3.view arg4.view arg6.view arg7.view (by decide) (by decide) (by decide) (by decide) (by decide) x
  · exact masked_store hf 4 512 rfl arg3.view arg4.view arg6.view arg7.view (by decide) (by decide) (by decide) (by decide) (by decide) x
  · exact masked_store hf 3 384 rfl arg3.view arg4.view arg6.view arg7.view (by decide) (by decide) (by decide) (by decide) (by decide) x
  · exact masked_store hf 2 256 rfl arg3.view arg4.view arg6.view arg7.view (by decide) (by decide) (by decide) (by decide) (by decide) x
  · exact masked_store hf 1 128 rfl arg3.view arg4.view arg6.view arg7.view (by decide) (by decide) (by decide) (by decide) (by decide) x
  · exact masked_store hf 0 0 rfl arg3.view arg4.view arg6.view arg7.view (by decide) (by decide) (by decide) (by decide) (by decide) x

include hf in
theorem tops_A (y : S8x1x512.Idx) : View.canon (kernelRun0_A.sl.HS4_8 arg3 arg4 arg6 arg7 x0 x1 x3 x4) y = top (diag x0 x1 x4 f) (y 0) (y 2) := by
  refine canon_take (fun y : S8x1x512.Idx => top (diag x0 x1 x4 f) (y 0) (y 2)) 8 (kernelRun0_A.sl.HS4_8 arg3 arg4 arg6 arg7 x0 x1 x3 x4) (fun p hp x => ?_) y (View.cover_of_tiled ((kernelRun0_A.sl.HS4_8 arg3 arg4 arg6 arg7 x0 x1 x3 x4).take 8) S1x1x512.size (by rfl) y)
  change p ∈ [_, _, _, _, _, _, _, _] at hp
  simp only [List.mem_cons, List.not_mem_nil, or_false] at hp
  rcases hp with rfl | rfl | rfl | rfl | rfl | rfl | rfl | rfl
  · dsimp only
    refine top_store 7 ?_ (by decide) x
    exact masked_score hf 7 896 rfl arg3.view arg4.view arg6.view arg7.view (by decide) (by decide) (by decide) (by decide)
  · dsimp only
    refine top_store 6 ?_ (by decide) x
    exact masked_score hf 6 768 rfl arg3.view arg4.view arg6.view arg7.view (by decide) (by decide) (by decide) (by decide)
  · dsimp only
    refine top_store 5 ?_ (by decide) x
    exact masked_score hf 5 640 rfl arg3.view arg4.view arg6.view arg7.view (by decide) (by decide) (by decide) (by decide)
  · dsimp only
    refine top_store 4 ?_ (by decide) x
    exact masked_score hf 4 512 rfl arg3.view arg4.view arg6.view arg7.view (by decide) (by decide) (by decide) (by decide)
  · dsimp only
    refine top_store 3 ?_ (by decide) x
    exact masked_score hf 3 384 rfl arg3.view arg4.view arg6.view arg7.view (by decide) (by decide) (by decide) (by decide)
  · dsimp only [kernelRun0_A.sl.r_4]
    refine top_store 2 ?_ (by decide) x
    exact masked_score hf 2 256 rfl arg3.view arg4.view arg6.view arg7.view (by decide) (by decide) (by decide) (by decide)
  · dsimp only
    refine top_store 1 ?_ (by decide) x
    exact masked_score hf 1 128 rfl arg3.view arg4.view arg6.view arg7.view (by decide) (by decide) (by decide) (by decide)
  · dsimp only
    refine top_store 0 ?_ (by decide) x
    exact masked_score hf 0 0 rfl arg3.view arg4.view arg6.view arg7.view (by decide) (by decide) (by decide) (by decide)

include hf in
theorem maxima_A (y : S8x1x512.Idx) : View.canon (kernelRun0_A.sl.HS0_9 arg3 arg4 arg6 arg7 x0 x1 x3 x4) y = newMax (diag x0 x1 x4 f) (fun _ _ => first) (y 0) (y 2) := by
  have h3 := scores_A arg3 arg4 arg6 arg7 x0 x1 x3 x4 hf
  have h4 := tops_A arg3 arg4 arg6 arg7 x0 x1 x3 x4 hf
  refine canon_take (fun y : S8x1x512.Idx => newMax (diag x0 x1 x4 f) (fun _ _ => first) (y 0) (y 2)) 8 (kernelRun0_A.sl.HS0_9 arg3 arg4 arg6 arg7 x0 x1 x3 x4) (fun p hp x => ?_) y (View.cover_of_tiled ((kernelRun0_A.sl.HS0_9 arg3 arg4 arg6 arg7 x0 x1 x3 x4).take 8) S1x1x512.size (by rfl) y)
  change p ∈ [_, _, _, _, _, _, _, _] at hp
  simp only [List.mem_cons, List.not_mem_nil, or_false] at hp
  rcases hp with rfl | rfl | rfl | rfl | rfl | rfl | rfl | rfl
  · exact max_piece 7 (old4 7 7 (L := kernelRun0_A.sl.HS0_8 arg3 arg4 arg6 arg7 x0 x1 x3 x4) (by rfl) canon_m scM0_0.view (by decide)) (cov4 7 h4 scM0_4.view (by decide)) (by decide) x
  · exact max_piece 6 (old4 6 6 (L := kernelRun0_A.sl.HS0_7 arg3 arg4 arg6 arg7 x0 x1 x3 x4) (by rfl) canon_m scM0_0.view (by decide)) (cov4 6 h4 scM0_4.view (by decide)) (by decide) x
  · exact max_piece 5 (old4 5 5 (L := kernelRun0_A.sl.HS0_6 arg3 arg4 arg6 arg7 x0 x1 x3 x4) (by rfl) canon_m scM0_0.view (by decide)) (cov4 5 h4 scM0_4.view (by decide)) (by decide) x
  · exact max_piece 4 (old4 4 4 (L := kernelRun0_A.sl.HS0_5 arg3 arg4 arg6 arg7 x0 x1 x3 x4) (by rfl) canon_m scM0_0.view (by decide)) (cov4 4 h4 scM0_4.view (by decide)) (by decide) x
  · exact max_piece 3 (old4 3 3 (L := kernelRun0_A.sl.HS0_4 arg3 arg4 arg6 arg7 x0 x1 x3 x4) (by rfl) canon_m scM0_0.view (by decide)) (cov4 3 h4 scM0_4.view (by decide)) (by decide) x
  · exact max_piece 2 (old4 2 2 (L := kernelRun0_A.sl.HS0_3 arg3 arg4 arg6 arg7 x0 x1 x3 x4) (by rfl) canon_m scM0_0.view (by decide)) (cov4 2 h4 scM0_4.view (by decide)) (by decide) x
  · exact max_piece 1 (old4 1 1 (L := kernelRun0_A.sl.HS0_2 arg3 arg4 arg6 arg7 x0 x1 x3 x4) (by rfl) canon_m scM0_0.view (by decide)) (cov4 1 h4 scM0_4.view (by decide)) (by decide) x
  · exact max_piece 0 (old4 0 0 (L := kernelRun0_A.sl.HS0_1) (by rfl) canon_m scM0_0.view (by decide)) (cov4 0 h4 scM0_4.view (by decide)) (by decide) x

include hf in
theorem sums_A (y : S8x1x512.Idx) : View.canon (kernelRun0_A.sl.HS1_9 arg3 arg4 arg5 arg6 arg7 x0 x1 x2 x3 x4) y = newSum (diag x0 x1 x4 f) (fun _ _ => first) (fun _ _ => 0) (y 0) (y 2) := by
  have h3 := scores_A arg3 arg4 arg6 arg7 x0 x1 x3 x4 hf
  have h4 := tops_A arg3 arg4 arg6 arg7 x0 x1 x3 x4 hf
  refine canon_take (fun y : S8x1x512.Idx => newSum (diag x0 x1 x4 f) (fun _ _ => first) (fun _ _ => 0) (y 0) (y 2)) 8 (kernelRun0_A.sl.HS1_9 arg3 arg4 arg5 arg6 arg7 x0 x1 x2 x3 x4) (fun p hp x => ?_) y (View.cover_of_tiled ((kernelRun0_A.sl.HS1_9 arg3 arg4 arg5 arg6 arg7 x0 x1 x2 x3 x4).take 8) S1x1x512.size (by rfl) y)
  change p ∈ [_, _, _, _, _, _, _, _] at hp
  simp only [List.mem_cons, List.not_mem_nil, or_false] at hp
  rcases hp with rfl | rfl | rfl | rfl | rfl | rfl | rfl | rfl
  · exact sum_piece 7 (cov3 7 h3 (by decide)) (old4 7 7 (L := kernelRun0_A.sl.HS0_8 arg3 arg4 arg6 arg7 x0 x1 x3 x4) (by rfl) canon_m scM0_0.view (by decide)) (cov4 7 h4 scM0_4.view (by decide)) (old4 7 7 (L := kernelRun0_A.sl.HS1_8 arg3 arg4 arg5 arg6 arg7 x0 x1 x2 x3 x4) (by rfl) canon_l scM0_1.view (by decide)) (rep1 7 arg5.view x2 896 rfl (by decide)) (by decide) x
  · exact sum_piece 6 (cov3 6 h3 (by decide)) (old4 6 6 (L := kernelRun0_A.sl.HS0_7 arg3 arg4 arg6 arg7 x0 x1 x3 x4) (by rfl) canon_m scM0_0.view (by decide)) (cov4 6 h4 scM0_4.view (by decide)) (old4 6 6 (L := kernelRun0_A.sl.HS1_7 arg3 arg4 arg5 arg6 arg7 x0 x1 x2 x3 x4) (by rfl) canon_l scM0_1.view (by decide)) (rep1 6 arg5.view x2 768 rfl (by decide)) (by decide) x
  · exact sum_piece 5 (cov3 5 h3 (by decide)) (old4 5 5 (L := kernelRun0_A.sl.HS0_6 arg3 arg4 arg6 arg7 x0 x1 x3 x4) (by rfl) canon_m scM0_0.view (by decide)) (cov4 5 h4 scM0_4.view (by decide)) (old4 5 5 (L := kernelRun0_A.sl.HS1_6 arg3 arg4 arg5 arg6 arg7 x0 x1 x2 x3 x4) (by rfl) canon_l scM0_1.view (by decide)) (rep1 5 arg5.view x2 640 rfl (by decide)) (by decide) x
  · exact sum_piece 4 (cov3 4 h3 (by decide)) (old4 4 4 (L := kernelRun0_A.sl.HS0_5 arg3 arg4 arg6 arg7 x0 x1 x3 x4) (by rfl) canon_m scM0_0.view (by decide)) (cov4 4 h4 scM0_4.view (by decide)) (old4 4 4 (L := kernelRun0_A.sl.HS1_5 arg3 arg4 arg5 arg6 arg7 x0 x1 x2 x3 x4) (by rfl) canon_l scM0_1.view (by decide)) (rep1 4 arg5.view x2 512 rfl (by decide)) (by decide) x
  · exact sum_piece 3 (cov3 3 h3 (by decide)) (old4 3 3 (L := kernelRun0_A.sl.HS0_4 arg3 arg4 arg6 arg7 x0 x1 x3 x4) (by rfl) canon_m scM0_0.view (by decide)) (cov4 3 h4 scM0_4.view (by decide)) (old4 3 3 (L := kernelRun0_A.sl.HS1_4 arg3 arg4 arg5 arg6 arg7 x0 x1 x2 x3 x4) (by rfl) canon_l scM0_1.view (by decide)) (rep1 3 arg5.view x2 384 rfl (by decide)) (by decide) x
  · exact sum_piece 2 (cov3 2 h3 (by decide)) (old4 2 2 (L := kernelRun0_A.sl.HS0_3 arg3 arg4 arg6 arg7 x0 x1 x3 x4) (by rfl) canon_m scM0_0.view (by decide)) (cov4 2 h4 scM0_4.view (by decide)) (old4 2 2 (L := kernelRun0_A.sl.HS1_3 arg3 arg4 arg5 arg6 arg7 x0 x1 x2 x3 x4) (by rfl) canon_l scM0_1.view (by decide)) (rep1 2 arg5.view x2 256 rfl (by decide)) (by decide) x
  · exact sum_piece 1 (cov3 1 h3 (by decide)) (old4 1 1 (L := kernelRun0_A.sl.HS0_2 arg3 arg4 arg6 arg7 x0 x1 x3 x4) (by rfl) canon_m scM0_0.view (by decide)) (cov4 1 h4 scM0_4.view (by decide)) (old4 1 1 (L := kernelRun0_A.sl.HS1_2 arg3 arg4 arg5 arg6 arg7 x0 x1 x2 x3 x4) (by rfl) canon_l scM0_1.view (by decide)) (rep1 1 arg5.view x2 128 rfl (by decide)) (by decide) x
  · exact sum_piece 0 (cov3 0 h3 (by decide)) (old4 0 0 (L := kernelRun0_A.sl.HS0_1) (by rfl) canon_m scM0_0.view (by decide)) (cov4 0 h4 scM0_4.view (by decide)) (old4 0 0 (L := kernelRun0_A.sl.HS1_1) (by rfl) canon_l scM0_1.view (by decide)) (rep1 0 arg5.view x2 0 rfl (by decide)) (by decide) x

include hf in
theorem accs_A (y : S1024x512.Idx) : View.canon (kernelRun0_A.sl.HS2_9 arg3 arg4 arg5 arg6 arg7 x0 x1 x2 x3 x4) y = newAcc (diag x0 x1 x4 f) (fun _ _ => first) (fun _ _ => 0) x2 (hd (y 0)) (ln (y 0)) (y 1) := by
  have h3 := scores_A arg3 arg4 arg6 arg7 x0 x1 x3 x4 hf
  have h4 := tops_A arg3 arg4 arg6 arg7 x0 x1 x3 x4 hf
  refine canon_take (fun y : S1024x512.Idx => newAcc (diag x0 x1 x4 f) (fun _ _ => first) (fun _ _ => 0) x2 (hd (y 0)) (ln (y 0)) (y 1)) 8 (kernelRun0_A.sl.HS2_9 arg3 arg4 arg5 arg6 arg7 x0 x1 x2 x3 x4) (fun p hp x => ?_) y (View.cover_of_tiled ((kernelRun0_A.sl.HS2_9 arg3 arg4 arg5 arg6 arg7 x0 x1 x2 x3 x4).take 8) S128x512.size (by rfl) y)
  change p ∈ [_, _, _, _, _, _, _, _] at hp
  simp only [List.mem_cons, List.not_mem_nil, or_false] at hp
  rcases hp with rfl | rfl | rfl | rfl | rfl | rfl | rfl | rfl
  · exact acc_piece 7 896 rfl (cov3 7 h3 (by decide)) (old4 7 7 (L := kernelRun0_A.sl.HS0_8 arg3 arg4 arg6 arg7 x0 x1 x3 x4) (by rfl) canon_m scM0_0.view (by decide)) (cov4 7 h4 scM0_4.view (by decide)) (rep1 7 arg5.view x2 896 rfl (by decide)) (old2 7 896 (L := kernelRun0_A.sl.HS2_8 arg3 arg4 arg5 arg6 arg7 x0 x1 x2 x3 x4) (by rfl) canon_a scM0_2.view (by decide)) (by decide) x
  · exact acc_piece 6 768 rfl (cov3 6 h3 (by decide)) (old4 6 6 (L := kernelRun0_A.sl.HS0_7 arg3 arg4 arg6 arg7 x0 x1 x3 x4) (by rfl) canon_m scM0_0.view (by decide)) (cov4 6 h4 scM0_4.view (by decide)) (rep1 6 arg5.view x2 768 rfl (by decide)) (old2 6 768 (L := kernelRun0_A.sl.HS2_7 arg3 arg4 arg5 arg6 arg7 x0 x1 x2 x3 x4) (by rfl) canon_a scM0_2.view (by decide)) (by decide) x
  · exact acc_piece 5 640 rfl (cov3 5 h3 (by decide)) (old4 5 5 (L := kernelRun0_A.sl.HS0_6 arg3 arg4 arg6 arg7 x0 x1 x3 x4) (by rfl) canon_m scM0_0.view (by decide)) (cov4 5 h4 scM0_4.view (by decide)) (rep1 5 arg5.view x2 640 rfl (by decide)) (old2 5 640 (L := kernelRun0_A.sl.HS2_6 arg3 arg4 arg5 arg6 arg7 x0 x1 x2 x3 x4) (by rfl) canon_a scM0_2.view (by decide)) (by decide) x
  · exact acc_piece 4 512 rfl (cov3 4 h3 (by decide)) (old4 4 4 (L := kernelRun0_A.sl.HS0_5 arg3 arg4 arg6 arg7 x0 x1 x3 x4) (by rfl) canon_m scM0_0.view (by decide)) (cov4 4 h4 scM0_4.view (by decide)) (rep1 4 arg5.view x2 512 rfl (by decide)) (old2 4 512 (L := kernelRun0_A.sl.HS2_5 arg3 arg4 arg5 arg6 arg7 x0 x1 x2 x3 x4) (by rfl) canon_a scM0_2.view (by decide)) (by decide) x
  · exact acc_piece 3 384 rfl (cov3 3 h3 (by decide)) (old4 3 3 (L := kernelRun0_A.sl.HS0_4 arg3 arg4 arg6 arg7 x0 x1 x3 x4) (by rfl) canon_m scM0_0.view (by decide)) (cov4 3 h4 scM0_4.view (by decide)) (rep1 3 arg5.view x2 384 rfl (by decide)) (old2 3 384 (L := kernelRun0_A.sl.HS2_4 arg3 arg4 arg5 arg6 arg7 x0 x1 x2 x3 x4) (by rfl) canon_a scM0_2.view (by decide)) (by decide) x
  · exact acc_piece 2 256 rfl (cov3 2 h3 (by decide)) (old4 2 2 (L := kernelRun0_A.sl.HS0_3 arg3 arg4 arg6 arg7 x0 x1 x3 x4) (by rfl) canon_m scM0_0.view (by decide)) (cov4 2 h4 scM0_4.view (by decide)) (rep1 2 arg5.view x2 256 rfl (by decide)) (old2 2 256 (L := kernelRun0_A.sl.HS2_3 arg3 arg4 arg5 arg6 arg7 x0 x1 x2 x3 x4) (by rfl) canon_a scM0_2.view (by decide)) (by decide) x
  · exact acc_piece 1 128 rfl (cov3 1 h3 (by decide)) (old4 1 1 (L := kernelRun0_A.sl.HS0_2 arg3 arg4 arg6 arg7 x0 x1 x3 x4) (by rfl) canon_m scM0_0.view (by decide)) (cov4 1 h4 scM0_4.view (by decide)) (rep1 1 arg5.view x2 128 rfl (by decide)) (old2 1 128 (L := kernelRun0_A.sl.HS2_2 arg3 arg4 arg5 arg6 arg7 x0 x1 x2 x3 x4) (by rfl) canon_a scM0_2.view (by decide)) (by decide) x
  · exact acc_piece 0 0 rfl (cov3 0 h3 (by decide)) (old4 0 0 (L := kernelRun0_A.sl.HS0_1) (by rfl) canon_m scM0_0.view (by decide)) (cov4 0 h4 scM0_4.view (by decide)) (rep1 0 arg5.view x2 0 rfl (by decide)) (old2 0 0 (L := kernelRun0_A.sl.HS2_1) (by rfl) canon_a scM0_2.view (by decide)) (by decide) x

theorem outs_A {a : Fin 1024 → Fin 512 → EReal} {l : Fin 8 → Fin 512 → EReal} (h2 : ∀ y : S1024x512.Idx, View.canon (kernelRun0_A.sl.HS2_9 arg3 arg4 arg5 arg6 arg7 x0 x1 x2 x3 x4) y = a (y 0) (y 1))
    (h1 : ∀ y : S8x1x512.Idx, View.canon (kernelRun0_A.sl.HS1_9 arg3 arg4 arg5 arg6 arg7 x0 x1 x2 x3 x4) y = l (y 0) (y 2)) (y : S1x1024x512.Idx) :
    View.canon (kernelRun0_A.sl.HO6_8 arg3 arg4 arg5 arg6 arg7 x0 x1 x2 x3 x4) y = Ideal.div (a (y 1) (y 2)) (l (hd (y 1)) (y 2)) := by
  refine canon_take (fun y : S1x1024x512.Idx => Ideal.div (a (y 1) (y 2)) (l (hd (y 1)) (y 2))) 8 (kernelRun0_A.sl.HO6_8 arg3 arg4 arg5 arg6 arg7 x0 x1 x2 x3 x4) (fun p hp x => ?_) y (View.cover_of_tiled ((kernelRun0_A.sl.HO6_8 arg3 arg4 arg5 arg6 arg7 x0 x1 x2 x3 x4).take 8) S1x128x512.size (by rfl) y)
  change p ∈ [_, _, _, _, _, _, _, _] at hp
  simp only [List.mem_cons, List.not_mem_nil, or_false] at hp
  rcases hp with rfl | rfl | rfl | rfl | rfl | rfl | rfl | rfl
  · exact out_piece 7 896 rfl (cov2 7 h2 scM0_2.view 896 rfl (by decide)) (cov4 7 h1 scM0_1.view (by decide)) (by decide) x
  · exact out_piece 6 768 rfl (cov2 6 h2 scM0_2.view 768 rfl (by decide)) (cov4 6 h1 scM0_1.view (by decide)) (by decide) x
  · exact out_piece 5 640 rfl (cov2 5 h2 scM0_2.view 640 rfl (by decide)) (cov4 5 h1 scM0_1.view (by decide)) (by decide) x
  · exact out_piece 4 512 rfl (cov2 4 h2 scM0_2.view 512 rfl (by decide)) (cov4 4 h1 scM0_1.view (by decide)) (by decide) x
  · exact out_piece 3 384 rfl (cov2 3 h2 scM0_2.view 384 rfl (by decide)) (cov4 3 h1 scM0_1.view (by decide)) (by decide) x
  · exact out_piece 2 256 rfl (cov2 2 h2 scM0_2.view 256 rfl (by decide)) (cov4 2 h1 scM0_1.view (by decide)) (by decide) x
  · exact out_piece 1 128 rfl (cov2 1 h2 scM0_2.view 128 rfl (by decide)) (cov4 1 h1 scM0_1.view (by decide)) (by decide) x
  · exact out_piece 0 0 rfl (cov2 0 h2 scM0_2.view 0 rfl (by decide)) (cov4 0 h1 scM0_1.view (by decide)) (by decide) x

end A

/-! ## The first block of a row -/

section B
include hf in
theorem scores_B (y : S8x512x512.Idx) : View.canon (kernelRun0_B.sl.HS3_8 arg3 arg4 arg6 x0 x1 x3) y = (score x0 x1 f) (y 0) (y 1) (y 2) := by
  refine canon_take (fun y : S8x512x512.Idx => (score x0 x1 f) (y 0) (y 1) (y 2)) 8 (kernelRun0_B.sl.HS3_8 arg3 arg4 arg6 x0 x1 x3) (fun p hp x => ?_) y (View.cover_of_tiled ((kernelRun0_B.sl.HS3_8 arg3 arg4 arg6 x0 x1 x3).take 8) S1x512x512.size (by rfl) y)
  change p ∈ [_, _, _, _, _, _, _, _] at hp
  simp only [List.mem_cons, List.not_mem_nil, or_false] at hp
  rcases hp with rfl | rfl | rfl | rfl | rfl | rfl | rfl | rfl
  · exact raw_store hf 7 896 rfl arg3.view arg4.view arg6.view (by decide) (by decide) (by decide) (by decide) x
  · exact raw_store hf 6 768 rfl arg3.view arg4.view arg6.view (by decide) (by decide) (by decide) (by decide) x
  · exact raw_store hf 5 640 rfl arg3.view arg4.view arg6.view (by decide) (by decide) (by decide) (by decide) x
  · exact raw_store hf 4 512 rfl arg3.view arg4.view arg6.view (by decide) (by decide) (by decide) (by decide) x
  · exact raw_store hf 3 384 rfl arg3.view arg4.view arg6.view (by decide) (by decide) (by decide) (by decide) x
  · exact raw_store hf 2 256 rfl arg3.view arg4.view arg6.view (by decide) (by decide) (by decide) (by decide) x
  · exact raw_store hf 1 128 rfl arg3.view arg4.view arg6.view (by decide) (by decide) (by decide) (by decide) x
  · exact raw_store hf 0 0 rfl arg3.view arg4.view arg6.view (by decide) (by decide) (by decide) (by decide) x

include hf in
theorem tops_B (y : S8x1x512.Idx) : View.canon (kernelRun0_B.sl.HS4_8 arg3 arg4 arg6 x0 x1 x3) y = top (score x0 x1 f) (y 0) (y 2) := by
  refine canon_take (fun y : S8x1x512.Idx => top (score x0 x1 f) (y 0) (y 2)) 8 (kernelRun0_B.sl.HS4_8 arg3 arg4 arg6 x0 x1 x3) (fun p hp x => ?_) y (View.cover_of_tiled ((kernelRun0_B.sl.HS4_8 arg3 arg4 arg6 x0 x1 x3).take 8) S1x1x512.size (by rfl) y)
  change p ∈ [_, _, _, _, _, _, _, _] at hp
  simp only [List.mem_cons, List.not_mem_nil, or_false] at hp
  rcases hp with rfl | rfl | rfl | rfl | rfl | rfl | rfl | rfl
  · dsimp only
    refine top_store 7 ?_ (by decide) x
    exact raw_score hf 7 896 rfl arg3.view arg4.view arg6.view (by decide) (by decide) (by decide)
  · dsimp only
    refine top_store 6 ?_ (by decide) x
    exact raw_score hf 6 768 rfl arg3.view arg4.view arg6.view (by decide) (by decide) (by decide)
  · dsimp only
    refine top_store 5 ?_ (by decide) x
    exact raw_score hf 5 640 rfl arg3.view arg4.view arg6.view (by decide) (by decide) (by decide)
  · dsimp only [kernelRun0_B.sl.r_5]
    refine top_store 4 ?_ (by decide) x
    exact raw_score hf 4 512 rfl arg3.view arg4.view arg6.view (by decide) (by decide) (by decide)
  · dsimp only
    refine top_store 3 ?_ (by decide) x
    exact raw_score hf 3 384 rfl arg3.view arg4.view arg6.view (by decide) (by decide) (by decide)
  · dsimp only
    refine top_store 2 ?_ (by decide) x
    exact raw_score hf 2 256 rfl arg3.view arg4.view arg6.view (by decide) (by decide) (by decide)
  · dsimp only
    refine top_store 1 ?_ (by decide) x
    exact raw_score hf 1 128 rfl arg3.view arg4.view arg6.view (by decide) (by decide) (by decide)
  · dsimp only
    refine top_store 0 ?_ (by decide) x
    exact raw_score hf 0 0 rfl arg3.view arg4.view arg6.view (by decide) (by decide) (by decide)

include hf in
theorem maxima_B (y : S8x1x512.Idx) : View.canon (kernelRun0_B.sl.HS0_9 arg3 arg4 arg6 x0 x1 x3) y = newMax (score x0 x1 f) (fun _ _ => first) (y 0) (y 2) := by
  have h3 := scores_B arg3 arg4 arg6 x0 x1 x3 hf
  have h4 := tops_B arg3 arg4 arg6 x0 x1 x3 hf
  refine canon_take (fun y : S8x1x512.Idx => newMax (score x0 x1 f) (fun _ _ => first) (y 0) (y 2)) 8 (kernelRun0_B.sl.HS0_9 arg3 arg4 arg6 x0 x1 x3) (fun p hp x => ?_) y (View.cover_of_tiled ((kernelRun0_B.sl.HS0_9 arg3 arg4 arg6 x0 x1 x3).take 8) S1x1x512.size (by rfl) y)
  change p ∈ [_, _, _, _, _, _, _, _] at hp
  simp only [List.mem_cons, List.not_mem_nil, or_false] at hp
  rcases hp with rfl | rfl | rfl | rfl | rfl | rfl | rfl | rfl
  · exact max_piece 7 (old4 7 7 (L := kernelRun0_B.sl.HS0_8 arg3 arg4 arg6 x0 x1 x3) (by rfl) canon_m scM0_0.view (by decide)) (cov4 7 h4 scM0_4.view (by decide)) (by decide) x
  · exact max_piece 6 (old4 6 6 (L := kernelRun0_B.sl.HS0_7 arg3 arg4 arg6 x0 x1 x3) (by rfl) canon_m scM0_0.view (by decide)) (cov4 6 h4 scM0_4.view (by decide)) (by decide) x
  · exact max_piece 5 (old4 5 5 (L := kernelRun0_B.sl.HS0_6 arg3 arg4 arg6 x0 x1 x3) (by rfl) canon_m scM0_0.view (by decide)) (cov4 5 h4 scM0_4.view (by decide)) (by decide) x
  · exact max_piece 4 (old4 4 4 (L := kernelRun0_B.sl.HS0_5 arg3 arg4 arg6 x0 x1 x3) (by rfl) canon_m scM0_0.view (by decide)) (cov4 4 h4 scM0_4.view (by decide)) (by decide) x
  · exact max_piece 3 (old4 3 3 (L := kernelRun0_B.sl.HS0_4 arg3 arg4 arg6 x0 x1 x3) (by rfl) canon_m scM0_0.view (by decide)) (cov4 3 h4 scM0_4.view (by decide)) (by decide) x
  · exact max_piece 2 (old4 2 2 (L := kernelRun0_B.sl.HS0_3 arg3 arg4 arg6 x0 x1 x3) (by rfl) canon_m scM0_0.view (by decide)) (cov4 2 h4 scM0_4.view (by decide)) (by decide) x
  · exact max_piece 1 (old4 1 1 (L := kernelRun0_B.sl.HS0_2 arg3 arg4 arg6 x0 x1 x3) (by rfl) canon_m scM0_0.view (by decide)) (cov4 1 h4 scM0_4.view (by decide)) (by decide) x
  · exact max_piece 0 (old4 0 0 (L := kernelRun0_B.sl.HS0_1) (by rfl) canon_m scM0_0.view (by decide)) (cov4 0 h4 scM0_4.view (by decide)) (by decide) x

include hf in
theorem sums_B (y : S8x1x512.Idx) : View.canon (kernelRun0_B.sl.HS1_9 arg3 arg4 arg5 arg6 x0 x1 x2 x3) y = newSum (score x0 x1 f) (fun _ _ => first) (fun _ _ => 0) (y 0) (y 2) := by
  have h3 := scores_B arg3 arg4 arg6 x0 x1 x3 hf
  have h4 := tops_B arg3 arg4 arg6 x0 x1 x3 hf
  refine canon_take (fun y : S8x1x512.Idx => newSum (score x0 x1 f) (fun _ _ => first) (fun _ _ => 0) (y 0) (y 2)) 8 (kernelRun0_B.sl.HS1_9 arg3 arg4 arg5 arg6 x0 x1 x2 x3) (fun p hp x => ?_) y (View.cover_of_tiled ((kernelRun0_B.sl.HS1_9 arg3 arg4 arg5 arg6 x0 x1 x2 x3).take 8) S1x1x512.size (by rfl) y)
  change p ∈ [_, _, _, _, _, _, _, _] at hp
  simp only [List.mem_cons, List.not_mem_nil, or_false] at hp
  rcases hp with rfl | rfl | rfl | rfl | rfl | rfl | rfl | rfl
  · exact sum_piece 7 (cov3 7 h3 (by decide)) (old4 7 7 (L := kernelRun0_B.sl.HS0_8 arg3 arg4 arg6 x0 x1 x3) (by rfl) canon_m scM0_0.view (by decide)) (cov4 7 h4 scM0_4.view (by decide)) (old4 7 7 (L := kernelRun0_B.sl.HS1_8 arg3 arg4 arg5 arg6 x0 x1 x2 x3) (by rfl) canon_l scM0_1.view (by decide)) (rep1 7 arg5.view x2 896 rfl (by decide)) (by decide) x
  · exact sum_piece 6 (cov3 6 h3 (by decide)) (old4 6 6 (L := kernelRun0_B.sl.HS0_7 arg3 arg4 arg6 x0 x1 x3) (by rfl) canon_m scM0_0.view (by decide)) (cov4 6 h4 scM0_4.view (by decide)) (old4 6 6 (L := kernelRun0_B.sl.HS1_7 arg3 arg4 arg5 arg6 x0 x1 x2 x3) (by rfl) canon_l scM0_1.view (by decide)) (rep1 6 arg5.view x2 768 rfl (by decide)) (by decide) x
  · exact sum_piece 5 (cov3 5 h3 (by decide)) (old4 5 5 (L := kernelRun0_B.sl.HS0_6 arg3 arg4 arg6 x0 x1 x3) (by rfl) canon_m scM0_0.view (by decide)) (cov4 5 h4 scM0_4.view (by decide)) (old4 5 5 (L := kernelRun0_B.sl.HS1_6 arg3 arg4 arg5 arg6 x0 x1 x2 x3) (by rfl) canon_l scM0_1.view (by decide)) (rep1 5 arg5.view x2 640 rfl (by decide)) (by decide) x
  · exact sum_piece 4 (cov3 4 h3 (by decide)) (old4 4 4 (L := kernelRun0_B.sl.HS0_5 arg3 arg4 arg6 x0 x1 x3) (by rfl) canon_m scM0_0.view (by decide)) (cov4 4 h4 scM0_4.view (by decide)) (old4 4 4 (L := kernelRun0_B.sl.HS1_5 arg3 arg4 arg5 arg6 x0 x1 x2 x3) (by rfl) canon_l scM0_1.view (by decide)) (rep1 4 arg5.view x2 512 rfl (by decide)) (by decide) x
  · exact sum_piece 3 (cov3 3 h3 (by decide)) (old4 3 3 (L := kernelRun0_B.sl.HS0_4 arg3 arg4 arg6 x0 x1 x3) (by rfl) canon_m scM0_0.view (by decide)) (cov4 3 h4 scM0_4.view (by decide)) (old4 3 3 (L := kernelRun0_B.sl.HS1_4 arg3 arg4 arg5 arg6 x0 x1 x2 x3) (by rfl) canon_l scM0_1.view (by decide)) (rep1 3 arg5.view x2 384 rfl (by decide)) (by decide) x
  · exact sum_piece 2 (cov3 2 h3 (by decide)) (old4 2 2 (L := kernelRun0_B.sl.HS0_3 arg3 arg4 arg6 x0 x1 x3) (by rfl) canon_m scM0_0.view (by decide)) (cov4 2 h4 scM0_4.view (by decide)) (old4 2 2 (L := kernelRun0_B.sl.HS1_3 arg3 arg4 arg5 arg6 x0 x1 x2 x3) (by rfl) canon_l scM0_1.view (by decide)) (rep1 2 arg5.view x2 256 rfl (by decide)) (by decide) x
  · exact sum_piece 1 (cov3 1 h3 (by decide)) (old4 1 1 (L := kernelRun0_B.sl.HS0_2 arg3 arg4 arg6 x0 x1 x3) (by rfl) canon_m scM0_0.view (by decide)) (cov4 1 h4 scM0_4.view (by decide)) (old4 1 1 (L := kernelRun0_B.sl.HS1_2 arg3 arg4 arg5 arg6 x0 x1 x2 x3) (by rfl) canon_l scM0_1.view (by decide)) (rep1 1 arg5.view x2 128 rfl (by decide)) (by decide) x
  · exact sum_piece 0 (cov3 0 h3 (by decide)) (old4 0 0 (L := kernelRun0_B.sl.HS0_1) (by rfl) canon_m scM0_0.view (by decide)) (cov4 0 h4 scM0_4.view (by decide)) (old4 0 0 (L := kernelRun0_B.sl.HS1_1) (by rfl) canon_l scM0_1.view (by decide)) (rep1 0 arg5.view x2 0 rfl (by decide)) (by decide) x

include hf in
theorem accs_B (y : S1024x512.Idx) : View.canon (kernelRun0_B.sl.HS2_9 arg3 arg4 arg5 arg6 x0 x1 x2 x3) y = newAcc (score x0 x1 f) (fun _ _ => first) (fun _ _ => 0) x2 (hd (y 0)) (ln (y 0)) (y 1) := by
  have h3 := scores_B arg3 arg4 arg6 x0 x1 x3 hf
  have h4 := tops_B arg3 arg4 arg6 x0 x1 x3 hf
  refine canon_take (fun y : S1024x512.Idx => newAcc (score x0 x1 f) (fun _ _ => first) (fun _ _ => 0) x2 (hd (y 0)) (ln (y 0)) (y 1)) 8 (kernelRun0_B.sl.HS2_9 arg3 arg4 arg5 arg6 x0 x1 x2 x3) (fun p hp x => ?_) y (View.cover_of_tiled ((kernelRun0_B.sl.HS2_9 arg3 arg4 arg5 arg6 x0 x1 x2 x3).take 8) S128x512.size (by rfl) y)
  change p ∈ [_, _, _, _, _, _, _, _] at hp
  simp only [List.mem_cons, List.not_mem_nil, or_false] at hp
  rcases hp with rfl | rfl | rfl | rfl | rfl | rfl | rfl | rfl
  · exact acc_piece 7 896 rfl (cov3 7 h3 (by decide)) (old4 7 7 (L := kernelRun0_B.sl.HS0_8 arg3 arg4 arg6 x0 x1 x3) (by rfl) canon_m scM0_0.view (by decide)) (cov4 7 h4 scM0_4.view (by decide)) (rep1 7 arg5.view x2 896 rfl (by decide)) (old2 7 896 (L := kernelRun0_B.sl.HS2_8 arg3 arg4 arg5 arg6 x0 x1 x2 x3) (by rfl) canon_a scM0_2.view (by decide)) (by decide) x
  · exact acc_piece 6 768 rfl (cov3 6 h3 (by decide)) (old4 6 6 (L := kernelRun0_B.sl.HS0_7 arg3 arg4 arg6 x0 x1 x3) (by rfl) canon_m scM0_0.view (by decide)) (cov4 6 h4 scM0_4.view (by decide)) (rep1 6 arg5.view x2 768 rfl (by decide)) (old2 6 768 (L := kernelRun0_B.sl.HS2_7 arg3 arg4 arg5 arg6 x0 x1 x2 x3) (by rfl) canon_a scM0_2.view (by decide)) (by decide) x
  · exact acc_piece 5 640 rfl (cov3 5 h3 (by decide)) (old4 5 5 (L := kernelRun0_B.sl.HS0_6 arg3 arg4 arg6 x0 x1 x3) (by rfl) canon_m scM0_0.view (by decide)) (cov4 5 h4 scM0_4.view (by decide)) (rep1 5 arg5.view x2 640 rfl (by decide)) (old2 5 640 (L := kernelRun0_B.sl.HS2_6 arg3 arg4 arg5 arg6 x0 x1 x2 x3) (by rfl) canon_a scM0_2.view (by decide)) (by decide) x
  · exact acc_piece 4 512 rfl (cov3 4 h3 (by decide)) (old4 4 4 (L := kernelRun0_B.sl.HS0_5 arg3 arg4 arg6 x0 x1 x3) (by rfl) canon_m scM0_0.view (by decide)) (cov4 4 h4 scM0_4.view (by decide)) (rep1 4 arg5.view x2 512 rfl (by decide)) (old2 4 512 (L := kernelRun0_B.sl.HS2_5 arg3 arg4 arg5 arg6 x0 x1 x2 x3) (by rfl) canon_a scM0_2.view (by decide)) (by decide) x
  · exact acc_piece 3 384 rfl (cov3 3 h3 (by decide)) (old4 3 3 (L := kernelRun0_B.sl.HS0_4 arg3 arg4 arg6 x0 x1 x3) (by rfl) canon_m scM0_0.view (by decide)) (cov4 3 h4 scM0_4.view (by decide)) (rep1 3 arg5.view x2 384 rfl (by decide)) (old2 3 384 (L := kernelRun0_B.sl.HS2_4 arg3 arg4 arg5 arg6 x0 x1 x2 x3) (by rfl) canon_a scM0_2.view (by decide)) (by decide) x
  · exact acc_piece 2 256 rfl (cov3 2 h3 (by decide)) (old4 2 2 (L := kernelRun0_B.sl.HS0_3 arg3 arg4 arg6 x0 x1 x3) (by rfl) canon_m scM0_0.view (by decide)) (cov4 2 h4 scM0_4.view (by decide)) (rep1 2 arg5.view x2 256 rfl (by decide)) (old2 2 256 (L := kernelRun0_B.sl.HS2_3 arg3 arg4 arg5 arg6 x0 x1 x2 x3) (by rfl) canon_a scM0_2.view (by decide)) (by decide) x
  · exact acc_piece 1 128 rfl (cov3 1 h3 (by decide)) (old4 1 1 (L := kernelRun0_B.sl.HS0_2 arg3 arg4 arg6 x0 x1 x3) (by rfl) canon_m scM0_0.view (by decide)) (cov4 1 h4 scM0_4.view (by decide)) (rep1 1 arg5.view x2 128 rfl (by decide)) (old2 1 128 (L := kernelRun0_B.sl.HS2_2 arg3 arg4 arg5 arg6 x0 x1 x2 x3) (by rfl) canon_a scM0_2.view (by decide)) (by decide) x
  · exact acc_piece 0 0 rfl (cov3 0 h3 (by decide)) (old4 0 0 (L := kernelRun0_B.sl.HS0_1) (by rfl) canon_m scM0_0.view (by decide)) (cov4 0 h4 scM0_4.view (by decide)) (rep1 0 arg5.view x2 0 rfl (by decide)) (old2 0 0 (L := kernelRun0_B.sl.HS2_1) (by rfl) canon_a scM0_2.view (by decide)) (by decide) x

end B

/-! ## A block on the diagonal -/

section C
include hf in
theorem scores_C (y : S8x512x512.Idx) : View.canon (kernelRun0_C.sl.HS3_8 arg3 arg4 arg6 arg7 x0 x1 x3 x4) y = (diag x0 x1 x4 f) (y 0) (y 1) (y 2) := by
  refine canon_take (fun y : S8x512x512.Idx => (diag x0 x1 x4 f) (y 0) (y 1) (y 2)) 8 (kernelRun0_C.sl.HS3_8 arg3 arg4 arg6 arg7 x0 x1 x3 x4) (fun p hp x => ?_) y (View.cover_of_tiled ((kernelRun0_C.sl.HS3_8 arg3 arg4 arg6 arg7 x0 x1 x3 x4).take 8) S1x512x512.size (by rfl) y)
  change p ∈ [_, _, _, _, _, _, _, _] at hp
  simp only [List.mem_cons, List.not_mem_nil, or_false] at hp
  rcases hp with rfl | rfl | rfl | rfl | rfl | rfl | rfl | rfl
  · exact masked_store hf 7 896 rfl arg3.view arg4.view arg6.view arg7.view (by decide) (by decide) (by decide) (by decide) (by decide) x
  · exact masked_store hf 6 768 rfl arg3.view arg4.view arg6.view arg7.view (by decide) (by decide) (by decide) (by decide) (by decide) x
  · exact masked_store hf 5 640 rfl arg3.view arg4.view arg6.view arg7.view (by decide) (by decide) (by decide) (by decide) (by decide) x
  · exact masked_store hf 4 512 rfl arg3.view arg4.view arg6.view arg7.view (by decide) (by decide) (by decide) (by decide) (by decide) x
  · exact masked_store hf 3 384 rfl arg3.view arg4.view arg6.view arg7.view (by decide) (by decide) (by decide) (by decide) (by decide) x
  · exact masked_store hf 2 256 rfl arg3.view arg4.view arg6.view arg7.view (by decide) (by decide) (by decide) (by decide) (by decide) x
  · exact masked_store hf 1 128 rfl arg3.view arg4.view arg6.view arg7.view (by decide) (by decide) (by decide) (by decide) (by decide) x
  · exact masked_store hf 0 0 rfl arg3.view arg4.view arg6.view arg7.view (by decide) (by decide) (by decide) (by decide) (by decide) x

include hf in
theorem tops_C (y : S8x1x512.Idx) : View.canon (kernelRun0_C.sl.HS4_8 arg3 arg4 arg6 arg7 x0 x1 x3 x4) y = top (diag x0 x1 x4 f) (y 0) (y 2) := by
  refine canon_take (fun y : S8x1x512.Idx => top (diag x0 x1 x4 f) (y 0) (y 2)) 8 (kernelRun0_C.sl.HS4_8 arg3 arg4 arg6 arg7 x0 x1 x3 x4) (fun p hp x => ?_) y (View.cover_of_tiled ((kernelRun0_C.sl.HS4_8 arg3 arg4 arg6 arg7 x0 x1 x3 x4).take 8) S1x1x512.size (by rfl) y)
  change p ∈ [_, _, _, _, _, _, _, _] at hp
  simp only [List.mem_cons, List.not_mem_nil, or_false] at hp
  rcases hp with rfl | rfl | rfl | rfl | rfl | rfl | rfl | rfl
  · dsimp only
    refine top_store 7 ?_ (by decide) x
    exact masked_score hf 7 896 rfl arg3.view arg4.view arg6.view arg7.view (by decide) (by decide) (by decide) (by decide)
  · dsimp only
    refine top_store 6 ?_ (by decide) x
    exact masked_score hf 6 768 rfl arg3.view arg4.view arg6.view arg7.view (by decide) (by decide) (by decide) (by decide)
  · dsimp only
    refine top_store 5 ?_ (by decide) x
    exact masked_score hf 5 640 rfl arg3.view arg4.view arg6.view arg7.view (by decide) (by decide) (by decide) (by decide)
  · dsimp only
    refine top_store 4 ?_ (by decide) x
    exact masked_score hf 4 512 rfl arg3.view arg4.view arg6.view arg7.view (by decide) (by decide) (by decide) (by decide)
  · dsimp only
    refine top_store 3 ?_ (by decide) x
    exact masked_score hf 3 384 rfl arg3.view arg4.view arg6.view arg7.view (by decide) (by decide) (by decide) (by decide)
  · dsimp only [kernelRun0_C.sl.r_4]
    refine top_store 2 ?_ (by decide) x
    exact masked_score hf 2 256 rfl arg3.view arg4.view arg6.view arg7.view (by decide) (by decide) (by decide) (by decide)
  · dsimp only
    refine top_store 1 ?_ (by decide) x
    exact masked_score hf 1 128 rfl arg3.view arg4.view arg6.view arg7.view (by decide) (by decide) (by decide) (by decide)
  · dsimp only
    refine top_store 0 ?_ (by decide) x
    exact masked_score hf 0 0 rfl arg3.view arg4.view arg6.view arg7.view (by decide) (by decide) (by decide) (by decide)

include hf in
theorem maxima_C (y : S8x1x512.Idx) : View.canon (kernelRun0_C.sl.HS0_8 c arg3 arg4 arg6 arg7 x0 x1 x3 x4 xa0) y = newMax (diag x0 x1 x4 f) (maxOf c xa0) (y 0) (y 2) := by
  have h3 := scores_C arg3 arg4 arg6 arg7 x0 x1 x3 x4 hf
  have h4 := tops_C arg3 arg4 arg6 arg7 x0 x1 x3 x4 hf
  refine canon_take (fun y : S8x1x512.Idx => newMax (diag x0 x1 x4 f) (maxOf c xa0) (y 0) (y 2)) 8 (kernelRun0_C.sl.HS0_8 c arg3 arg4 arg6 arg7 x0 x1 x3 x4 xa0) (fun p hp x => ?_) y (View.cover_of_tiled ((kernelRun0_C.sl.HS0_8 c arg3 arg4 arg6 arg7 x0 x1 x3 x4 xa0).take 8) S1x1x512.size (by rfl) y)
  change p ∈ [_, _, _, _, _, _, _, _] at hp
  simp only [List.mem_cons, List.not_mem_nil, or_false] at hp
  rcases hp with rfl | rfl | rfl | rfl | rfl | rfl | rfl | rfl
  · exact max_piece 7 (at4 7 scM0_0.view xa0 (by decide)) (cov4 7 h4 scM0_4.view (by decide)) (by decide) x
  · exact max_piece 6 (at4 6 scM0_0.view xa0 (by decide)) (cov4 6 h4 scM0_4.view (by decide)) (by decide) x
  · exact max_piece 5 (at4 5 scM0_0.view xa0 (by decide)) (cov4 5 h4 scM0_4.view (by decide)) (by decide) x
  · exact max_piece 4 (at4 4 scM0_0.view xa0 (by decide)) (cov4 4 h4 scM0_4.view (by decide)) (by decide) x
  · exact max_piece 3 (at4 3 scM0_0.view xa0 (by decide)) (cov4 3 h4 scM0_4.view (by decide)) (by decide) x
  · exact max_piece 2 (at4 2 scM0_0.view xa0 (by decide)) (cov4 2 h4 scM0_4.view (by decide)) (by decide) x
  · exact max_piece 1 (at4 1 scM0_0.view xa0 (by decide)) (cov4 1 h4 scM0_4.view (by decide)) (by decide) x
  · exact max_piece 0 (at4 0 scM0_0.view xa0 (by decide)) (cov4 0 h4 scM0_4.view (by decide)) (by decide) x

include hf in
theorem sums_C (y : S8x1x512.Idx) : View.canon (kernelRun0_C.sl.HS1_8 c arg3 arg4 arg5 arg6 arg7 x0 x1 x2 x3 x4 xa0 xa1) y = newSum (diag x0 x1 x4 f) (maxOf c xa0) (sumOf c xa1) (y 0) (y 2) := by
  have h3 := scores_C arg3 arg4 arg6 arg7 x0 x1 x3 x4 hf
  have h4 := tops_C arg3 arg4 arg6 arg7 x0 x1 x3 x4 hf
  refine canon_take (fun y : S8x1x512.Idx => newSum (diag x0 x1 x4 f) (maxOf c xa0) (sumOf c xa1) (y 0) (y 2)) 8 (kernelRun0_C.sl.HS1_8 c arg3 arg4 arg5 arg6 arg7 x0 x1 x2 x3 x4 xa0 xa1) (fun p hp x => ?_) y (View.cover_of_tiled ((kernelRun0_C.sl.HS1_8 c arg3 arg4 arg5 arg6 arg7 x0 x1 x2 x3 x4 xa0 xa1).take 8) S1x1x512.size (by rfl) y)
  change p ∈ [_, _, _, _, _, _, _, _] at hp
  simp only [List.mem_cons, List.not_mem_nil, or_false] at hp
  rcases hp with rfl | rfl | rfl | rfl | rfl | rfl | rfl | rfl
  · exact sum_piece 7 (cov3 7 h3 (by decide)) (at4 7 scM0_0.view xa0 (by decide)) (cov4 7 h4 scM0_4.view (by decide)) (at4 7 scM0_1.view xa1 (by decide)) (rep1 7 arg5.view x2 896 rfl (by decide)) (by decide) x
  · exact sum_piece 6 (cov3 6 h3 (by decide)) (at4 6 scM0_0.view xa0 (by decide)) (cov4 6 h4 scM0_4.view (by decide)) (at4 6 scM0_1.view xa1 (by decide)) (rep1 6 arg5.view x2 768 rfl (by decide)) (by decide) x
  · exact sum_piece 5 (cov3 5 h3 (by decide)) (at4 5 scM0_0.view xa0 (by decide)) (cov4 5 h4 scM0_4.view (by decide)) (at4 5 scM0_1.view xa1 (by decide)) (rep1 5 arg5.view x2 640 rfl (by decide)) (by decide) x
  · exact sum_piece 4 (cov3 4 h3 (by decide)) (at4 4 scM0_0.view xa0 (by decide)) (cov4 4 h4 scM0_4.view (by decide)) (at4 4 scM0_1.view xa1 (by decide)) (rep1 4 arg5.view x2 512 rfl (by decide)) (by decide) x
  · exact sum_piece 3 (cov3 3 h3 (by decide)) (at4 3 scM0_0.view xa0 (by decide)) (cov4 3 h4 scM0_4.view (by decide)) (at4 3 scM0_1.view xa1 (by decide)) (rep1 3 arg5.view x2 384 rfl (by decide)) (by decide) x
  · exact sum_piece 2 (cov3 2 h3 (by decide)) (at4 2 scM0_0.view xa0 (by decide)) (cov4 2 h4 scM0_4.view (by decide)) (at4 2 scM0_1.view xa1 (by decide)) (rep1 2 arg5.view x2 256 rfl (by decide)) (by decide) x
  · exact sum_piece 1 (cov3 1 h3 (by decide)) (at4 1 scM0_0.view xa0 (by decide)) (cov4 1 h4 scM0_4.view (by decide)) (at4 1 scM0_1.view xa1 (by decide)) (rep1 1 arg5.view x2 128 rfl (by decide)) (by decide) x
  · exact sum_piece 0 (cov3 0 h3 (by decide)) (at4 0 scM0_0.view xa0 (by decide)) (cov4 0 h4 scM0_4.view (by decide)) (at4 0 scM0_1.view xa1 (by decide)) (rep1 0 arg5.view x2 0 rfl (by decide)) (by decide) x

include hf in
theorem accs_C (y : S1024x512.Idx) : View.canon (kernelRun0_C.sl.HS2_8 c arg3 arg4 arg5 arg6 arg7 x0 x1 x2 x3 x4 xa0 xa2) y = newAcc (diag x0 x1 x4 f) (maxOf c xa0) (accOf c xa2) x2 (hd (y 0)) (ln (y 0)) (y 1) := by
  have h3 := scores_C arg3 arg4 arg6 arg7 x0 x1 x3 x4 hf
  have h4 := tops_C arg3 arg4 arg6 arg7 x0 x1 x3 x4 hf
  refine canon_take (fun y : S1024x512.Idx => newAcc (diag x0 x1 x4 f) (maxOf c xa0) (accOf c xa2) x2 (hd (y 0)) (ln (y 0)) (y 1)) 8 (kernelRun0_C.sl.HS2_8 c arg3 arg4 arg5 arg6 arg7 x0 x1 x2 x3 x4 xa0 xa2) (fun p hp x => ?_) y (View.cover_of_tiled ((kernelRun0_C.sl.HS2_8 c arg3 arg4 arg5 arg6 arg7 x0 x1 x2 x3 x4 xa0 xa2).take 8) S128x512.size (by rfl) y)
  change p ∈ [_, _, _, _, _, _, _, _] at hp
  simp only [List.mem_cons, List.not_mem_nil, or_false] at hp
  rcases hp with rfl | rfl | rfl | rfl | rfl | rfl | rfl | rfl
  · exact acc_piece 7 896 rfl (cov3 7 h3 (by decide)) (at4 7 scM0_0.view xa0 (by decide)) (cov4 7 h4 scM0_4.view (by decide)) (rep1 7 arg5.view x2 896 rfl (by decide)) (at2 7 scM0_2.view xa2 896 rfl (by decide)) (by decide) x
  · exact acc_piece 6 768 rfl (cov3 6 h3 (by decide)) (at4 6 scM0_0.view xa0 (by decide)) (cov4 6 h4 scM0_4.view (by decide)) (rep1 6 arg5.view x2 768 rfl (by decide)) (at2 6 scM0_2.view xa2 768 rfl (by decide)) (by decide) x
  · exact acc_piece 5 640 rfl (cov3 5 h3 (by decide)) (at4 5 scM0_0.view xa0 (by decide)) (cov4 5 h4 scM0_4.view (by decide)) (rep1 5 arg5.view x2 640 rfl (by decide)) (at2 5 scM0_2.view xa2 640 rfl (by decide)) (by decide) x
  · exact acc_piece 4 512 rfl (cov3 4 h3 (by decide)) (at4 4 scM0_0.view xa0 (by decide)) (cov4 4 h4 scM0_4.view (by decide)) (rep1 4 arg5.view x2 512 rfl (by decide)) (at2 4 scM0_2.view xa2 512 rfl (by decide)) (by decide) x
  · exact acc_piece 3 384 rfl (cov3 3 h3 (by decide)) (at4 3 scM0_0.view xa0 (by decide)) (cov4 3 h4 scM0_4.view (by decide)) (rep1 3 arg5.view x2 384 rfl (by decide)) (at2 3 scM0_2.view xa2 384 rfl (by decide)) (by decide) x
  · exact acc_piece 2 256 rfl (cov3 2 h3 (by decide)) (at4 2 scM0_0.view xa0 (by decide)) (cov4 2 h4 scM0_4.view (by decide)) (rep1 2 arg5.view x2 256 rfl (by decide)) (at2 2 scM0_2.view xa2 256 rfl (by decide)) (by decide) x
  · exact acc_piece 1 128 rfl (cov3 1 h3 (by decide)) (at4 1 scM0_0.view xa0 (by decide)) (cov4 1 h4 scM0_4.view (by decide)) (rep1 1 arg5.view x2 128 rfl (by decide)) (at2 1 scM0_2.view xa2 128 rfl (by decide)) (by decide) x
  · exact acc_piece 0 0 rfl (cov3 0 h3 (by decide)) (at4 0 scM0_0.view xa0 (by decide)) (cov4 0 h4 scM0_4.view (by decide)) (rep1 0 arg5.view x2 0 rfl (by decide)) (at2 0 scM0_2.view xa2 0 rfl (by decide)) (by decide) x

theorem outs_C {a : Fin 1024 → Fin 512 → EReal} {l : Fin 8 → Fin 512 → EReal} (h2 : ∀ y : S1024x512.Idx, View.canon (kernelRun0_C.sl.HS2_8 c arg3 arg4 arg5 arg6 arg7 x0 x1 x2 x3 x4 xa0 xa2) y = a (y 0) (y 1))
    (h1 : ∀ y : S8x1x512.Idx, View.canon (kernelRun0_C.sl.HS1_8 c arg3 arg4 arg5 arg6 arg7 x0 x1 x2 x3 x4 xa0 xa1) y = l (y 0) (y 2)) (y : S1x1024x512.Idx) :
    View.canon (kernelRun0_C.sl.HO6_8 c arg3 arg4 arg5 arg6 arg7 x0 x1 x2 x3 x4 xa0 xa1 xa2) y = Ideal.div (a (y 1) (y 2)) (l (hd (y 1)) (y 2)) := by
  refine canon_take (fun y : S1x1024x512.Idx => Ideal.div (a (y 1) (y 2)) (l (hd (y 1)) (y 2))) 8 (kernelRun0_C.sl.HO6_8 c arg3 arg4 arg5 arg6 arg7 x0 x1 x2 x3 x4 xa0 xa1 xa2) (fun p hp x => ?_) y (View.cover_of_tiled ((kernelRun0_C.sl.HO6_8 c arg3 arg4 arg5 arg6 arg7 x0 x1 x2 x3 x4 xa0 xa1 xa2).take 8) S1x128x512.size (by rfl) y)
  change p ∈ [_, _, _, _, _, _, _, _] at hp
  simp only [List.mem_cons, List.not_mem_nil, or_false] at hp
  rcases hp with rfl | rfl | rfl | rfl | rfl | rfl | rfl | rfl
  · exact out_piece 7 896 rfl (cov2 7 h2 scM0_2.view 896 rfl (by decide)) (cov4 7 h1 scM0_1.view (by decide)) (by decide) x
  · exact out_piece 6 768 rfl (cov2 6 h2 scM0_2.view 768 rfl (by decide)) (cov4 6 h1 scM0_1.view (by decide)) (by decide) x
  · exact out_piece 5 640 rfl (cov2 5 h2 scM0_2.view 640 rfl (by decide)) (cov4 5 h1 scM0_1.view (by decide)) (by decide) x
  · exact out_piece 4 512 rfl (cov2 4 h2 scM0_2.view 512 rfl (by decide)) (cov4 4 h1 scM0_1.view (by decide)) (by decide) x
  · exact out_piece 3 384 rfl (cov2 3 h2 scM0_2.view 384 rfl (by decide)) (cov4 3 h1 scM0_1.view (by decide)) (by decide) x
  · exact out_piece 2 256 rfl (cov2 2 h2 scM0_2.view 256 rfl (by decide)) (cov4 2 h1 scM0_1.view (by decide)) (by decide) x
  · exact out_piece 1 128 rfl (cov2 1 h2 scM0_2.view 128 rfl (by decide)) (cov4 1 h1 scM0_1.view (by decide)) (by decide) x
  · exact out_piece 0 0 rfl (cov2 0 h2 scM0_2.view 0 rfl (by decide)) (cov4 0 h1 scM0_1.view (by decide)) (by decide) x

end C

/-! ## A block between -/

section D
include hf in
theorem scores_D (y : S8x512x512.Idx) : View.canon (kernelRun0_D.sl.HS3_8 arg3 arg4 arg6 x0 x1 x3) y = (score x0 x1 f) (y 0) (y 1) (y 2) := by
  refine canon_take (fun y : S8x512x512.Idx => (score x0 x1 f) (y 0) (y 1) (y 2)) 8 (kernelRun0_D.sl.HS3_8 arg3 arg4 arg6 x0 x1 x3) (fun p hp x => ?_) y (View.cover_of_tiled ((kernelRun0_D.sl.HS3_8 arg3 arg4 arg6 x0 x1 x3).take 8) S1x512x512.size (by rfl) y)
  change p ∈ [_, _, _, _, _, _, _, _] at hp
  simp only [List.mem_cons, List.not_mem_nil, or_false] at hp
  rcases hp with rfl | rfl | rfl | rfl | rfl | rfl | rfl | rfl
  · exact raw_store hf 7 896 rfl arg3.view arg4.view arg6.view (by decide) (by decide) (by decide) (by decide) x
  · exact raw_store hf 6 768 rfl arg3.view arg4.view arg6.view (by decide) (by decide) (by decide) (by decide) x
  · exact raw_store hf 5 640 rfl arg3.view arg4.view arg6.view (by decide) (by decide) (by decide) (by decide) x
  · exact raw_store hf 4 512 rfl arg3.view arg4.view arg6.view (by decide) (by decide) (by decide) (by decide) x
  · exact raw_store hf 3 384 rfl arg3.view arg4.view arg6.view (by decide) (by decide) (by decide) (by decide) x
  · exact raw_store hf 2 256 rfl arg3.view arg4.view arg6.view (by decide) (by decide) (by decide) (by decide) x
  · exact raw_store hf 1 128 rfl arg3.view arg4.view arg6.view (by decide) (by decide) (by decide) (by decide) x
  · exact raw_store hf 0 0 rfl arg3.view arg4.view arg6.view (by decide) (by decide) (by decide) (by decide) x

include hf in
theorem tops_D (y : S8x1x512.Idx) : View.canon (kernelRun0_D.sl.HS4_8 arg3 arg4 arg6 x0 x1 x3) y = top (score x0 x1 f) (y 0) (y 2) := by
  refine canon_take (fun y : S8x1x512.Idx => top (score x0 x1 f) (y 0) (y 2)) 8 (kernelRun0_D.sl.HS4_8 arg3 arg4 arg6 x0 x1 x3) (fun p hp x => ?_) y (View.cover_of_tiled ((kernelRun0_D.sl.HS4_8 arg3 arg4 arg6 x0 x1 x3).take 8) S1x1x512.size (by rfl) y)
  change p ∈ [_, _, _, _, _, _, _, _] at hp
  simp only [List.mem_cons, List.not_mem_nil, or_false] at hp
  rcases hp with rfl | rfl | rfl | rfl | rfl | rfl | rfl | rfl
  · dsimp only
    refine top_store 7 ?_ (by decide) x
    exact raw_score hf 7 896 rfl arg3.view arg4.view arg6.view (by decide) (by decide) (by decide)
  · dsimp only
    refine top_store 6 ?_ (by decide) x
    exact raw_score hf 6 768 rfl arg3.view arg4.view arg6.view (by decide) (by decide) (by decide)
  · dsimp only
    refine top_store 5 ?_ (by decide) x
    exact raw_score hf 5 640 rfl arg3.view arg4.view arg6.view (by decide) (by decide) (by decide)
  · dsimp only [kernelRun0_D.sl.r_5]
    refine top_store 4 ?_ (by decide) x
    exact raw_score hf 4 512 rfl arg3.view arg4.view arg6.view (by decide) (by decide) (by decide)
  · dsimp only
    refine top_store 3 ?_ (by decide) x
    exact raw_score hf 3 384 rfl arg3.view arg4.view arg6.view (by decide) (by decide) (by decide)
  · dsimp only
    refine top_store 2 ?_ (by decide) x
    exact raw_score hf 2 256 rfl arg3.view arg4.view arg6.view (by decide) (by decide) (by decide)
  · dsimp only
    refine top_store 1 ?_ (by decide) x
    exact raw_score hf 1 128 rfl arg3.view arg4.view arg6.view (by decide) (by decide) (by decide)
  · dsimp only
    refine top_store 0 ?_ (by decide) x
    exact raw_score hf 0 0 rfl arg3.view arg4.view arg6.view (by decide) (by decide) (by decide)

include hf in
theorem maxima_D (y : S8x1x512.Idx) : View.canon (kernelRun0_D.sl.HS0_8 c arg3 arg4 arg6 x0 x1 x3 xa0) y = newMax (score x0 x1 f) (maxOf c xa0) (y 0) (y 2) := by
  have h3 := scores_D arg3 arg4 arg6 x0 x1 x3 hf
  have h4 := tops_D arg3 arg4 arg6 x0 x1 x3 hf
  refine canon_take (fun y : S8x1x512.Idx => newMax (score x0 x1 f) (maxOf c xa0) (y 0) (y 2)) 8 (kernelRun0_D.sl.HS0_8 c arg3 arg4 arg6 x0 x1 x3 xa0) (fun p hp x => ?_) y (View.cover_of_tiled ((kernelRun0_D.sl.HS0_8 c arg3 arg4 arg6 x0 x1 x3 xa0).take 8) S1x1x512.size (by rfl) y)
  change p ∈ [_, _, _, _, _, _, _, _] at hp
  simp only [List.mem_cons, List.not_mem_nil, or_false] at hp
  rcases hp with rfl | rfl | rfl | rfl | rfl | rfl | rfl | rfl
  · exact max_piece 7 (at4 7 scM0_0.view xa0 (by decide)) (cov4 7 h4 scM0_4.view (by decide)) (by decide) x
  · exact max_piece 6 (at4 6 scM0_0.view xa0 (by decide)) (cov4 6 h4 scM0_4.view (by decide)) (by decide) x
  · exact max_piece 5 (at4 5 scM0_0.view xa0 (by decide)) (cov4 5 h4 scM0_4.view (by decide)) (by decide) x
  · exact max_piece 4 (at4 4 scM0_0.view xa0 (by decide)) (cov4 4 h4 scM0_4.view (by decide)) (by decide) x
  · exact max_piece 3 (at4 3 scM0_0.view xa0 (by decide)) (cov4 3 h4 scM0_4.view (by decide)) (by decide) x
  · exact max_piece 2 (at4 2 scM0_0.view xa0 (by decide)) (cov4 2 h4 scM0_4.view (by decide)) (by decide) x
  · exact max_piece 1 (at4 1 scM0_0.view xa0 (by decide)) (cov4 1 h4 scM0_4.view (by decide)) (by decide) x
  · exact max_piece 0 (at4 0 scM0_0.view xa0 (by decide)) (cov4 0 h4 scM0_4.view (by decide)) (by decide) x

include hf in
theorem sums_D (y : S8x1x512.Idx) : View.canon (kernelRun0_D.sl.HS1_8 c arg3 arg4 arg5 arg6 x0 x1 x2 x3 xa0 xa1) y = newSum (score x0 x1 f) (maxOf c xa0) (sumOf c xa1) (y 0) (y 2) := by
  have h3 := scores_D arg3 arg4 arg6 x0 x1 x3 hf
  have h4 := tops_D arg3 arg4 arg6 x0 x1 x3 hf
  refine canon_take (fun y : S8x1x512.Idx => newSum (score x0 x1 f) (maxOf c xa0) (sumOf c xa1) (y 0) (y 2)) 8 (kernelRun0_D.sl.HS1_8 c arg3 arg4 arg5 arg6 x0 x1 x2 x3 xa0 xa1) (fun p hp x => ?_) y (View.cover_of_tiled ((kernelRun0_D.sl.HS1_8 c arg3 arg4 arg5 arg6 x0 x1 x2 x3 xa0 xa1).take 8) S1x1x512.size (by rfl) y)
  change p ∈ [_, _, _, _, _, _, _, _] at hp
  simp only [List.mem_cons, List.not_mem_nil, or_false] at hp
  rcases hp with rfl | rfl | rfl | rfl | rfl | rfl | rfl | rfl
  · exact sum_piece 7 (cov3 7 h3 (by decide)) (at4 7 scM0_0.view xa0 (by decide)) (cov4 7 h4 scM0_4.view (by decide)) (at4 7 scM0_1.view xa1 (by decide)) (rep1 7 arg5.view x2 896 rfl (by decide)) (by decide) x
  · exact sum_piece 6 (cov3 6 h3 (by decide)) (at4 6 scM0_0.view xa0 (by decide)) (cov4 6 h4 scM0_4.view (by decide)) (at4 6 scM0_1.view xa1 (by decide)) (rep1 6 arg5.view x2 768 rfl (by decide)) (by decide) x
  · exact sum_piece 5 (cov3 5 h3 (by decide)) (at4 5 scM0_0.view xa0 (by decide)) (cov4 5 h4 scM0_4.view (by decide)) (at4 5 scM0_1.view xa1 (by decide)) (rep1 5 arg5.view x2 640 rfl (by decide)) (by decide) x
  · exact sum_piece 4 (cov3 4 h3 (by decide)) (at4 4 scM0_0.view xa0 (by decide)) (cov4 4 h4 scM0_4.view (by decide)) (at4 4 scM0_1.view xa1 (by decide)) (rep1 4 arg5.view x2 512 rfl (by decide)) (by decide) x
  · exact sum_piece 3 (cov3 3 h3 (by decide)) (at4 3 scM0_0.view xa0 (by decide)) (cov4 3 h4 scM0_4.view (by decide)) (at4 3 scM0_1.view xa1 (by decide)) (rep1 3 arg5.view x2 384 rfl (by decide)) (by decide) x
  · exact sum_piece 2 (cov3 2 h3 (by decide)) (at4 2 scM0_0.view xa0 (by decide)) (cov4 2 h4 scM0_4.view (by decide)) (at4 2 scM0_1.view xa1 (by decide)) (rep1 2 arg5.view x2 256 rfl (by decide)) (by decide) x
  · exact sum_piece 1 (cov3 1 h3 (by decide)) (at4 1 scM0_0.view xa0 (by decide)) (cov4 1 h4 scM0_4.view (by decide)) (at4 1 scM0_1.view xa1 (by decide)) (rep1 1 arg5.view x2 128 rfl (by decide)) (by decide) x
  · exact sum_piece 0 (cov3 0 h3 (by decide)) (at4 0 scM0_0.view xa0 (by decide)) (cov4 0 h4 scM0_4.view (by decide)) (at4 0 scM0_1.view xa1 (by decide)) (rep1 0 arg5.view x2 0 rfl (by decide)) (by decide) x

include hf in
theorem accs_D (y : S1024x512.Idx) : View.canon (kernelRun0_D.sl.HS2_8 c arg3 arg4 arg5 arg6 x0 x1 x2 x3 xa0 xa2) y = newAcc (score x0 x1 f) (maxOf c xa0) (accOf c xa2) x2 (hd (y 0)) (ln (y 0)) (y 1) := by
  have h3 := scores_D arg3 arg4 arg6 x0 x1 x3 hf
  have h4 := tops_D arg3 arg4 arg6 x0 x1 x3 hf
  refine canon_take (fun y : S1024x512.Idx => newAcc (score x0 x1 f) (maxOf c xa0) (accOf c xa2) x2 (hd (y 0)) (ln (y 0)) (y 1)) 8 (kernelRun0_D.sl.HS2_8 c arg3 arg4 arg5 arg6 x0 x1 x2 x3 xa0 xa2) (fun p hp x => ?_) y (View.cover_of_tiled ((kernelRun0_D.sl.HS2_8 c arg3 arg4 arg5 arg6 x0 x1 x2 x3 xa0 xa2).take 8) S128x512.size (by rfl) y)
  change p ∈ [_, _, _, _, _, _, _, _] at hp
  simp only [List.mem_cons, List.not_mem_nil, or_false] at hp
  rcases hp with rfl | rfl | rfl | rfl | rfl | rfl | rfl | rfl
  · exact acc_piece 7 896 rfl (cov3 7 h3 (by decide)) (at4 7 scM0_0.view xa0 (by decide)) (cov4 7 h4 scM0_4.view (by decide)) (rep1 7 arg5.view x2 896 rfl (by decide)) (at2 7 scM0_2.view xa2 896 rfl (by decide)) (by decide) x
  · exact acc_piece 6 768 rfl (cov3 6 h3 (by decide)) (at4 6 scM0_0.view xa0 (by decide)) (cov4 6 h4 scM0_4.view (by decide)) (rep1 6 arg5.view x2 768 rfl (by decide)) (at2 6 scM0_2.view xa2 768 rfl (by decide)) (by decide) x
  · exact acc_piece 5 640 rfl (cov3 5 h3 (by decide)) (at4 5 scM0_0.view xa0 (by decide)) (cov4 5 h4 scM0_4.view (by decide)) (rep1 5 arg5.view x2 640 rfl (by decide)) (at2 5 scM0_2.view xa2 640 rfl (by decide)) (by decide) x
  · exact acc_piece 4 512 rfl (cov3 4 h3 (by decide)) (at4 4 scM0_0.view xa0 (by decide)) (cov4 4 h4 scM0_4.view (by decide)) (rep1 4 arg5.view x2 512 rfl (by decide)) (at2 4 scM0_2.view xa2 512 rfl (by decide)) (by decide) x
  · exact acc_piece 3 384 rfl (cov3 3 h3 (by decide)) (at4 3 scM0_0.view xa0 (by decide)) (cov4 3 h4 scM0_4.view (by decide)) (rep1 3 arg5.view x2 384 rfl (by decide)) (at2 3 scM0_2.view xa2 384 rfl (by decide)) (by decide) x
  · exact acc_piece 2 256 rfl (cov3 2 h3 (by decide)) (at4 2 scM0_0.view xa0 (by decide)) (cov4 2 h4 scM0_4.view (by decide)) (rep1 2 arg5.view x2 256 rfl (by decide)) (at2 2 scM0_2.view xa2 256 rfl (by decide)) (by decide) x
  · exact acc_piece 1 128 rfl (cov3 1 h3 (by decide)) (at4 1 scM0_0.view xa0 (by decide)) (cov4 1 h4 scM0_4.view (by decide)) (rep1 1 arg5.view x2 128 rfl (by decide)) (at2 1 scM0_2.view xa2 128 rfl (by decide)) (by decide) x
  · exact acc_piece 0 0 rfl (cov3 0 h3 (by decide)) (at4 0 scM0_0.view xa0 (by decide)) (cov4 0 h4 scM0_4.view (by decide)) (rep1 0 arg5.view x2 0 rfl (by decide)) (at2 0 scM0_2.view xa2 0 rfl (by decide)) (by decide) x

end D

end Cert.Fox
-- ==== Proof.FoxState.lean ====
/-
  What a point of the attention's walk leaves in the buffers it carries and in its block of the result: the stores the body
  made there.
-/
module

public import proofs.«01_k».proof.Proof.FoxKinds

@[expose] public section

set_option maxRecDepth 16384

noncomputable section

open Idealize.ShloMosaic Idealize.ShloMosaic.TcCoe Idealize.SL.Sem
open Idealize.ShloMosaic.Pipeline (Dat)

namespace Cert.Fox

open Cert.KernelIdeal Cert.KernelIdeal.Gen Cert.FoxIdeal

variable (m : (ℓ : Loc nD τ sig) → Buf (Elt Ideal) ℓ) (ρ : Dev nD → PrngReg) (c : Dev nD) (t : Fin (cfgA 0).N)

theorem step_max_A (p) (q0 : P0_0 0 t) (q1 : P0_1 0 t) : scM0_0.view.read (Elt Ideal) (step0 0 m ρ c t p).2.1 = View.canon (kernelRun0_A.sl.HS0_9 (ms0_0 0 t) (ms0_1 0 t) (ms0_3 0 t) (ms0_4 0 t) (iblk 0 m ρ c 0 t) (iblk 0 m ρ c 1 t) (iblk 0 m ρ c 3 t) (iblk 0 m ρ c 4 t)) := by
  rw [step0_A 0 m ρ c t p q0 q1]
  dsimp only
  delta runA kernelRun0_A
  dsimp only
  exact View.read_writes_junk_eq_canon (View.whole cc0_scratch0) _

theorem step_sum_A (p) (q0 : P0_0 0 t) (q1 : P0_1 0 t) : scM0_1.view.read (Elt Ideal) (step0 0 m ρ c t p).2.2.1 = View.canon (kernelRun0_A.sl.HS1_9 (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t)) := by
  rw [step0_A 0 m ρ c t p q0 q1]
  dsimp only
  delta runA kernelRun0_A
  dsimp only
  exact View.read_writes_junk_eq_canon (View.whole cc0_scratch1) _

theorem step_acc_A (p) (q0 : P0_0 0 t) (q1 : P0_1 0 t) : scM0_2.view.read (Elt Ideal) (step0 0 m ρ c t p).2.2.2.1 = View.canon (kernelRun0_A.sl.HS2_9 (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t)) := by
  rw [step0_A 0 m ρ c t p q0 q1]
  dsimp only
  delta runA kernelRun0_A
  dsimp only
  exact View.read_writes_junk_eq_canon (View.whole cc0_scratch2) _

theorem step_out_A (p) (q0 : P0_0 0 t) (q1 : P0_1 0 t) : (step0 0 m ρ c t p).1 = View.canon (kernelRun0_A.sl.HO6_8 (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t)) := by
  rw [step0_A 0 m ρ c t p q0 q1]
  dsimp only
  delta out0_A_6 kernelRun0_A
  dsimp only
  exact View.read_writes_junk_eq_canon (View.whole cc0_stg6_0) _

theorem step_max_B (p) (q0 : P0_0 0 t) (q1 : ¬P0_1 0 t) : scM0_0.view.read (Elt Ideal) (step0 0 m ρ c t p).2.1 = View.canon (kernelRun0_B.sl.HS0_9 (ms0_0 0 t) (ms0_1 0 t) (ms0_3 0 t) (iblk 0 m ρ c 0 t) (iblk 0 m ρ c 1 t) (iblk 0 m ρ c 3 t)) := by
  rw [step0_B 0 m ρ c t p q0 q1]
  dsimp only
  delta runB kernelRun0_B
  dsimp only
  exact View.read_writes_junk_eq_canon (View.whole cc0_scratch0) _

theorem step_sum_B (p) (q0 : P0_0 0 t) (q1 : ¬P0_1 0 t) : scM0_1.view.read (Elt Ideal) (step0 0 m ρ c t p).2.2.1 = View.canon (kernelRun0_B.sl.HS1_9 (ms0_0 0 t) (ms0_1 0 t) (ms0_2 0 t) (ms0_3 0 t) (iblk 0 m ρ c 0 t) (iblk 0 m ρ c 1 t) (iblk 0 m ρ c 2 t) (iblk 0 m ρ c 3 t)) := by
  rw [step0_B 0 m ρ c t p q0 q1]
  dsimp only
  delta runB kernelRun0_B
  dsimp only
  exact View.read_writes_junk_eq_canon (View.whole cc0_scratch1) _

theorem step_acc_B (p) (q0 : P0_0 0 t) (q1 : ¬P0_1 0 t) : scM0_2.view.read (Elt Ideal) (step0 0 m ρ c t p).2.2.2.1 = View.canon (kernelRun0_B.sl.HS2_9 (ms0_0 0 t) (ms0_1 0 t) (ms0_2 0 t) (ms0_3 0 t) (iblk 0 m ρ c 0 t) (iblk 0 m ρ c 1 t) (iblk 0 m ρ c 2 t) (iblk 0 m ρ c 3 t)) := by
  rw [step0_B 0 m ρ c t p q0 q1]
  dsimp only
  delta runB kernelRun0_B
  dsimp only
  exact View.read_writes_junk_eq_canon (View.whole cc0_scratch2) _

theorem step_max_C (p) (q0 : ¬P0_0 0 t) (q1 : P0_1 0 t) : scM0_0.view.read (Elt Ideal) (step0 0 m ρ c t p).2.1 = View.canon (kernelRun0_C.sl.HS0_8 c (ms0_0 0 t) (ms0_1 0 t) (ms0_3 0 t) (ms0_4 0 t) (iblk 0 m ρ c 0 t) (iblk 0 m ρ c 1 t) (iblk 0 m ρ c 3 t) (iblk 0 m ρ c 4 t) p.2.1) := by
  rw [step0_C 0 m ρ c t p q0 q1]
  dsimp only
  delta runC kernelRun0_C
  dsimp only
  exact View.read_writes_junk_eq_canon (View.whole cc0_scratch0) _

theorem step_sum_C (p) (q0 : ¬P0_0 0 t) (q1 : P0_1 0 t) : scM0_1.view.read (Elt Ideal) (step0 0 m ρ c t p).2.2.1 = View.canon (kernelRun0_C.sl.HS1_8 c (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) p.2.1 p.2.2.1) := by
  rw [step0_C 0 m ρ c t p q0 q1]
  dsimp only
  delta runC kernelRun0_C
  dsimp only
  exact View.read_writes_junk_eq_canon (View.whole cc0_scratch1) _

theorem step_acc_C (p) (q0 : ¬P0_0 0 t) (q1 : P0_1 0 t) : scM0_2.view.read (Elt Ideal) (step0 0 m ρ c t p).2.2.2.1 = View.canon (kernelRun0_C.sl.HS2_8 c (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) p.2.1 p.2.2.2.1) := by
  rw [step0_C 0 m ρ c t p q0 q1]
  dsimp only
  delta runC kernelRun0_C
  dsimp only
  exact View.read_writes_junk_eq_canon (View.whole cc0_scratch2) _

theorem step_out_C (p) (q0 : ¬P0_0 0 t) (q1 : P0_1 0 t) : (step0 0 m ρ c t p).1 = View.canon (kernelRun0_C.sl.HO6_8 c (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) p.2.1 p.2.2.1 p.2.2.2.1) := by
  rw [step0_C 0 m ρ c t p q0 q1]
  dsimp only
  delta out0_C_6 kernelRun0_C
  dsimp only
  exact View.read_writes_junk_eq_canon (View.whole cc0_stg6_0) _

theorem step_max_D (p) (q0 : ¬P0_0 0 t) (q1 : ¬P0_1 0 t) : scM0_0.view.read (Elt Ideal) (step0 0 m ρ c t p).2.1 = View.canon (kernelRun0_D.sl.HS0_8 c (ms0_0 0 t) (ms0_1 0 t) (ms0_3 0 t) (iblk 0 m ρ c 0 t) (iblk 0 m ρ c 1 t) (iblk 0 m ρ c 3 t) p.2.1) := by
  rw [step0_D 0 m ρ c t p q0 q1]
  dsimp only
  delta runD kernelRun0_D
  dsimp only
  exact View.read_writes_junk_eq_canon (View.whole cc0_scratch0) _

theorem step_sum_D (p) (q0 : ¬P0_0 0 t) (q1 : ¬P0_1 0 t) : scM0_1.view.read (Elt Ideal) (step0 0 m ρ c t p).2.2.1 = View.canon (kernelRun0_D.sl.HS1_8 c (ms0_0 0 t) (ms0_1 0 t) (ms0_2 0 t) (ms0_3 0 t) (iblk 0 m ρ c 0 t) (iblk 0 m ρ c 1 t) (iblk 0 m ρ c 2 t) (iblk 0 m ρ c 3 t) p.2.1 p.2.2.1) := by
  rw [step0_D 0 m ρ c t p q0 q1]
  dsimp only
  delta runD kernelRun0_D
  dsimp only
  exact View.read_writes_junk_eq_canon (View.whole cc0_scratch1) _

theorem step_acc_D (p) (q0 : ¬P0_0 0 t) (q1 : ¬P0_1 0 t) : scM0_2.view.read (Elt Ideal) (step0 0 m ρ c t p).2.2.2.1 = View.canon (kernelRun0_D.sl.HS2_8 c (ms0_0 0 t) (ms0_1 0 t) (ms0_2 0 t) (ms0_3 0 t) (iblk 0 m ρ c 0 t) (iblk 0 m ρ c 1 t) (iblk 0 m ρ c 2 t) (iblk 0 m ρ c 3 t) p.2.1 p.2.2.2.1) := by
  rw [step0_D 0 m ρ c t p q0 q1]
  dsimp only
  delta runD kernelRun0_D
  dsimp only
  exact View.read_writes_junk_eq_canon (View.whole cc0_scratch2) _

end Cert.Fox

end
-- ==== Proof.FoxMath.lean ====
/-
  The running softmax of the attention, for one query and one output column, over the extended reals. The scores of the keys
  up to the query are real, the others are −∞. Block by block the kernel keeps a maximum m, a sum l and a weighted sum a of
  the values; they stay related to the weights w = 2^score by l = 2^(−m) Σ w and a = 2^(−m) Σ v w. The values may be infinite.
-/
module

public import proofs.«01_k».proof.Proof.FoxStep

@[expose] public section

noncomputable section

open Idealize.ShloMosaic

namespace Cert.Fox

theorem coe_mul_sum {ι : Type} (S : Finset ι) (c : ℝ) (hc : 0 ≤ c) (g : ι → EReal) : (c : EReal) * ∑ i ∈ S, g i = ∑ i ∈ S, (c : EReal) * g i := by
  classical
  induction S using Finset.induction_on with
  | empty => simp
  | insert a S h ih =>
    rw [Finset.sum_insert h, Finset.sum_insert h, EReal.left_distrib_of_nonneg_of_ne_top (EReal.coe_nonneg.mpr hc) (EReal.coe_ne_top c), ih]

theorem coe_sum {ι : Type} (S : Finset ι) (g : ι → ℝ) : ((∑ i ∈ S, g i : ℝ) : EReal) = ∑ i ∈ S, (g i : EReal) := by
  classical
  induction S using Finset.induction_on with
  | empty => simp
  | insert a S h ih => rw [Finset.sum_insert h, Finset.sum_insert h, EReal.coe_add, ih]

theorem fold_max_real {ι : Type} (S : Finset ι) (g : ι → EReal) (hg : ∀ i, g i = ⊥ ∨ ∃ r : ℝ, g i = r) :
    S.fold max ⊥ g = ⊥ ∨ ∃ r : ℝ, S.fold max ⊥ g = r := by
  classical
  induction S using Finset.induction_on with
  | empty => exact Or.inl Finset.fold_empty
  | insert a S h ih =>
    rw [Finset.fold_insert h]
    rcases hg a with e | ⟨r, e⟩ <;> rcases ih with e' | ⟨r', e'⟩ <;> rw [e, e']
    · exact Or.inl (max_self _)
    · exact Or.inr ⟨r', max_eq_right bot_le⟩
    · exact Or.inr ⟨r, max_eq_left bot_le⟩
    · exact Or.inr ⟨max r r', (EReal.coe_strictMono.monotone.map_max (a := r) (b := r')).symm⟩

theorem exp2_real (r : ℝ) : Ideal.exp2 (r : EReal) = ((2 ^ r : ℝ) : EReal) := rfl
theorem exp2_bot : Ideal.exp2 ⊥ = 0 := rfl
theorem exp_real (r : ℝ) : Ideal.exp (r : EReal) = (Real.exp r : EReal) := rfl
theorem exp_bot : Ideal.exp ⊥ = 0 := rfl

/-- The weight of key `s` for query `r`. -/
def weight (z : ℕ → ℝ) (r s : ℕ) : ℝ := if s ≤ r then 2 ^ z s else 0

theorem weight_nonneg (z : ℕ → ℝ) (r s : ℕ) : 0 ≤ weight z r s := by
  unfold weight
  split
  · positivity
  · exact le_refl 0

/-- The score of key `s` for query `r`: −∞ after the query. -/
def masked (z : ℕ → ℝ) (r s : ℕ) : EReal := if s ≤ r then (z s : EReal) else ⊥

theorem masked_real (z : ℕ → ℝ) (r s : ℕ) : masked z r s = ⊥ ∨ ∃ x : ℝ, masked z r s = x := by
  unfold masked
  split
  · exact Or.inr ⟨_, rfl⟩
  · exact Or.inl rfl

theorem exp2_masked (z : ℕ → ℝ) (r s : ℕ) (M : ℝ) : Ideal.exp2 (masked z r s - (M : EReal)) = ((2 ^ (-M) * weight z r s : ℝ) : EReal) := by
  unfold masked weight
  split
  · rw [← EReal.coe_sub, exp2_real, ← Real.rpow_add two_pos]
    congr 2
    ring
  · rw [EReal.bot_sub, exp2_bot, mul_zero, EReal.coe_zero]

/-- What the kernel keeps after `n` keys. -/
def Kept (z : ℕ → ℝ) (v : ℕ → EReal) (r n : ℕ) (m l a : EReal) : Prop :=
  ∃ M : ℝ, m = M ∧ l = ((2 ^ (-M) * ∑ s ∈ Finset.range n, weight z r s : ℝ) : EReal)
    ∧ a = ((2 ^ (-M) : ℝ) : EReal) * ∑ s ∈ Finset.range n, v s * (weight z r s : EReal)

theorem kept_zero (z : ℕ → ℝ) (v : ℕ → EReal) (r : ℕ) (M : ℝ) : Kept z v r 0 M 0 0 :=
  ⟨M, rfl, by simp, by simp⟩

theorem kept_step {z : ℕ → ℝ} {v : ℕ → EReal} {r n : ℕ} {m l a : EReal} (hk : Kept z v r n m l a) {b : ℕ} (x : Fin b → EReal) (u : Fin b → EReal)
    (hx : ∀ s, x s = masked z r (n + s)) (hu : ∀ s, u s = v (n + s)) {m' l' a' : EReal} (hm : m' = max m (Finset.univ.fold max ⊥ x))
    (hl : l' = Ideal.exp2 (m - m') * l + ∑ s, Ideal.exp2 (x s - m')) (ha : a' = Ideal.exp2 (m - m') * a + ∑ s, u s * Ideal.exp2 (x s - m')) :
    Kept z v r (n + b) m' l' a' := by
  obtain ⟨M, rfl, rfl, rfl⟩ := hk
  obtain ⟨M', hM'⟩ : ∃ M' : ℝ, m' = M' := by
    rcases fold_max_real Finset.univ x (fun s => by rw [hx]; exact masked_real z r _) with e | ⟨y, e⟩
    · exact ⟨M, by rw [hm, e]; exact max_eq_left bot_le⟩
    · exact ⟨max M y, by rw [hm, e]; exact (EReal.coe_strictMono.monotone.map_max (a := M) (b := y)).symm⟩
  clear hm
  subst hM'
  have h2 : (2 : ℝ) ^ (M - M') * 2 ^ (-M) = 2 ^ (-M') := by
    rw [← Real.rpow_add two_pos]
    congr 1
    ring
  have hp : (0 : ℝ) ≤ 2 ^ (-M') := by positivity
  refine ⟨M', rfl, ?_, ?_⟩
  · rw [hl, ← EReal.coe_sub, exp2_real, ← EReal.coe_mul, ← mul_assoc, h2]
    have e : ∀ s, Ideal.exp2 (x s - (M' : EReal)) = ((2 ^ (-M') * weight z r (n + s) : ℝ) : EReal) := fun s => by rw [hx, exp2_masked]
    rw [Finset.sum_congr rfl fun s _ => e s, ← coe_sum, ← EReal.coe_add, ← Finset.mul_sum, ← mul_add, Finset.sum_range_add,
      ← Fin.sum_univ_eq_sum_range (fun s => weight z r (n + s)) b]
  · rw [ha, ← EReal.coe_sub, exp2_real, ← mul_assoc, ← EReal.coe_mul, h2]
    have e : ∀ s, u s * Ideal.exp2 (x s - (M' : EReal)) = ((2 ^ (-M') : ℝ) : EReal) * (v (n + s) * (weight z r (n + s) : EReal)) := fun s => by
      rw [hx, hu, exp2_masked, EReal.coe_mul, mul_left_comm]
    rw [Finset.sum_congr rfl fun s _ => e s, ← coe_mul_sum _ _ hp, ← EReal.left_distrib_of_nonneg_of_ne_top (EReal.coe_nonneg.mpr hp) (EReal.coe_ne_top _),
      Finset.sum_range_add, ← Fin.sum_univ_eq_sum_range (fun s => v (n + s) * (weight z r (n + s) : EReal)) b]

/-- The softmax over all keys, applied to the values. -/
def attend (z : ℕ → ℝ) (v : ℕ → EReal) (r N : ℕ) : EReal :=
  (((∑ s ∈ Finset.range N, weight z r s)⁻¹ : ℝ) : EReal) * ∑ s ∈ Finset.range N, v s * (weight z r s : EReal)

theorem total_pos (z : ℕ → ℝ) {r n : ℕ} (h : r < n) : 0 < ∑ s ∈ Finset.range n, weight z r s :=
  Finset.sum_pos' (fun s _ => weight_nonneg z r s) ⟨r, Finset.mem_range.mpr h, by
    unfold weight
    rw [if_pos (le_refl r)]
    positivity⟩

theorem attend_of_kept {z : ℕ → ℝ} {v : ℕ → EReal} {r n N : ℕ} {m l a : EReal} (hk : Kept z v r n m l a) (hr : r < n) (hN : n ≤ N) :
    Ideal.div a l = attend z v r N := by
  obtain ⟨M, rfl, rfl, rfl⟩ := hk
  have hw : ∀ s ∈ Finset.range N, s ∉ Finset.range n → weight z r s = 0 := fun s _ h => by
    unfold weight
    rw [if_neg]
    intro h'
    exact h (Finset.mem_range.mpr (lt_of_le_of_lt h' hr))
  have hs : Finset.range n ⊆ Finset.range N := Finset.range_mono hN
  have hp := total_pos z hr
  have h2 : (0 : ℝ) < 2 ^ (-M) := by positivity
  unfold attend
  rw [← Finset.sum_subset hs hw, ← Finset.sum_subset hs (fun s hs h => by rw [hw s hs h, EReal.coe_zero, mul_zero])]
  unfold Ideal.div
  rw [if_neg (by
    rw [EReal.coe_eq_zero]
    exact (mul_pos h2 hp).ne'), ← EReal.coe_inv, mul_comm, ← mul_assoc, ← EReal.coe_mul]
  congr 2
  field_simp

/-- The reference's scores differ from the kernel's by the query's own constant and a factor log 2. -/
theorem attend_of_softmax {z : ℕ → ℝ} {v : ℕ → EReal} {r N : ℕ} (hr : r < N) (b : ℝ) (y : Fin N → EReal) (u : Fin N → EReal)
    (hy : ∀ s, y s = if s.val ≤ r then ((z s * Real.log 2 + b : ℝ) : EReal) else ⊥) (hu : ∀ s, u s = v s) {X : EReal}
    (hX : X = max ⊥ (Finset.univ.fold max ⊥ y)) :
    ∑ s, u s * Ideal.div (Ideal.exp (y s - X)) (∑ s', Ideal.exp (y s' - X)) = attend z v r N := by
  have hy' : ∀ s, y s = ⊥ ∨ ∃ x : ℝ, y s = x := fun s => by
    rw [hy]
    split
    · exact Or.inr ⟨_, rfl⟩
    · exact Or.inl rfl
  obtain ⟨Y, hY⟩ : ∃ Y : ℝ, X = Y := by
    rcases fold_max_real Finset.univ y hy' with e | ⟨x, e⟩
    · exfalso
      have h1 : y ⟨r, hr⟩ ≤ Finset.univ.fold max ⊥ y := (Finset.le_fold_max _).mpr (Or.inr ⟨_, Finset.mem_univ _, le_refl _⟩)
      rw [e, hy, if_pos (le_refl r)] at h1
      exact absurd h1 (not_le.mpr (EReal.bot_lt_coe _))
    · exact ⟨x, by rw [hX, e]; exact max_eq_right bot_le⟩
  clear hX
  subst hY
  have hC : (0 : ℝ) < Real.exp (b - Y) := Real.exp_pos _
  have hex : ∀ s : Fin N, Ideal.exp (y s - (Y : EReal)) = ((Real.exp (b - Y) * weight z r s : ℝ) : EReal) := fun s => by
    rw [hy]
    unfold weight
    split
    · rw [← EReal.coe_sub, exp_real, Real.rpow_def_of_pos two_pos, ← Real.exp_add]
      congr 2
      ring
    · rw [EReal.bot_sub, exp_bot, mul_zero, EReal.coe_zero]
  have hp := total_pos z hr
  have hsum : ∑ s' : Fin N, Ideal.exp (y s' - (Y : EReal)) = ((Real.exp (b - Y) * ∑ s ∈ Finset.range N, weight z r s : ℝ) : EReal) := by
    rw [Finset.sum_congr rfl fun s _ => hex s, ← coe_sum, ← Finset.mul_sum, Fin.sum_univ_eq_sum_range (fun s => weight z r s) N]
  have hterm : ∀ s : Fin N, u s * Ideal.div (Ideal.exp (y s - (Y : EReal))) (∑ s', Ideal.exp (y s' - (Y : EReal)))
      = (((∑ s ∈ Finset.range N, weight z r s)⁻¹ : ℝ) : EReal) * (v s * (weight z r s : EReal)) := fun s => by
    rw [hsum, hex, hu]
    unfold Ideal.div
    rw [if_neg (by
      rw [EReal.coe_eq_zero]
      exact (mul_pos hC hp).ne'), ← EReal.coe_inv, ← EReal.coe_mul, mul_left_comm, ← EReal.coe_mul]
    congr 2
    field_simp
  rw [Finset.sum_congr rfl fun s _ => hterm s, ← coe_mul_sum _ _ (inv_nonneg.mpr hp.le)]
  unfold attend
  rw [Fin.sum_univ_eq_sum_range (fun s => v s * (weight z r s : EReal)) N]

end Cert.Fox
-- ==== Proof.FoxWalk.lean ====
/-
  The attention's walk over the blocks of queries and keys, and the blocks the body meets at a point of it, by the
  program's own arguments.
-/
module

public import proofs.«01_k».proof.Proof.FoxIdeal
public import proofs.«01_k».proof.Proof.FoxStep
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Fox

open Cert.KernelIdeal Cert.KernelIdeal.Gen Cert.FoxIdeal

theorem idx_ext3 {n : Fin 3 → ℕ} {x y : (a : Fin 3) → Fin (n a)} (h0 : (x 0 : ℕ) = y 0) (h1 : (x 1 : ℕ) = y 1) (h2 : (x 2 : ℕ) = y 2) : x = y :=
  funext fun a => Fin.ext (by fin_cases a <;> assumption)

/-- The block of queries at a point of the walk. -/
def qb (t : Fin (cfgA 0).N) : ℕ := ((cfgA 0).win 6).index t 0

/-- The block of keys at a point of the walk. -/
def kb (t : Fin (cfgA 0).N) : ℕ := ((cfgA 0).win 1).index t 0

theorem blocks_le : ∀ t : Fin (cfgA 0).N, qb t < 16 ∧ kb t ≤ qb t := by decide +kernel

theorem cases_iff : ∀ t : Fin (cfgA 0).N, (P0_0 0 t ↔ kb t = 0) ∧ (P0_1 0 t ↔ kb t = qb t) := by decide +kernel

theorem flush_iff : ∀ t : Fin (cfgA 0).N, ((cfgA 0).win 6).flush t = true ↔ kb t = qb t := by decide +kernel

theorem before : ∀ t : Fin (cfgA 0).N, kb t ≠ 0 → t.val ≠ 0 ∧ ∀ h : t.val - 1 < (cfgA 0).N, qb ⟨t.val - 1, h⟩ = qb t ∧ kb ⟨t.val - 1, h⟩ + 1 = kb t := by
  decide +kernel

theorem reaches : ∀ i : Fin 16, ∃ t : Fin (cfgA 0).N, qb t = i.val ∧ kb t = i.val := by decide +kernel

theorem index0 : ∀ t : Fin (cfgA 0).N, ((cfgA 0).win 0).index t 0 = qb t ∧ ((cfgA 0).win 0).index t 1 = 0 ∧ ((cfgA 0).win 0).index t 2 = 0 := by decide +kernel
theorem index1 : ∀ t : Fin (cfgA 0).N, ((cfgA 0).win 1).index t 0 = kb t ∧ ((cfgA 0).win 1).index t 1 = 0 := by decide +kernel
theorem index2 : ∀ t : Fin (cfgA 0).N, ((cfgA 0).win 2).index t 0 = kb t ∧ ((cfgA 0).win 2).index t 1 = 0 ∧ ((cfgA 0).win 2).index t 2 = 0 := by decide +kernel
theorem index3 : ∀ t : Fin (cfgA 0).N, ((cfgA 0).win 3).index t 0 = 0 ∧ ((cfgA 0).win 3).index t 1 = kb t ∧ ((cfgA 0).win 3).index t 2 = 0 := by decide +kernel
theorem index4 : ∀ t : Fin (cfgA 0).N, ((cfgA 0).win 4).index t 0 = 0 ∧ ((cfgA 0).win 4).index t 1 = 0 := by decide +kernel
theorem index6 : ∀ t : Fin (cfgA 0).N, ((cfgA 0).win 6).index t 0 = qb t ∧ ((cfgA 0).win 6).index t 1 = 0 ∧ ((cfgA 0).win 6).index t 2 = 0 := by decide +kernel

variable (m : (ℓ : Loc nD τ sig) → Buf (Elt Ideal) ℓ) (ρ : Dev nD → PrngReg) (c : Dev nD)

/-- The 8192 rows as 16 blocks of 512, each transposed. -/
theorem transposed_at (a : FVec Ideal S8192x1024 .bf16) (i : Fin 16) (d : Fin 1024) (x : Fin 512) :
    transpose S16x1024x512 [0, 2, 1] (shapeCast S16x512x1024 a shapeCasts_S8192x1024_S16x512x1024) transposes_S16x512x1024_S16x1024x512_0_2_1 (ix3 i d x)
      = a (ix2 ⟨512 * i.val + x.val, by omega⟩ d) := by
  pointwise
  congr 2
  exact Fin.ext (by show i.val * 512 + x.val = 512 * i.val + x.val; omega)

theorem queries_eq : @Eq (S16x1024x512.Idx → EReal) (mV m ρ ((c : Thread nD τ).loc main_v11))
    (transpose S16x1024x512 [0, 2, 1] (shapeCast S16x512x1024 (m ((c : Thread nD τ).loc main_arg0) : FVec Ideal S8192x1024 .bf16) shapeCasts_S8192x1024_S16x512x1024)
      transposes_S16x512x1024_S16x1024x512_0_2_1) := by
  show StableHlo.after _ (fun b => m (c, b)) main_v11 = _
  dsimp only [hostOps0, hostOps0_1, hostOps0_2, List.flatten, List.append_eq, List.cons_append, List.nil_append]
  after_results
  rfl

theorem values_eq : @Eq (S16x1024x512.Idx → EReal) (mV m ρ ((c : Thread nD τ).loc main_v13))
    (transpose S16x1024x512 [0, 2, 1] (shapeCast S16x512x1024 (m ((c : Thread nD τ).loc main_arg2) : FVec Ideal S8192x1024 .bf16) shapeCasts_S8192x1024_S16x512x1024)
      transposes_S16x512x1024_S16x1024x512_0_2_1) := by
  show StableHlo.after _ (fun b => m (c, b)) main_v13 = _
  dsimp only [hostOps0, hostOps0_1, hostOps0_2, List.flatten, List.append_eq, List.cons_append, List.nil_append]
  after_results
  rfl

theorem mask_eq : @Eq (S512x512.Idx → EReal) (mV m ρ ((c : Thread nD τ).loc main_v9))
    (select (cmpi .sge (subi (broadcastInDim S512x512 ![0, 1] bcast_S1x512_S512x512_0_1 (broadcastInDim S1x512 ![1] bcast_S512_S1x512_1 (iotaInDim S512 32 0)))
        (broadcastInDim S512x512 ![0, 1] bcast_S512x1_S512x512_0_1 (broadcastInDim S512x1 ![0] bcast_S512_S512x1_0 (iotaInDim S512 32 0))))
        (broadcastInDim S512x512 ![] bcast_S_S512x512 (constantI S_ 32 0#32)))
      (broadcastInDim S512x512 ![] bcast_S_S512x512 (constant S_ .f32 0x00000000#32))
      (broadcastInDim S512x512 ![] bcast_S_S512x512 (constant S_ .f32 0xFF800000#32)) : FVec Ideal S512x512 .f32) := by
  show StableHlo.after _ (fun b => m (c, b)) main_v9 = _
  dsimp only [hostOps0, hostOps0_1, hostOps0_2, List.flatten, List.append_eq, List.cons_append, List.nil_append]
  simp only [StableHlo.TRef.ternary, StableHlo.TRef.unary, StableHlo.TRef.toBuf, StableHlo.TRef.ofBuf, cast_eq]
  after_results
  rfl

theorem sub_sge (s x : Fin 512) : IntOp.cmpi .sge (IntOp.subi (BitVec.ofNat 32 x.val) (BitVec.ofNat 32 s.val)) 0#32 = if s.val ≤ x.val then 1#1 else 0#1 := by
  have hs := s.isLt
  have hx := x.isLt
  have e1 := WordCmp.toInt_ofNat_of_lt (w := 32) (a := x.val) (by omega)
  have e2 := WordCmp.toInt_ofNat_of_lt (w := 32) (a := s.val) (by omega)
  split <;> rename_i h
  · rw [IntOp.cmpi_sge]
    unfold IntOp.subi
    rw [BitVec.toInt_sub, e1, e2]
    show (0 : Int) ≤ _
    rw [Int.bmod_eq_of_le (by omega) (by omega)]
    omega
  · have : ¬ IntOp.cmpi .sge (IntOp.subi (BitVec.ofNat 32 x.val) (BitVec.ofNat 32 s.val)) 0#32 = 1#1 := by
      rw [IntOp.cmpi_sge]
      unfold IntOp.subi
      rw [BitVec.toInt_sub, e1, e2]
      show ¬ (0 : Int) ≤ _
      rw [Int.bmod_eq_of_le (by omega) (by omega)]
      omega
    revert this
    generalize IntOp.cmpi .sge (IntOp.subi (BitVec.ofNat 32 x.val) (BitVec.ofNat 32 s.val)) 0#32 = b
    revert b
    decide

theorem mask_at (s x : Fin 512) : @Eq EReal ((mV m ρ ((c : Thread nD τ).loc main_v9) : S512x512.Idx → EReal) (ix2 s x)) (if s.val ≤ x.val then 0 else ⊥) := by
  rw [mask_eq]
  pointwise
  rw [sub_sge, ofBits_bot]
  split <;> rfl

variable (t : Fin (cfgA 0).N)

theorem queries_blk (d : Fin 1024) (x : Fin 512) : @Eq EReal ((iblk 0 m ρ c 0 t : S1x1024x512.Idx → EReal) (ix3 (0 : Fin 1) d x))
    ((m ((c : Thread nD τ).loc main_arg0) : S8192x1024.Idx → EReal) (ix2 ⟨512 * qb t + x.val, by have := (blocks_le t).1; omega⟩ d)) := by
  obtain ⟨e0, e1, e2⟩ := index0 t
  have hb := (blocks_le t).1
  show (mV m ρ ((c : Thread nD τ).loc main_v11) : S16x1024x512.Idx → EReal) ((((cfgA 0).win 0).blk t).view.emb _) = _
  rw [queries_eq]
  refine Eq.trans (congrArg _ ?_) (transposed_at _ ⟨qb t, hb⟩ d x)
  refine idx_ext3 ?_ ?_ ?_
  · show ((cfgA 0).win 0).index t 0 * 1 + 1 * 0 = qb t
    rw [e0]; omega
  · show ((cfgA 0).win 0).index t 1 * 1024 + 1 * (d : Nat) = d
    rw [e1]; omega
  · show ((cfgA 0).win 0).index t 2 * 512 + 1 * (x : Nat) = x
    rw [e2]; omega

theorem values_blk (d : Fin 1024) (s : Fin 512) : @Eq EReal ((iblk 0 m ρ c 2 t : S1x1024x512.Idx → EReal) (ix3 (0 : Fin 1) d s))
    ((m ((c : Thread nD τ).loc main_arg2) : S8192x1024.Idx → EReal) (ix2 ⟨512 * kb t + s.val, by have := blocks_le t; omega⟩ d)) := by
  obtain ⟨e0, e1, e2⟩ := index2 t
  have hb := blocks_le t
  show (mV m ρ ((c : Thread nD τ).loc main_v13) : S16x1024x512.Idx → EReal) ((((cfgA 0).win 2).blk t).view.emb _) = _
  rw [values_eq]
  refine Eq.trans (congrArg _ ?_) (transposed_at _ ⟨kb t, by omega⟩ d s)
  refine idx_ext3 ?_ ?_ ?_
  · show ((cfgA 0).win 2).index t 0 * 1 + 1 * 0 = kb t
    rw [e0]; omega
  · show ((cfgA 0).win 2).index t 1 * 1024 + 1 * (d : Nat) = d
    rw [e1]; omega
  · show ((cfgA 0).win 2).index t 2 * 512 + 1 * (s : Nat) = s
    rw [e2]; omega

theorem keys_blk (s : Fin 512) (d : Fin 1024) : @Eq EReal ((iblk 0 m ρ c 1 t : S512x1024.Idx → EReal) (ix2 s d))
    ((m ((c : Thread nD τ).loc main_arg1) : S8704x1024.Idx → EReal) (ix2 ⟨512 * kb t + s.val, by have := blocks_le t; omega⟩ d)) := by
  obtain ⟨e0, e1⟩ := index1 t
  show (mV m ρ ((c : Thread nD τ).loc main_arg1) : S8704x1024.Idx → EReal) ((((cfgA 0).win 1).blk t).view.emb _) = _
  rw [(mV_arg m ρ c).2.1]
  refine congrArg (m ((c : Thread nD τ).loc main_arg1) : S8704x1024.Idx → EReal) (Shape.idx_ext₂ ?_ ?_)
  · show ((cfgA 0).win 1).index t 0 * 512 + 1 * (s : Nat) = 512 * kb t + s
    rw [e0]; omega
  · show ((cfgA 0).win 1).index t 1 * 1024 + 1 * (d : Nat) = d
    rw [e1]; omega

theorem forget_blk (h : Fin 8) (s : Fin 512) (l : Fin 128) : @Eq EReal ((iblk 0 m ρ c 3 t : S8x512x128.Idx → EReal) (ix3 h s l))
    ((m ((c : Thread nD τ).loc main_arg3) : S8x8192x128.Idx → EReal) (ix3 h ⟨512 * kb t + s.val, by have := blocks_le t; omega⟩ l)) := by
  obtain ⟨e0, e1, e2⟩ := index3 t
  show (mV m ρ ((c : Thread nD τ).loc main_arg3) : S8x8192x128.Idx → EReal) ((((cfgA 0).win 3).blk t).view.emb _) = _
  rw [(mV_arg m ρ c).2.2.2]
  refine congrArg (m ((c : Thread nD τ).loc main_arg3) : S8x8192x128.Idx → EReal) (idx_ext3 ?_ ?_ ?_)
  · show ((cfgA 0).win 3).index t 0 * 8 + 1 * (h : Nat) = h
    rw [e0]; omega
  · show ((cfgA 0).win 3).index t 1 * 512 + 1 * (s : Nat) = 512 * kb t + s
    rw [e1]; omega
  · show ((cfgA 0).win 3).index t 2 * 128 + 1 * (l : Nat) = l
    rw [e2]; omega

theorem mask_blk (s x : Fin 512) : @Eq EReal ((iblk 0 m ρ c 4 t : S512x512.Idx → EReal) (ix2 s x)) (if s.val ≤ x.val then 0 else ⊥) := by
  obtain ⟨e0, e1⟩ := index4 t
  refine Eq.trans ?_ (mask_at m ρ c s x)
  show (mV m ρ ((c : Thread nD τ).loc main_v9) : S512x512.Idx → EReal) ((((cfgA 0).win 4).blk t).view.emb _) = _
  refine congrArg _ (Shape.idx_ext₂ ?_ ?_)
  · show ((cfgA 0).win 4).index t 0 * 512 + 1 * (s : Nat) = s
    rw [e0]; omega
  · show ((cfgA 0).win 4).index t 1 * 512 + 1 * (x : Nat) = x
    rw [e1]; omega

end Cert.Fox

end
-- ==== Proof.FoxReference.lean ====
/-
  The attention's reference at one element of its result, when the queries, the keys and the forget gate's sums are real:
  the softmax of the scores of the keys up to the query, applied to the values.
-/
module

public import proofs.«01_k».proof.Proof.FoxMath
public import proofs.«01_k».proof.Proof.Gen.ReferenceIdeal.Run
public import Idealize.ShloMosaic.Lib.Pointwise
public import Idealize.ShloMosaic.Lib.WordCmp

@[expose] public section

noncomputable section

open Idealize.ShloMosaic Idealize.ShloMosaic.TcCoe Idealize.SL.Sem

namespace Cert.Fox

/-- The score of key `s` for query `r` in head `h`, as an exponent of 2. -/
def realScore (Q K : ℕ → Fin 1024 → ℝ) (F : Fin 8 → ℕ → ℝ) (h : Fin 8) (r s : ℕ) : ℝ :=
  (∑ d : Fin 128, K s (col h d) * Q r (col h d)) * ((11863283 / 134217728) * (Real.log 2)⁻¹) - F h s

theorem ofBits_scale : Ideal.ofBits .f32 0x3DB504F3#32 = ((11863283 / 134217728 : ℝ) : EReal) := by
  simp [Ideal.ofBits, Ideal.ieee]
  rw [← EReal.coe_mul]
  norm_num

theorem log_two : Ideal.log (Ideal.ofBits .f32 0x40000000#32) = (Real.log 2 : EReal) := by
  have h : Ideal.ofBits .f32 0x40000000#32 = ((2 : ℝ) : EReal) := by
    simp [Ideal.ofBits, Ideal.ieee]
    rw [← EReal.coe_mul]
    norm_num
  rw [h]
  show (if (2 : ℝ) ≤ 0 then (⊥ : EReal) else (Real.log 2 : EReal)) = _
  rw [if_neg (by norm_num)]

theorem select_le (a b : ℕ) (ha : a < 2 ^ 31) (hb : b < 2 ^ 31) (x y : EReal) :
    Scalar.select (IntOp.cmpi .sle (BitVec.ofNat 32 a) (BitVec.ofNat 32 b)) x y = if a ≤ b then x else y := by
  unfold Scalar.select
  exact if_congr (WordCmp.cmpi_sle_ofNat_eq_one_iff (w := 32) ha hb) rfl rfl

open Cert.ReferenceIdeal Cert.ReferenceIdeal.Gen

variable {Q K : ℕ → Fin 1024 → ℝ} {F : Fin 8 → ℕ → ℝ} {V : ℕ → Fin 1024 → EReal}

/-- The reference's scores, −∞ where the key comes after the query. -/
def scores (a0 : FVec Ideal S8192x1024 .bf16) (a1 : FVec Ideal S8704x1024 .bf16) (a3 : FVec Ideal S8x8192x128 .f32) : FVec Ideal S8x8192x8192 .f32 :=
  select (broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (subf (addf (mulf (Host.dotGeneral dot_S8192x8x128_S8192x8x128_S8x8192x8192_2_2_0_0_1_1 none (shapeCast _ (extf .f32 a0 bitsLt_bf16_f32) shapeCasts_S8192x1024_S8192x8x128) (shapeCast _ (extf .f32 (extractStridedSlice S8192x1024 ![0, 0] a1 slices_S8704x1024_S8192x1024_0_0) bitsLt_bf16_f32) shapeCasts_S8192x1024_S8192x8x128)) (broadcastInDim S8x8192x8192 ![] bcast_S_S8x8192x8192 (constant S_ .f32 0x3DB504F3#32))) (broadcastInDim S8x8192x8192 ![0, 1, 2] bcast_S8x8192x1_S8x8192x8192_0_1_2 (broadcastInDim S8x8192x1 ![0, 1] bcast_S8x8192_S8x8192x1_0_1 (mulf (shapeCast _ (extractStridedSlice S8x8192x1 ![0, 0, 0] a3 slices_S8x8192x128_S8x8192x1_0_0_0) shapeCasts_S8x8192x1_S8x8192) (broadcastInDim S8x8192 ![] bcast_S_S8x8192 (Host.log (constant S_ .f32 0x40000000#32))))))) (broadcastInDim S8x8192x8192 ![0, 1, 2] bcast_S8x1x8192_S8x8192x8192_0_1_2 (broadcastInDim S8x1x8192 ![0, 2] bcast_S8x8192_S8x1x8192_0_2 (mulf (shapeCast _ (extractStridedSlice S8x8192x1 ![0, 0, 0] a3 slices_S8x8192x128_S8x8192x1_0_0_0) shapeCasts_S8x8192x1_S8x8192) (broadcastInDim S8x8192 ![] bcast_S_S8x8192 (Host.log (constant S_ .f32 0x40000000#32))))))) (broadcastInDim S8x8192x8192 ![] bcast_S_S8x8192x8192 (id (constant S_ .f32 0xFF800000#32)))

theorem scores_at (a0 : S8192x1024.Idx → EReal) (a1 : S8704x1024.Idx → EReal) (a3 : S8x8192x128.Idx → EReal)
    (hq : ∀ (r : Fin 8192) d, a0 (ix2 r d) = (Q r d : EReal)) (hk : ∀ (s : Fin 8704) d, a1 (ix2 s d) = (K s d : EReal))
    (hf : ∀ h (s : Fin 8192) l, a3 (ix3 h s l) = (F h s : EReal)) (h : Fin 8) (r s : Fin 8192) :
    @Eq EReal (scores a0 a1 a3 (ix3 h r s)) (if s.val ≤ r.val then ((realScore Q K F h r s * Real.log 2 + F h r * Real.log 2 : ℝ) : EReal) else ⊥) := by
  have hh := h.isLt
  have e1 : ∀ x : Fin 128, (⟨h.val * 128 + x.val, by omega⟩ : Fin 1024) = col h x := fun x => Fin.ext (by
    show h.val * 128 + x.val = 128 * h.val + x.val
    omega)
  pointwise [scores]
  rw [select_le _ _ (by have := s.isLt; omega) (by have := r.isLt; omega), ofBits_scale, log_two]
  refine if_congr Iff.rfl ?_ ofBits_bot
  rw [Finset.sum_congr rfl fun x _ => show _ = ((K s (col h x) * Q r (col h x) : ℝ) : EReal) by
      rw [e1, hq, hk, ← EReal.coe_mul, mul_comm], hf, hf, ← coe_sum, ← EReal.coe_mul, ← EReal.coe_mul, ← EReal.coe_mul, ← EReal.coe_add, ← EReal.coe_sub]
  refine congrArg _ ?_
  have h2 : Real.log 2 ≠ 0 := (Real.log_pos one_lt_two).ne'
  show _ * _ + F h r * Real.log 2 - F h s * Real.log 2 = _
  unfold realScore
  field_simp
  ring

/-- The largest score of every query. -/
def peak (sc : FVec Ideal S8x8192x8192 .f32) : FVec Ideal S8x8192 .f32 :=
  maximumf (broadcastInDim S8x8192 ![] bcast_S_S8x8192 (constant S_ .f32 0xFF800000#32)) (Host.reduce FloatOps.maximumf sc (constant S_ .f32 0xFF800000#32) reducesTo_S8x8192x8192_S8x8192_d2 h_S_)

/-- The exponentials of the scores, less the largest. -/
def powers (sc : FVec Ideal S8x8192x8192 .f32) (p : FVec Ideal S8x8192 .f32) : FVec Ideal S8x8192x8192 .f32 :=
  Host.exp (subf sc (broadcastInDim S8x8192x8192 ![0, 1, 2] bcast_S8x8192x1_S8x8192x8192_0_1_2 (broadcastInDim S8x8192x1 ![0, 1] bcast_S8x8192_S8x8192x1_0_1 p)))

/-- The exponentials' sum over the keys. -/
def total (e : FVec Ideal S8x8192x8192 .f32) : FVec Ideal S8x8192 .f32 :=
  Host.reduceAdd e (constant S_ .f32 0x00000000#32) reducesTo_S8x8192x8192_S8x8192_d2 h_S_

/-- The exponentials over their sum. -/
def shares (e : FVec Ideal S8x8192x8192 .f32) (l : FVec Ideal S8x8192 .f32) : FVec Ideal S8x8192x8192 .f32 :=
  Host.divf e (broadcastInDim S8x8192x8192 ![0, 1, 2] bcast_S8x8192x1_S8x8192x8192_0_1_2 (broadcastInDim S8x8192x1 ![0, 1] bcast_S8x8192_S8x8192x1_0_1 l))

/-- The values weighted, as the result's 16 blocks. -/
def applied (w : FVec Ideal S8x8192x8192 .f32) (a2 : FVec Ideal S8192x1024 .bf16) : FVec Ideal S16x1024x512 .bf16 :=
  transpose S16x1024x512 [0, 2, 1] (shapeCast _ (truncf .bf16 (transpose S8192x8x128 [2, 0, 1] (Host.dotGeneral dot_S8192x8x128_S8x8192x8192_S8x128x8192_0_2_2_1_1_0 none (shapeCast _ (extf .f32 a2 bitsLt_bf16_f32) shapeCasts_S8192x1024_S8192x8x128) w) transposes_S8x128x8192_S8192x8x128_2_0_1) bitsLt_bf16_f32) shapeCasts_S8192x8x128_S16x512x1024) transposes_S16x512x1024_S16x1024x512_0_2_1

theorem fold_at (sc : FVec Ideal S8x8192x8192 .f32) (h : Fin 8) (r : Fin 8192) :
    @Eq EReal ((Host.reduce FloatOps.maximumf sc (constant S_ .f32 0xFF800000#32) reducesTo_S8x8192x8192_S8x8192_d2 h_S_ : FVec Ideal S8x8192 .f32) (ix2 h r))
      (Finset.univ.fold max ⊥ fun x : Fin 8192 => sc (ix3 h r x)) := by
  pointwise
  rw [ofBits_bot]

theorem maximumf_at (a b : FVec Ideal S8x8192 .f32) (i : S8x8192.Idx) : @Eq EReal (maximumf a b i) (max (a i) (b i)) := rfl

theorem bottom_at (h : Fin 8) (r : Fin 8192) :
    @Eq EReal ((broadcastInDim S8x8192 ![] bcast_S_S8x8192 (constant S_ .f32 0xFF800000#32) : FVec Ideal S8x8192 .f32) (ix2 h r)) ⊥ := by
  pointwise
  rw [ofBits_bot]

theorem peak_at (sc : FVec Ideal S8x8192x8192 .f32) (h : Fin 8) (r : Fin 8192) :
    @Eq EReal (peak sc (ix2 h r)) (max ⊥ (Finset.univ.fold max ⊥ fun x : Fin 8192 => sc (ix3 h r x))) := by
  unfold peak
  refine (maximumf_at _ _ _).trans ?_
  exact congrArg₂ max (bottom_at h r) (fold_at sc h r)

theorem powers_at (sc : FVec Ideal S8x8192x8192 .f32) (p : FVec Ideal S8x8192 .f32) (h : Fin 8) (r s : Fin 8192) :
    @Eq EReal (powers sc p (ix3 h r s)) (Ideal.exp (sc (ix3 h r s) - p (ix2 h r))) := by
  pointwise [powers]

theorem total_at (e : FVec Ideal S8x8192x8192 .f32) (h : Fin 8) (r : Fin 8192) :
    @Eq EReal (total e (ix2 h r)) (∑ x : Fin 8192, e (ix3 h r x)) := by
  pointwise [total]

theorem shares_at (e : FVec Ideal S8x8192x8192 .f32) (l : FVec Ideal S8x8192 .f32) (h : Fin 8) (r s : Fin 8192) :
    @Eq EReal (shares e l (ix3 h r s)) (Ideal.div (e (ix3 h r s)) (l (ix2 h r))) := by
  pointwise [shares]

theorem applied_at (w : FVec Ideal S8x8192x8192 .f32) (a2 : FVec Ideal S8192x1024 .bf16) (i : Fin 16) (r : Fin 1024) (t : Fin 512) :
    @Eq EReal (applied w a2 (ix3 i r t)) (∑ s : Fin 8192, a2 (ix2 s r) * w (ix3 (hd r) (⟨i.val * 512 + t.val, by omega⟩ : Fin 8192) s)) := by
  pointwise [applied]
  rfl

variable (m : (ℓ : Loc nD τ sig) → Buf (Elt Ideal) ℓ) (c : Dev nD)

theorem result_eq (sc : FVec Ideal S8x8192x8192 .f32) (a2 : FVec Ideal S8192x1024 .bf16) (z : ℕ → ℝ) (i : Fin 16) (r : Fin 1024) (t : Fin 512) (b : ℝ)
    (hsc : ∀ s : Fin 8192, @Eq EReal (sc (ix3 (hd r) (⟨i.val * 512 + t.val, by omega⟩ : Fin 8192) s))
      (if s.val ≤ i.val * 512 + t.val then ((z s * Real.log 2 + b : ℝ) : EReal) else ⊥))
    (hv : ∀ s : Fin 8192, @Eq EReal (a2 (ix2 s r)) (V s r)) :
    @Eq EReal (applied (shares (powers sc (peak sc)) (total (powers sc (peak sc)))) a2 (ix3 i r t)) (attend z (fun s => V s r) (i.val * 512 + t.val) 8192) := by
  refine (applied_at _ a2 i r t).trans ?_
  refine Eq.trans (Finset.sum_congr rfl fun s _ => ?_) (attend_of_softmax (N := 8192) (r := i.val * 512 + t.val) (z := z) (v := fun s => V s r) (by omega) b
    (fun s => sc (ix3 (hd r) (⟨i.val * 512 + t.val, by omega⟩ : Fin 8192) s)) (fun s => a2 (ix2 s r)) hsc hv
    (X := peak sc (ix2 (hd r) (⟨i.val * 512 + t.val, by omega⟩ : Fin 8192))) (peak_at sc _ _))
  refine congrArg (HMul.hMul (α := EReal) (β := EReal) (a2 (ix2 s r))) ?_
  refine (shares_at _ _ _ _ s).trans ?_
  refine congrArg₂ Ideal.div (powers_at _ _ _ _ s) ((total_at _ _ _).trans (Finset.sum_congr rfl fun s' _ => powers_at _ _ _ _ s'))

theorem reference_at (hq : ∀ (r : Fin 8192) d, (m ((c : Thread nD τ).loc main_arg0) : S8192x1024.Idx → EReal) (ix2 r d) = (Q r d : EReal))
    (hk : ∀ (s : Fin 8704) d, (m ((c : Thread nD τ).loc main_arg1) : S8704x1024.Idx → EReal) (ix2 s d) = (K s d : EReal))
    (hv : ∀ (s : Fin 8192) d, (m ((c : Thread nD τ).loc main_arg2) : S8192x1024.Idx → EReal) (ix2 s d) = V s d)
    (hf : ∀ h (s : Fin 8192) l, (m ((c : Thread nD τ).loc main_arg3) : S8x8192x128.Idx → EReal) (ix3 h s l) = (F h s : EReal))
    (i : Fin 16) (r : Fin 1024) (t : Fin 512) :
    @Eq EReal (Cert.ReferenceIdeal.Value.res_out0 (F := Ideal) m c (ix3 i r t))
      (attend (realScore Q K F (hd r) (i.val * 512 + t.val)) (fun s => V s r) (i.val * 512 + t.val) 8192) := by
  have e : @Eq (S16x1024x512.Idx → EReal) (Cert.ReferenceIdeal.Value.res_out0 (F := Ideal) m c)
      (applied (shares (powers (scores (m ((c : Thread nD τ).loc main_arg0)) (m ((c : Thread nD τ).loc main_arg1)) (m ((c : Thread nD τ).loc main_arg3)))
          (peak (scores (m ((c : Thread nD τ).loc main_arg0)) (m ((c : Thread nD τ).loc main_arg1)) (m ((c : Thread nD τ).loc main_arg3)))))
        (total (powers (scores (m ((c : Thread nD τ).loc main_arg0)) (m ((c : Thread nD τ).loc main_arg1)) (m ((c : Thread nD τ).loc main_arg3)))
          (peak (scores (m ((c : Thread nD τ).loc main_arg0)) (m ((c : Thread nD τ).loc main_arg1)) (m ((c : Thread nD τ).loc main_arg3)))))))
        (m ((c : Thread nD τ).loc main_arg2))) := by
    show @Eq (S16x1024x512.Idx → EReal) (Cert.ReferenceIdeal.Value.res_main_v43 (F := Ideal) m c) _
    unfold Cert.ReferenceIdeal.Value.res_main_v43 applied shares powers total peak scores
    rfl
  refine (congrFun e (ix3 i r t)).trans (result_eq _ _ _ i r t _ (fun s => scores_at (Q := Q) (K := K) (F := F) _ _ _ hq hk hf (hd r) _ s) (fun s => hv s r))

end Cert.Fox

end
-- ==== Proof.FoxKeeps.lean ====
/-
  The attention's walk keeps, for every query and head, the sums over the keys of the blocks met, when the queries, the keys
  and the forget gate's sums are real.
-/
module

public import proofs.«01_k».proof.Proof.FoxState
public import proofs.«01_k».proof.Proof.FoxMath
public import proofs.«01_k».proof.Proof.FoxWalk
public import proofs.«01_k».proof.Proof.FoxReference

@[expose] public section

set_option maxRecDepth 16384

noncomputable section

open Idealize.ShloMosaic Idealize.ShloMosaic.TcCoe Idealize.SL.Sem
open Idealize.ShloMosaic.Pipeline (Dat)

namespace Cert.Fox

open Cert.KernelIdeal Cert.KernelIdeal.Gen Cert.FoxIdeal

theorem first_real : ∃ M : ℝ, first = M := by
  unfold first
  simp [Ideal.ofBits, Ideal.ieee]
  rw [← EReal.coe_pow, ← EReal.coe_mul, ← EReal.coe_neg]
  exact ⟨_, rfl⟩

theorem hd_col (h : Fin 8) (d : Fin 128) : hd (col h d) = h := Fin.ext (by show (128 * h.val + d.val) / 128 = h.val; omega)
theorem ln_col (h : Fin 8) (d : Fin 128) : ln (col h d) = d := Fin.ext (by show (128 * h.val + d.val) % 128 = d.val; omega)
theorem col_hd (r : Fin 1024) : col (hd r) (ln r) = r := Fin.ext (by show 128 * (r.val / 128) + r.val % 128 = r.val; omega)

variable {Q K : ℕ → Fin 1024 → ℝ} {F : Fin 8 → ℕ → ℝ} {V : ℕ → Fin 1024 → EReal}

theorem score_real (x0 : S1x1024x512.Idx → EReal) (x1 : S512x1024.Idx → EReal) {q k : ℕ} (h : Fin 8) (s x : Fin 512)
    (h0 : ∀ d, x0 (ix3 (0 : Fin 1) d x) = (Q q d : EReal)) (h1 : ∀ d, x1 (ix2 s d) = (K k d : EReal)) (f : Fin 8 → Fin 512 → EReal) (hf : f h s = (F h k : EReal)) :
    score x0 x1 f h s x = (realScore Q K F h q k : EReal) := by
  unfold score realScore
  rw [Finset.sum_congr rfl fun d _ => show _ = ((K k (col h d) * Q q (col h d) : ℝ) : EReal) by rw [h0, h1, ← EReal.coe_mul], hf, ← coe_sum,
    ← EReal.coe_mul, ← EReal.coe_sub]

/-- What the three buffers hold of every query and head after the first `n` keys. -/
def Holds (Q K : ℕ → Fin 1024 → ℝ) (F : Fin 8 → ℕ → ℝ) (V : ℕ → Fin 1024 → EReal) (q n : ℕ) (m l : Fin 8 → Fin 512 → EReal) (a : Fin 1024 → Fin 512 → EReal) : Prop :=
  ∀ (h : Fin 8) (d : Fin 128) (x : Fin 512), Kept (realScore Q K F h (512 * q + x)) (fun s => V s (col h d)) (512 * q + x) n (m h x) (l h x) (a (col h d) x)

theorem holds_step {q n : ℕ} {m l : Fin 8 → Fin 512 → EReal} {a : Fin 1024 → Fin 512 → EReal} (hk : Holds Q K F V q n m l a)
    {z : Fin 8 → Fin 512 → Fin 512 → EReal} {u : S1x1024x512.Idx → EReal}
    (hz : ∀ (h : Fin 8) (s x : Fin 512), z h s x = masked (realScore Q K F h (512 * q + x)) (512 * q + x) (n + s))
    (hu : ∀ (d : Fin 1024) (s : Fin 512), u (ix3 (0 : Fin 1) d s) = V (n + s) d) :
    Holds Q K F V q (n + 512) (newMax z m) (newSum z m l) (fun r x => newAcc z m a u (hd r) (ln r) x) := fun h d x => by
  show Kept _ _ _ _ _ _ (newAcc z m a u (hd (col h d)) (ln (col h d)) x)
  rw [hd_col, ln_col]
  exact kept_step (hk h d x) (fun s => z h s x) (fun s => u (ix3 (0 : Fin 1) (col h d) s)) (fun s => hz h s x) (fun s => hu (col h d) s) rfl rfl rfl

theorem holds_first {q n : ℕ} (hn : n = 0) : Holds Q K F V q n (fun _ _ => first) (fun _ _ => 0) (fun _ _ => 0) := fun h d x => by
  obtain ⟨M, hM⟩ := first_real
  rw [hn, hM]
  exact kept_zero _ _ _ M

theorem holds_out {q n : ℕ} {m l : Fin 8 → Fin 512 → EReal} {a : Fin 1024 → Fin 512 → EReal} (hk : Holds Q K F V q n m l a) (hn : n = 512 * q + 512) (hq : q < 16)
    (r : Fin 1024) (x : Fin 512) : Ideal.div (a r x) (l (hd r) x) = attend (realScore Q K F (hd r) (512 * q + x)) (fun s => V s r) (512 * q + x) 8192 := by
  have h := attend_of_kept (N := 8192) (hk (hd r) (ln r) x) (by omega) (by omega)
  rw [col_hd] at h
  exact h

variable (m : (ℓ : Loc nD τ sig) → Buf (Elt Ideal) ℓ) (ρ : Dev nD → PrngReg) (c : Dev nD)
  (hq : ∀ (r : Fin 8192) d, @Eq EReal ((m ((c : Thread nD τ).loc main_arg0) : S8192x1024.Idx → EReal) (ix2 r d)) (Q r d : EReal))
  (hk : ∀ (s : Fin 8704) d, @Eq EReal ((m ((c : Thread nD τ).loc main_arg1) : S8704x1024.Idx → EReal) (ix2 s d)) (K s d : EReal))
  (hv : ∀ (s : Fin 8192) d, @Eq EReal ((m ((c : Thread nD τ).loc main_arg2) : S8192x1024.Idx → EReal) (ix2 s d)) (V s d))
  (hf : ∀ h (s : Fin 8192) l, @Eq EReal ((m ((c : Thread nD τ).loc main_arg3) : S8x8192x128.Idx → EReal) (ix3 h s l)) (F h s : EReal))
  (t : Fin (cfgA 0).N)

include hq hk in
theorem score_blk (h : Fin 8) (s x : Fin 512) :
    score (iblk 0 m ρ c 0 t : S1x1024x512.Idx → EReal) (iblk 0 m ρ c 1 t : S512x1024.Idx → EReal) (fun h s => (F h (512 * kb t + s) : EReal)) h s x
      = (realScore Q K F h (512 * qb t + x) (512 * kb t + s) : EReal) :=
  score_real _ _ h s x (fun d => (queries_blk m ρ c t d x).trans (hq _ d)) (fun d => (keys_blk m ρ c t s d).trans (hk _ d)) _ rfl

include hf in
theorem forget_real (h : Fin 8) (s : Fin 512) (l : Fin 128) : @Eq EReal ((iblk 0 m ρ c 3 t : S8x512x128.Idx → EReal) (ix3 h s l)) ((fun h s => (F h (512 * kb t + s.val) : EReal) : Fin 8 → Fin 512 → EReal) h s) :=
  (forget_blk m ρ c t h s l).trans (hf h _ l)

include hv in
theorem values_real (d : Fin 1024) (s : Fin 512) : @Eq EReal ((iblk 0 m ρ c 2 t : S1x1024x512.Idx → EReal) (ix3 (0 : Fin 1) d s)) (V (512 * kb t + s) d) :=
  (values_blk m ρ c t d s).trans (hv _ d)

theorem add_mask (r : ℝ) (w : EReal) (p : Prop) [Decidable p] (hw : w = if p then 0 else ⊥) : (r : EReal) + w = if p then (r : EReal) else ⊥ := by
  rw [hw]
  split
  · rw [add_zero]
  · rw [EReal.add_bot]

include hq hk in
theorem diagonal_blk (e : kb t = qb t) (h : Fin 8) (s x : Fin 512) :
    @Eq EReal ((fun h s x => score (iblk 0 m ρ c 0 t) (iblk 0 m ρ c 1 t) (fun h s => (F h (512 * kb t + s) : EReal)) h s x + (iblk 0 m ρ c 4 t : S512x512.Idx → EReal) (ix2 s x) : Fin 8 → Fin 512 → Fin 512 → EReal) h s x)
      (masked (realScore Q K F h (512 * qb t + x)) (512 * qb t + x) (512 * kb t + s)) := by
  show @Eq EReal (_ + _) _
  refine (congrArg (fun y : EReal => y + _) (score_blk m ρ c hq hk t h s x)).trans ((add_mask _ _ _ (mask_blk m ρ c t s x)).trans ?_)
  unfold masked
  refine if_congr ?_ rfl rfl
  rw [e]
  omega

include hq hk in
theorem below_blk (e : kb t ≠ qb t) (h : Fin 8) (s x : Fin 512) :
    score (iblk 0 m ρ c 0 t) (iblk 0 m ρ c 1 t) (fun h s => (F h (512 * kb t + s) : EReal)) h s x
      = masked (realScore Q K F h (512 * qb t + x)) (512 * qb t + x) (512 * kb t + s) := by
  have hb := (blocks_le t).2
  rw [score_blk m ρ c hq hk t h s x]
  unfold masked
  rw [if_pos (by omega)]

theorem holds_of_eq {q n : ℕ} {m l m' l' : Fin 8 → Fin 512 → EReal} {a a' : Fin 1024 → Fin 512 → EReal} (h : Holds Q K F V q n m l a)
    (em : ∀ h x, m' h x = m h x) (el : ∀ h x, l' h x = l h x) (ea : ∀ r x, a' r x = a r x) : Holds Q K F V q n m' l' a' := fun h' d x => by
  rw [em, el, ea]
  exact h h' d x

/-- The scores of a block on the diagonal. -/
abbrev diagonal : Fin 8 → Fin 512 → Fin 512 → EReal := fun h s x =>
  score (iblk 0 m ρ c 0 t) (iblk 0 m ρ c 1 t) (fun h s => (F h (512 * kb t + s) : EReal)) h s x + (iblk 0 m ρ c 4 t : S512x512.Idx → EReal) (ix2 s x)

include hq hk hv hf

theorem keeps_A (p) (q0 : P0_0 0 t) (q1 : P0_1 0 t) :
    Holds Q K F V (qb t) (512 * kb t + 512) (maxOf c (step0 0 m ρ c t p).2.1) (sumOf c (step0 0 m ρ c t p).2.2.1) (accOf c (step0 0 m ρ c t p).2.2.2.1) := by
  have H := holds_step (holds_first (Q := Q) (K := K) (F := F) (V := V) (q := qb t) (n := 512 * kb t) (by rw [(cases_iff t).1.1 q0])) (diagonal_blk m ρ c hq hk t ((cases_iff t).2.1 q1)) (values_real m ρ c hv t)
  have M := maxima_A (ms0_0 0 t) (ms0_1 0 t) (ms0_3 0 t) (ms0_4 0 t) (iblk 0 m ρ c 0 t) (iblk 0 m ρ c 1 t) (iblk 0 m ρ c 3 t) (iblk 0 m ρ c 4 t) (forget_real m ρ c hf t)
  have L := sums_A (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) (forget_real m ρ c hf t)
  have A := accs_A (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) (forget_real m ρ c hf t)
  exact holds_of_eq H (fun h x => (congrFun (step_max_A m ρ c t p q0 q1) _).trans (M (ix3 h (0 : Fin 1) x)))
    (fun h x => (congrFun (step_sum_A m ρ c t p q0 q1) _).trans (L (ix3 h (0 : Fin 1) x))) (fun r x => (congrFun (step_acc_A m ρ c t p q0 q1) _).trans (A (ix2 r x)))

theorem gives_A (p) (q0 : P0_0 0 t) (q1 : P0_1 0 t) :
    ∀ (r : Fin 1024) (x : Fin 512), @Eq EReal ((step0 0 m ρ c t p).1 (ix3 (0 : Fin 1) r x)) (attend (realScore Q K F (hd r) (512 * qb t + x)) (fun s => V s r) (512 * qb t + x) 8192) := by
  have H := holds_step (holds_first (Q := Q) (K := K) (F := F) (V := V) (q := qb t) (n := 512 * kb t) (by rw [(cases_iff t).1.1 q0])) (diagonal_blk m ρ c hq hk t ((cases_iff t).2.1 q1)) (values_real m ρ c hv t)
  have L := sums_A (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) (forget_real m ρ c hf t)
  have A := accs_A (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) (forget_real m ρ c hf t)
  intro r x
  have e := outs_A (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t)
    (a := fun r x => newAcc (diagonal (F := F) m ρ c t) (fun _ _ => first) (fun _ _ => 0) (iblk 0 m ρ c 2 t) (hd r) (ln r) x) (l := newSum (diagonal (F := F) m ρ c t) (fun _ _ => first) (fun _ _ => 0)) A L (ix3 (0 : Fin 1) r x)
  exact (congrFun (step_out_A m ρ c t p q0 q1) _).trans (e.trans (holds_out H (by rw [(cases_iff t).2.1 q1]) (blocks_le t).1 r x))

theorem keeps_B (p) (q0 : P0_0 0 t) (q1 : ¬P0_1 0 t) :
    Holds Q K F V (qb t) (512 * kb t + 512) (maxOf c (step0 0 m ρ c t p).2.1) (sumOf c (step0 0 m ρ c t p).2.2.1) (accOf c (step0 0 m ρ c t p).2.2.2.1) := by
  have H := holds_step (holds_first (Q := Q) (K := K) (F := F) (V := V) (q := qb t) (n := 512 * kb t) (by rw [(cases_iff t).1.1 q0])) (below_blk m ρ c hq hk t (fun e => q1 ((cases_iff t).2.2 e))) (values_real m ρ c hv t)
  have M := maxima_B (ms0_0 0 t) (ms0_1 0 t) (ms0_3 0 t) (iblk 0 m ρ c 0 t) (iblk 0 m ρ c 1 t) (iblk 0 m ρ c 3 t) (forget_real m ρ c hf t)
  have L := sums_B (ms0_0 0 t) (ms0_1 0 t) (ms0_2 0 t) (ms0_3 0 t) (iblk 0 m ρ c 0 t) (iblk 0 m ρ c 1 t) (iblk 0 m ρ c 2 t) (iblk 0 m ρ c 3 t) (forget_real m ρ c hf t)
  have A := accs_B (ms0_0 0 t) (ms0_1 0 t) (ms0_2 0 t) (ms0_3 0 t) (iblk 0 m ρ c 0 t) (iblk 0 m ρ c 1 t) (iblk 0 m ρ c 2 t) (iblk 0 m ρ c 3 t) (forget_real m ρ c hf t)
  exact holds_of_eq H (fun h x => (congrFun (step_max_B m ρ c t p q0 q1) _).trans (M (ix3 h (0 : Fin 1) x)))
    (fun h x => (congrFun (step_sum_B m ρ c t p q0 q1) _).trans (L (ix3 h (0 : Fin 1) x))) (fun r x => (congrFun (step_acc_B m ρ c t p q0 q1) _).trans (A (ix2 r x)))

theorem keeps_C (p) (q0 : ¬P0_0 0 t) (q1 : P0_1 0 t) (hp : Holds Q K F V (qb t) (512 * kb t) (maxOf c p.2.1) (sumOf c p.2.2.1) (accOf c p.2.2.2.1)) :
    Holds Q K F V (qb t) (512 * kb t + 512) (maxOf c (step0 0 m ρ c t p).2.1) (sumOf c (step0 0 m ρ c t p).2.2.1) (accOf c (step0 0 m ρ c t p).2.2.2.1) := by
  have H := holds_step (hp) (diagonal_blk m ρ c hq hk t ((cases_iff t).2.1 q1)) (values_real m ρ c hv t)
  have M := maxima_C c (ms0_0 0 t) (ms0_1 0 t) (ms0_3 0 t) (ms0_4 0 t) (iblk 0 m ρ c 0 t) (iblk 0 m ρ c 1 t) (iblk 0 m ρ c 3 t) (iblk 0 m ρ c 4 t) p.2.1 (forget_real m ρ c hf t)
  have L := sums_C c (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) p.2.1 p.2.2.1 (forget_real m ρ c hf t)
  have A := accs_C c (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) p.2.1 p.2.2.2.1 (forget_real m ρ c hf t)
  exact holds_of_eq H (fun h x => (congrFun (step_max_C m ρ c t p q0 q1) _).trans (M (ix3 h (0 : Fin 1) x)))
    (fun h x => (congrFun (step_sum_C m ρ c t p q0 q1) _).trans (L (ix3 h (0 : Fin 1) x))) (fun r x => (congrFun (step_acc_C m ρ c t p q0 q1) _).trans (A (ix2 r x)))

theorem gives_C (p) (q0 : ¬P0_0 0 t) (q1 : P0_1 0 t) (hp : Holds Q K F V (qb t) (512 * kb t) (maxOf c p.2.1) (sumOf c p.2.2.1) (accOf c p.2.2.2.1)) :
    ∀ (r : Fin 1024) (x : Fin 512), @Eq EReal ((step0 0 m ρ c t p).1 (ix3 (0 : Fin 1) r x)) (attend (realScore Q K F (hd r) (512 * qb t + x)) (fun s => V s r) (512 * qb t + x) 8192) := by
  have H := holds_step (hp) (diagonal_blk m ρ c hq hk t ((cases_iff t).2.1 q1)) (values_real m ρ c hv t)
  have L := sums_C c (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) p.2.1 p.2.2.1 (forget_real m ρ c hf t)
  have A := accs_C c (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) p.2.1 p.2.2.2.1 (forget_real m ρ c hf t)
  intro r x
  have e := outs_C c (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t) p.2.1 p.2.2.1 p.2.2.2.1
    (a := fun r x => newAcc (diagonal (F := F) m ρ c t) (maxOf c p.2.1) (accOf c p.2.2.2.1) (iblk 0 m ρ c 2 t) (hd r) (ln r) x) (l := newSum (diagonal (F := F) m ρ c t) (maxOf c p.2.1) (sumOf c p.2.2.1)) A L (ix3 (0 : Fin 1) r x)
  exact (congrFun (step_out_C m ρ c t p q0 q1) _).trans (e.trans (holds_out H (by rw [(cases_iff t).2.1 q1]) (blocks_le t).1 r x))

theorem keeps_D (p) (q0 : ¬P0_0 0 t) (q1 : ¬P0_1 0 t) (hp : Holds Q K F V (qb t) (512 * kb t) (maxOf c p.2.1) (sumOf c p.2.2.1) (accOf c p.2.2.2.1)) :
    Holds Q K F V (qb t) (512 * kb t + 512) (maxOf c (step0 0 m ρ c t p).2.1) (sumOf c (step0 0 m ρ c t p).2.2.1) (accOf c (step0 0 m ρ c t p).2.2.2.1) := by
  have H := holds_step (hp) (below_blk m ρ c hq hk t (fun e => q1 ((cases_iff t).2.2 e))) (values_real m ρ c hv t)
  have M := maxima_D c (ms0_0 0 t) (ms0_1 0 t) (ms0_3 0 t) (iblk 0 m ρ c 0 t) (iblk 0 m ρ c 1 t) (iblk 0 m ρ c 3 t) p.2.1 (forget_real m ρ c hf t)
  have L := sums_D c (ms0_0 0 t) (ms0_1 0 t) (ms0_2 0 t) (ms0_3 0 t) (iblk 0 m ρ c 0 t) (iblk 0 m ρ c 1 t) (iblk 0 m ρ c 2 t) (iblk 0 m ρ c 3 t) p.2.1 p.2.2.1 (forget_real m ρ c hf t)
  have A := accs_D c (ms0_0 0 t) (ms0_1 0 t) (ms0_2 0 t) (ms0_3 0 t) (iblk 0 m ρ c 0 t) (iblk 0 m ρ c 1 t) (iblk 0 m ρ c 2 t) (iblk 0 m ρ c 3 t) p.2.1 p.2.2.2.1 (forget_real m ρ c hf t)
  exact holds_of_eq H (fun h x => (congrFun (step_max_D m ρ c t p q0 q1) _).trans (M (ix3 h (0 : Fin 1) x)))
    (fun h x => (congrFun (step_sum_D m ρ c t p q0 q1) _).trans (L (ix3 h (0 : Fin 1) x))) (fun r x => (congrFun (step_acc_D m ρ c t p q0 q1) _).trans (A (ix2 r x)))

/-- After every point of the walk the buffers hold the sums over the keys of the blocks met. -/
theorem keeps : ∀ (n : ℕ) (t : Fin (cfgA 0).N), t.val = n → Holds Q K F V (qb t) (512 * kb t + 512) (maxOf c (traj0 0 m ρ c t.val t.isLt).2.1)
    (sumOf c (traj0 0 m ρ c t.val t.isLt).2.2.1) (accOf c (traj0 0 m ρ c t.val t.isLt).2.2.2.1)
      ∧ (kb t = qb t → ∀ (r : Fin 1024) (x : Fin 512), @Eq EReal ((traj0 0 m ρ c t.val t.isLt).1 (ix3 (0 : Fin 1) r x))
        (attend (realScore Q K F (hd r) (512 * qb t + x)) (fun s => V s r) (512 * qb t + x) 8192)) := by
  intro n
  induction n using Nat.strong_induction_on with
  | _ n ih =>
    intro t ht
    rw [traj0_eq 0 m ρ c t]
    by_cases q0 : P0_0 0 t
    · by_cases q1 : P0_1 0 t
      · have h := And.intro (keeps_A m ρ c hq hk hv hf t (prev0 0 m ρ c t) q0 q1) (gives_A m ρ c hq hk hv hf t (prev0 0 m ρ c t) q0 q1)
        exact ⟨h.1, fun _ => h.2⟩
      · exact ⟨keeps_B m ρ c hq hk hv hf t (prev0 0 m ρ c t) q0 q1, fun e => absurd ((cases_iff t).2.2 e) q1⟩
    · have e0 : kb t ≠ 0 := fun e => q0 ((cases_iff t).1.2 e)
      obtain ⟨e1, e2⟩ := before t e0
      have hlt : t.val - 1 < (cfgA 0).N := by have := t.isLt; omega
      obtain ⟨e3, e4⟩ := e2 hlt
      have hp := (ih (t.val - 1) (by omega) ⟨t.val - 1, hlt⟩ rfl).1
      rw [e3, show 512 * kb ⟨t.val - 1, hlt⟩ + 512 = 512 * kb t by omega] at hp
      have ep : prev0 0 m ρ c t = traj0 0 m ρ c (t.val - 1) hlt := by
        unfold prev0
        rw [dif_neg e1]
      rw [ep]
      by_cases q1 : P0_1 0 t
      · have h := And.intro (keeps_C m ρ c hq hk hv hf t (traj0 0 m ρ c (t.val - 1) hlt) q0 q1 hp) (gives_C m ρ c hq hk hv hf t (traj0 0 m ρ c (t.val - 1) hlt) q0 q1 hp)
        exact ⟨h.1, fun _ => h.2⟩
      · exact ⟨keeps_D m ρ c hq hk hv hf t (traj0 0 m ρ c (t.val - 1) hlt) q0 q1 hp, fun e => absurd ((cases_iff t).2.2 e) q1⟩

end Cert.Fox

end
-- ==== Proof.FoxFinite.lean ====
/-
  What the precondition says of the arguments: the queries, the keys and the forget gate's sums are real, and the 128
  copies of each sum are equal.
-/
module

public import proofs.«01_k».proof.Pre_finite_keys
public import Idealize.ShloMosaic.Lib.Pointwise
public import Idealize.ShloMosaic.Lib.ReduceAll
public import Idealize.ShloMosaic.Lib.Affine
public import Idealize.ShloMosaic.PureOps.Ideal

@[expose] public section

noncomputable section

open Idealize.ShloMosaic

namespace Cert.Fox

open Cert.Pre_finite_keys

theorem real_of_abs (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  have h1 : max x (-x) < ⊤ := by
    by_contra hn
    have : Ideal.cmp .olt (max x (-x)) ⊤ = 0#1 := by
      show BitVec.ofBool (decide _) = _
      rw [decide_eq_false hn]; rfl
    rw [this] at h
    exact absurd h (by decide)
  induction x with
  | bot => simp at h1
  | top => simp at h1
  | coe r => exact ⟨r, rfl⟩

theorem eq_of_cmp (x y : EReal) (h : Ideal.cmp .oeq x y = 1#1) : x = y := by
  by_contra hn
  have : Ideal.cmp .oeq x y = 0#1 := by
    show BitVec.ofBool (decide _) = _
    rw [decide_eq_false hn]; rfl
  rw [this] at h
  exact absurd h (by decide)

instance : Subsingleton S_.Idx := ⟨fun a b => funext fun i => i.elim0⟩

theorem finite_keys [Facts] (a0 : FVec Ideal S8192x1024 .bf16) (a1 : FVec Ideal S8704x1024 .bf16) (a2 : FVec Ideal S8192x1024 .bf16)
    (a3 : FVec Ideal S8x8192x128 .f32) (h : fn (F := Ideal) a0 a1 a2 a3 = fun _ => 1#1) :
    (∀ i, ∃ x : ℝ, @Eq EReal (a0 i) x) ∧ (∀ i, ∃ x : ℝ, @Eq EReal (a1 i) x) ∧ (∀ i, ∃ x : ℝ, @Eq EReal (a3 i) x)
      ∧ ∀ (k : Fin 8) (s : Fin 8192) (l : Fin 128), @Eq EReal (a3 (ix3 k s l)) (a3 (ix3 k s (0 : Fin 128))) := by
  have h1 := congrFun h ix0
  unfold fn fn_part1 at h1
  obtain ⟨h2, e3⟩ := IntOp.andi_eq_one.1 h1
  obtain ⟨h4, e2⟩ := IntOp.andi_eq_one.1 h2
  obtain ⟨e0, e1⟩ := IntOp.andi_eq_one.1 h4
  refine ⟨fun i => real_of_abs _ (Host.reduce_andi_all _ _ _ _ _ e0 i), fun i => real_of_abs _ (Host.reduce_andi_all _ _ _ _ _ e1 i),
    fun i => real_of_abs _ (Host.reduce_andi_all _ _ _ _ _ e2 i), fun k s l => ?_⟩
  have e := eq_of_cmp _ _ (Host.reduce_andi_all _ _ _ _ _ e3 (ix3 k s l))
  refine e.trans ?_
  pointwise

end Cert.Fox

end
-- ==== Proof.FoxValue.lean ====
/-
  The attention's value: over the extended reals the kernel's result and the reference's are the softmax of the scores of the
  keys up to the query, applied to the values, when the queries, the keys and the forget gate's sums are real.
-/
module

public import proofs.«01_k».proof.Proof.FoxKeeps
public import proofs.«01_k».proof.Proof.FoxFinite
public import proofs.«01_k».proof.Defs

@[expose] public section

set_option maxRecDepth 16384

noncomputable section

open Idealize.ShloMosaic Idealize.ShloMosaic.TcCoe Idealize.SL.Sem
open Idealize.ShloMosaic.Pipeline (Dat)

namespace Cert.FoxValue

open Cert.KernelIdeal Cert.KernelIdeal.Gen Cert.FoxIdeal Cert.Fox

variable {Q K : ℕ → Fin 1024 → ℝ} {F : Fin 8 → ℕ → ℝ} {V : ℕ → Fin 1024 → EReal}

/-- The result. -/
def result (Q K : ℕ → Fin 1024 → ℝ) (F : Fin 8 → ℕ → ℝ) (V : ℕ → Fin 1024 → EReal) : S16x1024x512.Idx → EReal := fun i =>
  attend (realScore Q K F (hd (i 1)) (512 * (i 0).val + (i 2).val)) (fun s => V s (i 1)) (512 * (i 0).val + (i 2).val) 8192

theorem result_at {i : S16x1024x512.Idx} {b : ℕ} {r : Fin 1024} {x : Fin 512} (h0 : (i 0).val = b) (h1 : (i 1).val = r.val) (h2 : (i 2).val = x.val) :
    result Q K F V i = attend (realScore Q K F (hd r) (512 * b + x.val)) (fun s => V s r) (512 * b + x.val) 8192 := by
  have e : i 1 = r := Fin.ext h1
  unfold result
  rw [e, h0, h2]

variable (m : (ℓ : Loc nD τ sig) → Buf (Elt Ideal) ℓ) (ρ : Dev nD → PrngReg) (c : Dev nD)
  (hq : ∀ (r : Fin 8192) d, @Eq EReal ((m ((c : Thread nD τ).loc main_arg0) : S8192x1024.Idx → EReal) (ix2 r d)) (Q r d : EReal))
  (hk : ∀ (s : Fin 8704) d, @Eq EReal ((m ((c : Thread nD τ).loc main_arg1) : S8704x1024.Idx → EReal) (ix2 s d)) (K s d : EReal))
  (hv : ∀ (s : Fin 8192) d, @Eq EReal ((m ((c : Thread nD τ).loc main_arg2) : S8192x1024.Idx → EReal) (ix2 s d)) (V s d))
  (hf : ∀ h (s : Fin 8192) l, @Eq EReal ((m ((c : Thread nD τ).loc main_arg3) : S8x8192x128.Idx → EReal) (ix3 h s l)) (F h s : EReal))

include hq hk hv hf in
theorem flushed_eq (t : Fin (cfgA 0).N) (hfl : ((cfgA 0).win 6).flush t = true) :
    (dats 0 m ρ 0 c).flushed 6 t = (((cfgA 0).win 6).blk t).view.read (Elt Ideal) (result Q K F V) := by
  obtain ⟨e0, e1, e2⟩ := index6 t
  have h := (keeps m ρ c hq hk hv hf t.val t rfl).2 ((flush_iff t).1 hfl)
  show ((cfgA 0).win 6).cut ((cfgA 0).grid.coords t) ((dats 0 m ρ 0 c).after (6 : Fin 7) t) = _
  rw [after0_6]
  funext y
  have y0 : (y 0 : ℕ) = 0 := by have : (y 0 : ℕ) < 1 := (y 0).isLt; omega
  have ey : @Eq (S1x1024x512.Idx) y (ix3 (0 : Fin 1) (y 1) (y 2)) := idx_ext3 y0 rfl rfl
  show @Eq EReal ((traj0 0 m ρ c t.val t.isLt).1 y) (result Q K F V ((((cfgA 0).win 6).blk t).view.emb y))
  rw [ey]
  refine (h (y 1) (y 2)).trans (Eq.symm ?_)
  refine result_at (b := qb t) ?_ ?_ ?_
  · show ((cfgA 0).win 6).index t 0 * 1 + 1 * 0 = qb t
    rw [e0]; omega
  · show ((cfgA 0).win 6).index t 1 * 1024 + 1 * (y 1 : ℕ) = (y 1 : ℕ)
    rw [e1]; omega
  · show ((cfgA 0).win 6).index t 2 * 512 + 1 * (y 2 : ℕ) = (y 2 : ℕ)
    rw [e2]; omega

theorem cover (i : S16x1024x512.Idx) : ∃ t : Fin (cfgA 0).N, ((cfgA 0).win 6).flush t = true ∧ i ∈ (((cfgA 0).win 6).blk t).view.set := by
  have h1 : (i 1 : ℕ) < 1024 := (i 1).isLt
  have h2 : (i 2 : ℕ) < 512 := (i 2).isLt
  obtain ⟨t, eq, ek⟩ := reaches (i 0)
  obtain ⟨e0, e1, e2⟩ := index6 t
  refine ⟨t, (flush_iff t).2 (ek.trans eq.symm), ?_⟩
  show i ∈ ((View.whole main_v15).slice (((cfgA 0).win 6).rect t)).set
  rw [View.set_slice_whole, Rect.mem_set_unit]
  intro a
  fin_cases a
  · show ((cfgA 0).win 6).index t 0 * 1 ≤ (i 0 : ℕ) ∧ (i 0 : ℕ) < ((cfgA 0).win 6).index t 0 * 1 + 1
    rw [e0, eq]; omega
  · show ((cfgA 0).win 6).index t 1 * 1024 ≤ (i 1 : ℕ) ∧ (i 1 : ℕ) < ((cfgA 0).win 6).index t 1 * 1024 + 1024
    rw [e1]; omega
  · show ((cfgA 0).win 6).index t 2 * 512 ≤ (i 2 : ℕ) ∧ (i 2 : ℕ) < ((cfgA 0).win 6).index t 2 * 512 + 512
    rw [e2]; omega

include hq hk hv hf in
theorem final : @Eq (S16x1024x512.Idx → EReal) ((dats 0 m ρ 0 c).arrAt 6 (cfgA 0).N) (result Q K F V) :=
  (dats 0 m ρ 0 c).arrAt_eq_of_cover 6 _ (fun t hfl => flushed_eq m ρ c hq hk hv hf t hfl) cover

/-! ## The arguments as real functions -/

section
variable (a0 a2 : S8192x1024.Idx → EReal) (a1 : S8704x1024.Idx → EReal) (a3 : S8x8192x128.Idx → EReal)

def rowsQ : ℕ → Fin 1024 → ℝ := fun r d => if h : r < 8192 then (a0 (ix2 ⟨r, h⟩ d)).toReal else 0
def rowsK : ℕ → Fin 1024 → ℝ := fun s d => if h : s < 8704 then (a1 (ix2 ⟨s, h⟩ d)).toReal else 0
def rowsV : ℕ → Fin 1024 → EReal := fun s d => if h : s < 8192 then a2 (ix2 ⟨s, h⟩ d) else 0
def sumsF : Fin 8 → ℕ → ℝ := fun k s => if h : s < 8192 then (a3 (ix3 k ⟨s, h⟩ (0 : Fin 128))).toReal else 0

theorem toReal_eq {x : EReal} (h : ∃ r : ℝ, x = r) : x = (x.toReal : EReal) := by
  obtain ⟨r, rfl⟩ := h
  rw [EReal.toReal_coe]

theorem rowsQ_eq (h : ∀ i, ∃ x : ℝ, a0 i = x) (r : Fin 8192) (d : Fin 1024) : a0 (ix2 r d) = (rowsQ a0 r d : EReal) := by
  unfold rowsQ
  rw [dif_pos r.isLt]
  exact toReal_eq (h _)

theorem rowsK_eq (h : ∀ i, ∃ x : ℝ, a1 i = x) (s : Fin 8704) (d : Fin 1024) : a1 (ix2 s d) = (rowsK a1 s d : EReal) := by
  unfold rowsK
  rw [dif_pos s.isLt]
  exact toReal_eq (h _)

theorem rowsV_eq (s : Fin 8192) (d : Fin 1024) : a2 (ix2 s d) = rowsV a2 s d := by
  unfold rowsV
  rw [dif_pos s.isLt]

theorem sumsF_eq (h : ∀ i, ∃ x : ℝ, a3 i = x) (h' : ∀ (k : Fin 8) (s : Fin 8192) (l : Fin 128), a3 (ix3 k s l) = a3 (ix3 k s (0 : Fin 128)))
    (k : Fin 8) (s : Fin 8192) (l : Fin 128) : a3 (ix3 k s l) = (sumsF a3 k s : EReal) := by
  unfold sumsF
  rw [dif_pos s.isLt, h']
  exact toReal_eq (h _)

end

/-- The result of the arguments. -/
def value (a0 : S8192x1024.Idx → EReal) (a1 : S8704x1024.Idx → EReal) (a2 : S8192x1024.Idx → EReal) (a3 : S8x8192x128.Idx → EReal) : S16x1024x512.Idx → EReal :=
  result (rowsQ a0) (rowsK a1) (sumsF a3) (rowsV a2)

theorem kernel_value [Cert.Pre_finite_keys.Facts]
    (hpre : Cert.Pre_finite_keys.fn (F := Ideal) (m ((c : Thread nD τ).loc main_arg0)) (m ((c : Thread nD τ).loc main_arg1)) (m ((c : Thread nD τ).loc main_arg2)) (m ((c : Thread nD τ).loc main_arg3)) = fun _ => 1#1) :
    @Eq (S16x1024x512.Idx → EReal) ((dats 0 m ρ 0 c).arrAt 6 (cfgA 0).N)
      (value (m ((c : Thread nD τ).loc main_arg0)) (m ((c : Thread nD τ).loc main_arg1)) (m ((c : Thread nD τ).loc main_arg2)) (m ((c : Thread nD τ).loc main_arg3))) := by
  obtain ⟨f0, f1, f3, f4⟩ := finite_keys _ _ _ _ hpre
  exact final m ρ c (rowsQ_eq _ f0) (rowsK_eq _ f1) (rowsV_eq _) (sumsF_eq _ f3 f4)

theorem reference_value [Cert.Pre_finite_keys.Facts] (m : (ℓ : Loc Cert.ReferenceIdeal.nD Cert.ReferenceIdeal.τ Cert.ReferenceIdeal.sig) → Buf (Elt Ideal) ℓ) (c : Dev Cert.ReferenceIdeal.nD)
    (a0 : S8192x1024.Idx → EReal) (a1 : S8704x1024.Idx → EReal) (a2 : S8192x1024.Idx → EReal) (a3 : S8x8192x128.Idx → EReal)
    (h0 : @Eq (S8192x1024.Idx → EReal) (m ((c.tc : Thread Cert.ReferenceIdeal.nD Cert.ReferenceIdeal.τ).loc Cert.ReferenceIdeal.main_arg0)) a0)
    (h1 : @Eq (S8704x1024.Idx → EReal) (m ((c.tc : Thread Cert.ReferenceIdeal.nD Cert.ReferenceIdeal.τ).loc Cert.ReferenceIdeal.main_arg1)) a1)
    (h2 : @Eq (S8192x1024.Idx → EReal) (m ((c.tc : Thread Cert.ReferenceIdeal.nD Cert.ReferenceIdeal.τ).loc Cert.ReferenceIdeal.main_arg2)) a2)
    (h3 : @Eq (S8x8192x128.Idx → EReal) (m ((c.tc : Thread Cert.ReferenceIdeal.nD Cert.ReferenceIdeal.τ).loc Cert.ReferenceIdeal.main_arg3)) a3)
    (hpre : Cert.Pre_finite_keys.fn (F := Ideal) a0 a1 a2 a3 = fun _ => 1#1) :
    @Eq (S16x1024x512.Idx → EReal) (Cert.ReferenceIdeal.Value.res_out0 (F := Ideal) m c) (value a0 a1 a2 a3) := by
  obtain ⟨f0, f1, f3, f4⟩ := finite_keys _ _ _ _ hpre
  funext i
  have e : i = ix3 (i 0) (i 1) (i 2) := idx_ext3 rfl rfl rfl
  rw [e]
  refine (reference_at m c (Q := rowsQ a0) (K := rowsK a1) (F := sumsF a3) (V := rowsV a2) (fun r d => (congrFun h0 _).trans (rowsQ_eq _ f0 r d))
    (fun s d => (congrFun h1 _).trans (rowsK_eq _ f1 s d)) (fun s d => (congrFun h2 _).trans (rowsV_eq _ s d))
    (fun k s l => (congrFun h3 _).trans (sumsF_eq _ f3 f4 k s l)) (i 0) (i 1) (i 2)).trans ?_
  rw [Nat.mul_comm]
  exact (result_at rfl rfl rfl).symm

/-- The claim: over the extended reals both programs leave the same result. -/
theorem algebraic [Cert.Pre_finite_keys.Facts] : Cert.algebraic_KernelIdeal_ReferenceIdeal_pre_finite_keys := by
  intro m g m' g' hpre hargs
  refine ⟨fun c => value (m ((c : Thread nD τ).loc main_arg0)) (m ((c : Thread nD τ).loc main_arg1)) (m ((c : Thread nD τ).loc main_arg2)) (m ((c : Thread nD τ).loc main_arg3)), ?_, ?_⟩
  · refine (θ_run defs _ _).mono (fun r h c => ?_) (FoxIdeal.run 0 m g)
    obtain ⟨h0, h1, h2, h3⟩ := mV_arg m g c
    exact ⟨((h.1 c).1 (6 : Fin 7)).trans (kernel_value m g c (hpre c)), ((h.1 c).2.1).trans h0,
      (((h.1 c).1 (1 : Fin 7)).trans ((dats 0 m g 0 c).arrAt_in (1 : Fin 7) rfl _)).trans h1,
      ((h.1 c).2.2).trans h2,
      (((h.1 c).1 (3 : Fin 7)).trans ((dats 0 m g 0 c).arrAt_in (3 : Fin 7) rfl _)).trans h3⟩
  · refine (θ_run Cert.ReferenceIdeal.defs _ _).mono (fun r h c => ⟨(h c).1.trans ?_, (h c).2⟩) (Cert.ReferenceIdeal.Value.run m' g')
    exact reference_value m' c _ _ _ _ (hargs c).1 (hargs c).2.1 (hargs c).2.2.1 (hargs c).2.2.2 (hpre c)

end Cert.FoxValue

end
-- ==== Proof.Gate.lean ====
/-
  The branches' gates: the kernel's result is the logistic function of `h w`, element by element, and so is the reference's.
-/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Gate

open Cert.Kernel4Ideal Cert.Kernel4Ideal.Gen Cert.Kernel4Ideal.Value

/-- The product `a w` at one index. -/
def prod (a : S8704x2048.Idx → EReal) (w : S2048x4096.Idx → EReal) : S8704x4096.Idx → EReal :=
  fun i => ∑ k : Fin 2048, a (ix2 (i 0) k) * w (ix2 k (i 1))

/-- The logistic function of the product at one index. -/
def gate (a : S8704x2048.Idx → EReal) (w : S2048x4096.Idx → EReal) : S8704x4096.Idx → EReal :=
  fun i => Ideal.div 1 (1 + Ideal.exp (-prod a w i))

variable (m : (ℓ : Loc nD τ sig) → Buf (Elt Ideal) ℓ) (ρ : Dev nD → PrngReg)

theorem zero2 : (![0, 0] : Fin 2 → Nat) = fun _ => 0 := funext fun a => by fin_cases a <;> rfl

/-- The weights the region finds are the argument's. -/
theorem weights (c : Dev nD) : V m c main_v0 = m ((c : Thread nD τ).loc main_arg1) := by
  have h : @Eq (FVec Ideal S2048x4096 .bf16) (V m c main_v0)
      (truncf .bf16 (m ((c : Thread nD τ).loc main_arg1) : FVec Ideal S2048x4096 .f32) bitsLt_bf16_f32) := by
    dsimp only [V, hostOps0]
    after_results
  exact h

/-- The body stores the product of its two blocks. -/
theorem out_eq (x0 : Vec Ideal S512x2048 .bf16) (x1 : Vec Ideal S2048x1024 .bf16) : out0_2 x0 x1 = k0_pay1 x0 x1 := by
  unfold out0_2
  rw [View.canon_unit_zero zero2, View.ld_unit_zero (S := S512x2048) zero2, View.ld_unit_zero (S := S2048x1024) zero2]

/-- Where each window's block lies at a point: the rows follow the result's rows, the columns its columns. -/
theorem blocks (t : Fin cfg0.N) : win0_0.index t 0 = win0_2.index t 0 ∧ win0_0.index t 1 = 0
    ∧ win0_1.index t 0 = 0 ∧ win0_1.index t 1 = win0_2.index t 1 :=
  (by decide +kernel : ∀ t : Fin grid0.N, win0_0.index t 0 = win0_2.index t 0 ∧ win0_0.index t 1 = 0
    ∧ win0_1.index t 0 = 0 ∧ win0_1.index t 1 = win0_2.index t 1) t

/-- The rows' block at a point, by the array's own index. -/
theorem rows_blk (c : Dev nD) (t : Fin cfg0.N) (y : S512x1024.Idx) (k : Fin 2048) :
    iblk m c 0 t (ix2 (y 0) k) = m ((c : Thread nD τ).loc main_arg0) (ix2 (((cfg0.win 2).blk t).view.emb y 0) k) := by
  obtain ⟨e0, e1, e2, e3⟩ := blocks t
  show V m c main_arg0 (((cfg0.win 0).blk t).view.emb _) = _
  rw [V_main_arg0]
  refine congrArg (m ((c : Thread nD τ).loc main_arg0)) (Shape.idx_ext₂ ?_ ?_)
  · show win0_0.index t 0 * 512 + 1 * (y 0 : Nat) = win0_2.index t 0 * 512 + 1 * (y 0 : Nat)
    rw [e0]
  · show win0_0.index t 1 * 2048 + 1 * (k : Nat) = k
    rw [e1]; omega

/-- The weights' block at a point, by the array's own index. -/
theorem cols_blk (c : Dev nD) (t : Fin cfg0.N) (y : S512x1024.Idx) (k : Fin 2048) :
    iblk m c 1 t (ix2 k (y 1)) = m ((c : Thread nD τ).loc main_arg1) (ix2 k (((cfg0.win 2).blk t).view.emb y 1)) := by
  obtain ⟨e0, e1, e2, e3⟩ := blocks t
  show V m c main_v0 (((cfg0.win 1).blk t).view.emb _) = _
  rw [weights]
  refine congrArg (m ((c : Thread nD τ).loc main_arg1)) (Shape.idx_ext₂ ?_ ?_)
  · show win0_1.index t 0 * 2048 + 1 * (k : Nat) = k
    rw [e2]; omega
  · show win0_1.index t 1 * 1024 + 1 * (y 1 : Nat) = win0_2.index t 1 * 1024 + 1 * (y 1 : Nat)
    rw [e3]

/-- The body's value at one index. -/
theorem pay_at (x0 : Vec Ideal S512x2048 .bf16) (x1 : Vec Ideal S2048x1024 .bf16) (y : S512x1024.Idx) :
    k0_pay1 x0 x1 y = Ideal.div 1 (1 + Ideal.exp (-∑ k : Fin 2048, x0 (ix2 (y 0) k) * x1 (ix2 k (y 1)))) := by
  idx_vars y
  pointwise [k0_pay1]
  rw [zero_sub]

/-- What a point writes back is its block of the gates. -/
theorem flushed_eq (c : Dev nD) (t : Fin cfg0.N) :
    (dats m 0 c).flushed 2 t = ((cfg0.win 2).blk t).view.read (Elt Ideal)
      (gate (m ((c : Thread nD τ).loc main_arg0)) (m ((c : Thread nD τ).loc main_arg1))) := by
  rw [flushed2, out_eq]
  funext y
  show k0_pay1 (iblk m c 0 t) (iblk m c 1 t) y = gate _ _ (((cfg0.win 2).blk t).view.emb y)
  rw [pay_at]
  exact congrArg (fun z => Ideal.div 1 (1 + Ideal.exp (-z)))
    (Finset.sum_congr rfl fun k _ => congrArg₂ (· * ·) (rows_blk m c t y k) (cols_blk m c t y k))

/-- Every index of the result lies in some point's block. -/
theorem cover (i : S8704x4096.Idx) : ∃ t : Fin cfg0.N, (cfg0.win 2).flush t = true ∧ i ∈ ((cfg0.win 2).blk t).view.set := by
  have h0 : (i 0 : Nat) < 8704 := (i 0).isLt
  have h1 : (i 1 : Nat) < 4096 := (i 1).isLt
  obtain ⟨t, hf, e0, e1⟩ := (by decide +kernel : ∀ (p : Fin 17) (q : Fin 4), ∃ t : Fin grid0.N,
    win0_2.flush t = true ∧ win0_2.index t 0 = p.val ∧ win0_2.index t 1 = q.val)
      ⟨(i 0 : Nat) / 512, by omega⟩ ⟨(i 1 : Nat) / 1024, by omega⟩
  refine ⟨t, hf, ?_⟩
  show i ∈ ((View.whole main_v1).slice (win0_2.rect t)).set
  rw [View.set_slice_whole, Rect.mem_set_unit]
  intro a
  fin_cases a
  · show win0_2.index t 0 * 512 ≤ (i 0 : Nat) ∧ (i 0 : Nat) < win0_2.index t 0 * 512 + 512
    simp only [e0]; omega
  · show win0_2.index t 1 * 1024 ≤ (i 1 : Nat) ∧ (i 1 : Nat) < win0_2.index t 1 * 1024 + 1024
    simp only [e1]; omega

/-- The result array after the run is the gates. -/
theorem final (c : Dev nD) : (dats m 0 c).arrAt 2 cfg0.N
    = gate (m ((c : Thread nD τ).loc main_arg0)) (m ((c : Thread nD τ).loc main_arg1)) :=
  (dats m 0 c).arrAt_eq_of_cover 2 _ (fun t _ => flushed_eq m c t) cover

/-- The reference's result is the same. -/
theorem reference_eq (a : FVec Ideal S8704x2048 .bf16) (w : FVec Ideal S2048x4096 .f32) :
    Host.divf (broadcastInDim Cert.Reference4Ideal.S8704x4096 ![] Cert.Reference4Ideal.Gen.bcast_S_S8704x4096 (constant Cert.Reference4Ideal.S_ .f32 0x3F800000#32))
      (addf (broadcastInDim Cert.Reference4Ideal.S8704x4096 ![] Cert.Reference4Ideal.Gen.bcast_S_S8704x4096 (constant Cert.Reference4Ideal.S_ .f32 0x3F800000#32))
        (Host.exp (Host.negf (Host.dotGeneral Cert.Reference4Ideal.dot_S8704x2048_S2048x4096_S8704x4096_1_0_0_1_n_n none
          (extf .f32 a Cert.Reference4Ideal.Gen.bitsLt_bf16_f32) w)))) = gate a w := by
  funext i
  idx_vars i
  pointwise [gate, prod]

/-- The claim: over the extended reals both programs leave the gates. -/
theorem algebraic : Cert.algebraic_Kernel4Ideal_Reference4Ideal := by
  intro m g m' g' _ hargs
  refine ⟨fun c => gate (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference4Ideal.defs _ _).mono (fun r h c => ⟨(h c).1.trans ?_, (h c).2⟩)
      (Cert.Reference4Ideal.Value.run m' g')
    rw [(hargs c).1, (hargs c).2]
    exact reference_eq _ _

end Cert.Gate

end
-- ==== Proof.KvIdeal.lean ====
/-
  The key and value projection: what the call leaves in its three results, point by point, and that it ends with
  its arguments as they were. The first sixteen points store their block of the product into the first result's
  buffer, the last point stores its block into the second result's; every point stores its block, rounded, into the
  third. The last point leaves the first result's buffer alone, which then still holds the block of the point before,
  and that is what is written back.
-/
module

public import proofs.«01_k».proof.Defs
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KvIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a point takes -/

theorem first_iff : ∀ t : Fin cfg0.N, k0_cond1 (grid0.coords t) = 1#1 ↔ t.val < 16 :=
  (by decide +kernel : ∀ t : Fin grid0.N, k0_cond1 (grid0.coords t) = 1#1 ↔ t.val < 16)
theorem second_iff : ∀ t : Fin cfg0.N, k0_cond2 (grid0.coords t) = 1#1 ↔ ¬ t.val < 16 :=
  (by decide +kernel : ∀ t : Fin grid0.N, k0_cond2 (grid0.coords t) = 1#1 ↔ ¬ t.val < 16)
theorem live2 : ∀ t : Fin cfg0.N, t.val < 16 → cfg0.idle 2 (grid0.coords t) = false :=
  (by decide +kernel : ∀ t : Fin grid0.N, t.val < 16 → cfg0.idle 2 (grid0.coords t) = false)
theorem idle2 : ∀ t : Fin cfg0.N, ¬ t.val < 16 → cfg0.idle 2 (grid0.coords t) = true :=
  (by decide +kernel : ∀ t : Fin grid0.N, ¬ t.val < 16 → cfg0.idle 2 (grid0.coords t) = true)
theorem live3 : ∀ t : Fin cfg0.N, ¬ t.val < 16 → cfg0.idle 3 (grid0.coords t) = false :=
  (by decide +kernel : ∀ t : Fin grid0.N, ¬ t.val < 16 → cfg0.idle 3 (grid0.coords t) = false)
theorem idle3 : ∀ t : Fin cfg0.N, t.val < 16 → cfg0.idle 3 (grid0.coords t) = true :=
  (by decide +kernel : ∀ t : Fin grid0.N, t.val < 16 → cfg0.idle 3 (grid0.coords t) = true)
theorem flush2 : ∀ t : Fin cfg0.N, (cfg0.win 2).flush t = true ↔ t.val ≠ 15 :=
  (by decide +kernel : ∀ t : Fin grid0.N, win0_2.flush t = true ↔ t.val ≠ 15)
theorem noFlush3 : ∀ t : Fin cfg0.N, t.val < 16 → (cfg0.win 3).flush t = false :=
  (by decide +kernel : ∀ t : Fin grid0.N, t.val < 16 → win0_3.flush t = false)

/-! ## What a point stores -/

abbrev rRows : Rect S512x2048 := Rect.unit (s := S512x2048) ![0, 0] S512x2048.size inb_S512x2048_S512x2048_0_0
abbrev rCols : Rect S2048x1024 := Rect.unit (s := S2048x1024) ![0, 0] S2048x1024.size inb_S2048x1024_S2048x1024_0_0
abbrev rBoth : Rect S512x1024 := Rect.unit (s := S512x1024) ![0, 0] S512x1024.size inb_S512x1024_S512x1024_0_0
abbrev rH0 : Rect S512x8x128 := Rect.unit (s := S512x8x128) ![0, 0, 0] S512x1x128.size inb_S512x8x128_S512x1x128_0_0_0
abbrev rH1 : Rect S512x8x128 := Rect.unit (s := S512x8x128) ![0, 1, 0] S512x1x128.size inb_S512x8x128_S512x1x128_0_1_0
abbrev rH2 : Rect S512x8x128 := Rect.unit (s := S512x8x128) ![0, 2, 0] S512x1x128.size inb_S512x8x128_S512x1x128_0_2_0
abbrev rH3 : Rect S512x8x128 := Rect.unit (s := S512x8x128) ![0, 3, 0] S512x1x128.size inb_S512x8x128_S512x1x128_0_3_0
abbrev rH4 : Rect S512x8x128 := Rect.unit (s := S512x8x128) ![0, 4, 0] S512x1x128.size inb_S512x8x128_S512x1x128_0_4_0
abbrev rH5 : Rect S512x8x128 := Rect.unit (s := S512x8x128) ![0, 5, 0] S512x1x128.size inb_S512x8x128_S512x1x128_0_5_0
abbrev rH6 : Rect S512x8x128 := Rect.unit (s := S512x8x128) ![0, 6, 0] S512x1x128.size inb_S512x8x128_S512x1x128_0_6_0
abbrev rH7 : Rect S512x8x128 := Rect.unit (s := S512x8x128) ![0, 7, 0] S512x1x128.size inb_S512x8x128_S512x1x128_0_7_0

/-- The block of the product, head by head, as a three-axis buffer: head `h`'s 128 columns in row `h`. -/
def heads (z : FVec F S512x1024 .f32) : Vec F S512x8x128 .f32 :=
  View.canon [⟨rH7, k0_pay3 (k0_pay12 z)⟩, ⟨rH6, k0_pay11 z⟩, ⟨rH5, k0_pay10 z⟩, ⟨rH4, k0_pay9 z⟩, ⟨rH3, k0_pay8 z⟩, ⟨rH2, k0_pay7 z⟩, ⟨rH1, k0_pay6 z⟩, ⟨rH0, k0_pay5 z⟩]

/-- The eight stores cover the buffer. -/
theorem heads_cover (p0 p1 p2 p3 p4 p5 p6 p7 : Vec F S512x1x128 .f32) (y : S512x8x128.Idx) :
    ∃ pc ∈ ([⟨rH7, p7⟩, ⟨rH6, p6⟩, ⟨rH5, p5⟩, ⟨rH4, p4⟩, ⟨rH3, p3⟩, ⟨rH2, p2⟩, ⟨rH1, p1⟩, ⟨rH0, p0⟩] : List (View.Piece (Elt F) S512x8x128 .f32)), y ∈ pc.1.set :=
  View.cover_of_tiled [⟨rH7, p7⟩, ⟨rH6, p6⟩, ⟨rH5, p5⟩, ⟨rH4, p4⟩, ⟨rH3, p3⟩, ⟨rH2, p2⟩, ⟨rH1, p1⟩, ⟨rH0, p0⟩] S512x1x128.size (by rfl) y

/-- The block of the product a point computes from its rows and the weights. -/
def block (x0 : Vec F S512x2048 .bf16) (x1 : Vec F S2048x1024 .bf16) : FVec F S512x1024 .f32 :=
  k0_pay1 (View.ld x0 rRows) (View.ld x1 rCols)

/-- The same, rounded, as the third result's buffer holds it. -/
def rounded (x0 : Vec F S512x2048 .bf16) (x1 : Vec F S2048x1024 .bf16) : Vec F S512x1024 .bf16 :=
  View.canon [⟨rBoth, k0_pay2 (View.ld x0 rRows) (View.ld x1 rCols)⟩]

theorem rounded_cover (p0 : Vec F S512x1024 .bf16) (y : S512x1024.Idx) :
    ∃ pc ∈ ([⟨rBoth, p0⟩] : List (View.Piece (Elt F) S512x1024 .bf16)), y ∈ pc.1.set :=
  View.cover_of_tiled [⟨rBoth, p0⟩] S512x1024.size (by rfl) y

/-! ## The body, branch by branch -/

set_option maxHeartbeats 1000000 in
/-- At one of the first sixteen points: the second result's buffer is left as found. -/
theorem body_first (c : Dev nD) (E : Set ℕ) (i : grid0.Coords) (arg1 : Memref sig .tc .vmem S512x2048 .bf16) (harg1 : arg1.IsWhole) (arg2 : Memref sig .tc .vmem S2048x1024 .bf16) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x1024 .bf16) (harg5 : arg5.IsWhole)
    (hc1 : k0_cond1 i = 1#1) (hc2 : ¬ k0_cond2 i = 1#1)
    (x0 : Vec F S512x2048 .bf16) (x1 : Vec F S2048x1024 .bf16) (x3 : Vec F S512x8x128 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare (heads (block x0 x1)) ∗ owns (c : Thread nD τ) arg4 fullShare x3 ∗ owns (c : Thread nD τ) arg5 fullShare (rounded x0 x1)) -∗ K ⟨⟩))
      ⊢ wp frame (wpE (defs₀ (F := F)) Variants.none c none) E (cc0_proj_kv i arg1 harg1 arg2 harg2 arg3 harg3 arg4 harg4 arg5 harg5) K := by
  simp only [cc0_proj_kv_eq_skeleton]; unfold cc0_proj_kv_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, ⟨%f3, %hf3, H3⟩, ⟨%d4, %f4, -, H4⟩, Hk⟩
  subst hf0 hf1 hf3
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (heads_cover _ _ _ _ _ _ _ _)
  isplitl [H3]
  · iexists f3; isplitr; · ipureintro; rfl
    iexact H3
  iexists _; isplitr
  swap; · iexact H4
  ipureintro
  exact View.read_writes_eq_canon _ _ _ (rounded_cover _)

set_option maxHeartbeats 1000000 in
/-- At the last point: the first result's buffer is left as found. -/
theorem body_last (c : Dev nD) (E : Set ℕ) (i : grid0.Coords) (arg1 : Memref sig .tc .vmem S512x2048 .bf16) (harg1 : arg1.IsWhole) (arg2 : Memref sig .tc .vmem S2048x1024 .bf16) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x1024 .bf16) (harg5 : arg5.IsWhole)
    (hc1 : ¬ k0_cond1 i = 1#1) (hc2 : k0_cond2 i = 1#1)
    (x0 : Vec F S512x2048 .bf16) (x1 : Vec F S2048x1024 .bf16) (x2 : Vec F S512x8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (heads (block x0 x1)) ∗ owns (c : Thread nD τ) arg5 fullShare (rounded x0 x1)) -∗ K ⟨⟩))
      ⊢ wp frame (wpE (defs₀ (F := F)) Variants.none c none) E (cc0_proj_kv i arg1 harg1 arg2 harg2 arg3 harg3 arg4 harg4 arg5 harg5) K := by
  simp only [cc0_proj_kv_eq_skeleton]; unfold cc0_proj_kv_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (heads_cover _ _ _ _ _ _ _ _)
  iexists _; isplitr
  swap; · iexact H4
  ipureintro
  exact View.read_writes_eq_canon _ _ _ (rounded_cover _)

/-! ## The buffers, point by point -/

/-- The last of the first sixteen points. -/
def fifteen : Fin cfg0.N := ⟨15, lt_of_lt_of_eq (by decide) N_0.symm⟩

/-- The point whose block the first result's buffer holds after point `t`. -/
def held (t : Fin cfg0.N) : Fin cfg0.N := if t.val < 16 then t else fifteen

/-- What every buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => heads (block (iblk m c 0 (held t)) (iblk m c 1 (held t)))
    | ⟨3, _⟩ => heads (block (iblk m c 0 t) (iblk m c 1 t))
    | ⟨4, _⟩ => rounded (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = heads (block (iblk m c 0 (held t)) (iblk m c 1 (held t))) := by dsimp only [dats]
theorem after_3 (c : Dev nD) (t : Fin cfg0.N) : (dats m 0 c).after 3 t = heads (block (iblk m c 0 t) (iblk m c 1 t)) := by dsimp only [dats]
theorem after_4 (c : Dev nD) (t : Fin cfg0.N) : (dats m 0 c).after 4 t = rounded (iblk m c 0 t) (iblk m c 1 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem held_first (t : Fin cfg0.N) (h : t.val < 16) : held t = t := if_pos h

/-- The last point finds the first result's buffer as the point before left it. -/
theorem before_2_last (c : Dev nD) (t : Fin cfg0.N) (h : ¬ t.val < 16) (d) : (dats m 0 c).before 2 t d = (dats m 0 c).after 2 t := by
  have hN : t.val < 17 := lt_of_lt_of_eq t.isLt (show cfg0.N = 17 from N_0)
  have ht : t = (⟨16, lt_of_lt_of_eq (by decide) N_0.symm⟩ : Fin cfg0.N) := Fin.ext (by show t.val = 16; omega)
  subst ht
  rw [Dat.before_of_pos (dats m 0 c) 2 _ (by decide) rfl]
  rw [if_neg (fun hf => (flush2 _).mp hf rfl)]
  unfold Dat.left
  rw [live2 _ (by decide)]
  have e : (dats m 0 c).after 2 fifteen = (dats m 0 c).after 2 ⟨16, lt_of_lt_of_eq (by decide) N_0.symm⟩ := by
    rw [after_2, after_2]; rfl
  exact Eq.trans (by rfl) e

/-! ## The body obligation -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_0 (c : Dev nD) (t : Fin cfg0.N) : (dats m 0 c).leavesExact 0 t = owns (c : Thread nD τ) (st0_0 t) fullShare ((dats m 0 c).after 0 t) := rfl
theorem leaves_1 (c : Dev nD) (t : Fin cfg0.N) : (dats m 0 c).leavesExact 1 t = owns (c : Thread nD τ) (st0_1 t) fullShare ((dats m 0 c).after 1 t) := rfl
theorem leaves_4 (c : Dev nD) (t : Fin cfg0.N) : (dats m 0 c).leavesExact 4 t = owns (c : Thread nD τ) (st0_4 t) fullShare ((dats m 0 c).after 4 t) := rfl
theorem leaves_2_first (c : Dev nD) (t : Fin cfg0.N) (h : t.val < 16) : (dats m 0 c).leavesExact 2 t = owns (c : Thread nD τ) (st0_2 t) fullShare ((dats m 0 c).after 2 t) := by
  unfold Dat.leavesExact; rw [live2 t h]
theorem leaves_2_last (c : Dev nD) (t : Fin cfg0.N) (h : ¬ t.val < 16) : (dats m 0 c).leavesExact 2 t = owns (c : Thread nD τ) (st0_2 t) fullShare ((dats m 0 c).after 2 t) := by
  unfold Dat.leavesExact; rw [idle2 t h, (flush2 t).mpr (by omega)]
theorem leaves_3_last (c : Dev nD) (t : Fin cfg0.N) (h : ¬ t.val < 16) : (dats m 0 c).leavesExact 3 t = owns (c : Thread nD τ) (st0_3 t) fullShare ((dats m 0 c).after 3 t) := by
  unfold Dat.leavesExact; rw [live3 t h]

theorem body_at (c : Dev nD) (t : Fin cfg0.N) :
    pre m c t ⊢ wp frame (wpE (defs₀ (F := F)) Variants.none c none) Set.univ (bodyAt0 t) (fun _ => post m c t) := by
  unfold pre post bodyAt0
  simp only [before_0, before_1]
  rw [show (dats m 0 c).Φ t.succ = (dats m 0 c).Φ t.castSucc from rfl,
    show (dats m 0 c).owesAt () t.succ = (dats m 0 c).owesAt () t.castSucc from rfl, leaves_0, leaves_1, leaves_4]
  by_cases h : t.val < 16
  · rw [leaves_2_first m c t h, Dat.leavesExact_idle (dats m 0 c) 3 t (idle3 t h) (noFlush3 t h), after_0, after_1, after_2, after_4,
      held_first t h]
    iintro ⟨HΦ, Ho, ⟨%d0, H0⟩, ⟨%d1, H1⟩, ⟨%d2, H2⟩, ⟨%d3, H3⟩, ⟨%d4, H4⟩⟩
    iapply (body_first c Set.univ (grid0.coords t) _ _ _ _ _ _ _ _ _ _ ((first_iff t).mpr h) (fun e => (second_iff t).mp e h)
      (iblk m c 0 t) (iblk m c 1 t) _ _)
    isplitl [H0]; · iexact H0
    isplitl [H1]; · iexact H1
    isplitl [H2]; · iexists _; iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexists d3; iexact H3
    iexact H4
  · rw [leaves_2_last m c t h, leaves_3_last m c t h, after_0, after_1, after_3, after_4]
    simp only [before_2_last m c t h]
    iintro ⟨HΦ, Ho, ⟨%d0, H0⟩, ⟨%d1, H1⟩, ⟨%d2, H2⟩, ⟨%d3, H3⟩, ⟨%d4, H4⟩⟩
    iapply (body_last c Set.univ (grid0.coords t) _ _ _ _ _ _ _ _ _ _ (fun e => h ((first_iff t).mp e)) ((second_iff t).mpr h)
      (iblk m c 0 t) (iblk m c 1 t) _ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

/-! ## The run and the frame -/

set_option backward.isDefEq.respectTransparency.types false in
set_option maxHeartbeats 800000 in
/-- The run: every array ends as the buffers above say, every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run m ρ)

/-- The call runs to its end without a fault, its arguments end as they began, and every counter reads zero. -/
theorem frame : Cert.quiescent_Kernel3Ideal := fun m ρ _ =>
  θ_run_and (frame_of m ρ (dats m) (A_eq m) (run_arrays m ρ)) ((θ_run defs _ _).mono (fun _ h => h.2) (run m ρ))

end Cert.KvIdeal

end
-- ==== Proof.Kv.lean ====
/-
  The key and value projection: the kernel's three results are the product `a w`, its first 8192 rows and its last 512 rows
  head by head, and all its rows as one array; and so are the reference's.
-/
module

public import proofs.«01_k».proof.Defs
public import proofs.«01_k».proof.Proof.KvIdeal
public import proofs.«01_k».proof.Proof.Gen.Reference3Ideal.Run
public import Idealize.ShloMosaic.Lib.Pointwise
public import Idealize.ShloMosaic.Lib.ValueLayout
public import Idealize.ShloMosaic.Lib.Tactic

@[expose] public section

noncomputable section

open Idealize.ShloMosaic Idealize.ShloMosaic.TcCoe Idealize.SL.Sem
open Idealize.ShloMosaic.Pipeline (Dat)

namespace Cert.Kv

open Cert.Kernel3Ideal Cert.Kernel3Ideal.Gen Cert.KvIdeal

/-- The product at one index. -/
def prod (a : S8704x2048.Idx → EReal) (w : S2048x1024.Idx → EReal) : S8704x1024.Idx → EReal :=
  fun i => ∑ k : Fin 2048, a (ix2 (i 0) k) * w (ix2 k (i 1))

/-- Column `d` of head `h`, among the product's columns. -/
def col (h : Fin 8) (d : Fin 128) : Fin 1024 := ⟨128 * h.val + d.val, by omega⟩

/-- The product's first 8192 rows, head by head. -/
def prompt (a : S8704x2048.Idx → EReal) (w : S2048x1024.Idx → EReal) : S8192x8x128.Idx → EReal :=
  fun i => prod a w (ix2 (⟨(i 0 : Nat), lt_of_lt_of_le (i 0).isLt (by decide)⟩ : Fin 8704) (col (i 1) (i 2)))

/-- Its last 512 rows, head by head. -/
def sample (a : S8704x2048.Idx → EReal) (w : S2048x1024.Idx → EReal) : S512x8x128.Idx → EReal :=
  fun i => prod a w (ix2 (⟨8192 + (i 0 : Nat), Nat.add_lt_add_left (i 0).isLt 8192⟩ : Fin 8704) (col (i 1) (i 2)))

variable (m : (ℓ : Loc nD τ sig) → Buf (Elt Ideal) ℓ) (ρ : Dev nD → PrngReg)

theorem zero2 : (![0, 0] : Fin 2 → Nat) = fun _ => 0 := funext fun a => by fin_cases a <;> rfl

/-- The weights the region finds are the argument's. -/
theorem weights (c : Dev nD) : V m c main_v0 = m ((c : Thread nD τ).loc main_arg1) := by
  have h : @Eq (FVec Ideal S2048x1024 .bf16) (V m c main_v0)
      (truncf .bf16 (m ((c : Thread nD τ).loc main_arg1) : FVec Ideal S2048x1024 .f32) bitsLt_bf16_f32) := by
    dsimp only [V, hostOps0]
    after_results
  exact h

/-! ## What a point stores, index by index -/

/-- A block of the product at one index. -/
theorem block_at (x0 : Vec Ideal S512x2048 .bf16) (x1 : Vec Ideal S2048x1024 .bf16) (y : S512x1024.Idx) :
    block x0 x1 y = ∑ k : Fin 2048, x0 (ix2 (y 0) k) * x1 (ix2 k (y 1)) := by
  unfold block
  rw [View.ld_unit_zero (S := S512x2048) zero2, View.ld_unit_zero (S := S2048x1024) zero2]
  idx_vars y
  pointwise [k0_pay1]

/-- Rounding changes nothing here. -/
theorem rounded_eq (x0 : Vec Ideal S512x2048 .bf16) (x1 : Vec Ideal S2048x1024 .bf16) : rounded x0 x1 = block x0 x1 := by
  unfold rounded block
  rw [View.canon_unit_zero zero2]
  rfl

/-- Stores that agree with one array on the rectangles they write leave that array wherever they write. -/
theorem canon_agrees {s : Shape} {e : EltTy} (g : s.Idx → Elt Ideal e) : ∀ L : List (View.Piece (Elt Ideal) s e),
    (∀ p ∈ L, ∀ x, p.2 x = g (p.1.emb x)) → ∀ y, (∃ p ∈ L, y ∈ p.1.set) → View.canon L y = g y
  | [], _, _, h => by obtain ⟨_, hm, _⟩ := h; exact absurd hm List.not_mem_nil
  | p :: L, hg, y, h => by
    by_cases hy : y ∈ p.1.set
    · obtain ⟨x, rfl⟩ : ∃ x, p.1.emb x = y := p.1.exists_idx_of_mem hy
      exact (View.canon_cons_emb p.1 p.2 L x).trans (hg p List.mem_cons_self x)
    · rw [View.canon_cons_of_not_mem p L hy]
      refine canon_agrees g L (fun q hq => hg q (List.mem_cons_of_mem p hq)) y ?_
      obtain ⟨q, hq, hyq⟩ := h
      rcases List.mem_cons.mp hq with rfl | hq
      · exact absurd hyq hy
      · exact ⟨q, hq, hyq⟩

/-- A block of the product, head by head. -/
def headwise (z : S512x1024.Idx → EReal) : S512x8x128.Idx → EReal := fun y => z (ix2 (y 0) (col (y 1) (y 2)))

/-- 128 columns from column `o` on, as a buffer with a middle axis of one. -/
theorem cut_at (z : FVec Ideal S512x1024 .f32) (o : Nat) (hs : S512x1024.Slices ![0, o] S512x128) (hc : S512x128.ShapeCasts S512x1x128)
    (a : Fin 512) (u : Fin 1) (d : Fin 128) (k : Fin 1024) (hk : k.val = o + d.val) :
    shapeCast S512x1x128 (extractStridedSlice S512x128 ![0, o] z hs) hc (ix3 a u d) = z (ix2 a k) := by
  refine (shapeCast_apply _ hc _ (ix2 a d) ?_).trans (ValueIdx.slice2_axis1_apply o z hs a d k hk)
  rw [Shape.rowMajor_val_three, Shape.rowMajor_val_two]
  have hu : u.val = 0 := by omega
  show a.val * 128 + d.val = (a.val * 1 + u.val) * 128 + d.val
  omega

/-- The same, where the buffer for row `h` of the heads holds it. -/
theorem piece_at (z : FVec Ideal S512x1024 .f32) (h : Fin 8) (hs : S512x1024.Slices ![0, 128 * h.val] S512x128)
    (hc : S512x128.ShapeCasts S512x1x128) (hb : ∀ a, (![0, h.val, 0] : Fin 3 → Nat) a + S512x1x128.size a ≤ S512x8x128.size a) (x : S512x1x128.Idx) :
    shapeCast S512x1x128 (extractStridedSlice S512x128 ![0, 128 * h.val] z hs) hc x
      = headwise z ((Rect.unit (s := S512x8x128) ![0, h.val, 0] S512x1x128.size hb).emb x) := by
  have hx : x = ix3 (x 0) (x 1) (x 2) := funext fun a => by fin_cases a <;> rfl
  rw [hx]
  have h1 : (x 1).val < 1 := (x 1).isLt
  refine (cut_at z _ hs hc (x 0) (x 1) (x 2) (col h (x 2)) rfl).trans (congrArg z (Shape.idx_ext₂ ?_ ?_))
  · show (x 0).val = 0 + 1 * (x 0).val
    omega
  · show 128 * h.val + (x 2).val = 128 * (h.val + 1 * (x 1).val) + (0 + 1 * (x 2).val)
    omega

/-- The eight stores leave the block, head by head. -/
theorem heads_eq (z : FVec Ideal S512x1024 .f32) : heads z = headwise z := by
  funext y
  unfold heads
  refine canon_agrees (headwise z) _ ?_ y (heads_cover _ _ _ _ _ _ _ _ y)
  intro p hp x
  simp only [List.mem_cons, List.not_mem_nil, or_false] at hp
  rcases hp with rfl | rfl | rfl | rfl | rfl | rfl | rfl | rfl
  · exact piece_at z 7 (by decide) (by decide) (by decide) x
  · exact piece_at z 6 (by decide) (by decide) (by decide) x
  · exact piece_at z 5 (by decide) (by decide) (by decide) x
  · exact piece_at z 4 (by decide) (by decide) (by decide) x
  · exact piece_at z 3 (by decide) (by decide) (by decide) x
  · exact piece_at z 2 (by decide) (by decide) (by decide) x
  · exact piece_at z 1 (by decide) (by decide) (by decide) x
  · exact piece_at z 0 (by decide) (by decide) (by decide) x

/-! ## Where the blocks lie -/

theorem rows_idx (t : Fin cfg0.N) : win0_0.index t 0 = t.val ∧ win0_0.index t 1 = 0 ∧ win0_1.index t 0 = 0 ∧ win0_1.index t 1 = 0 :=
  (by decide +kernel : ∀ t : Fin grid0.N, win0_0.index t 0 = t.val ∧ win0_0.index t 1 = 0 ∧ win0_1.index t 0 = 0 ∧ win0_1.index t 1 = 0) t

/-- The rows' block at a point. -/
theorem rows_blk (c : Dev nD) (t : Fin cfg0.N) (r : Fin 512) (k : Fin 2048) (i : Fin 8704) (hi : i.val = 512 * t.val + r.val) :
    iblk m c 0 t (ix2 r k) = m ((c : Thread nD τ).loc main_arg0) (ix2 i k) := by
  obtain ⟨e0, e1, -, -⟩ := rows_idx t
  show V m c main_arg0 (((cfg0.win 0).blk t).view.emb _) = _
  rw [V_main_arg0]
  refine congrArg (m ((c : Thread nD τ).loc main_arg0)) (Shape.idx_ext₂ ?_ ?_)
  · show win0_0.index t 0 * 512 + 1 * (r : Nat) = i.val
    rw [e0, hi]; omega
  · show win0_0.index t 1 * 2048 + 1 * (k : Nat) = k
    rw [e1]; omega

/-- The weights' block at a point is the whole array. -/
theorem cols_blk (c : Dev nD) (t : Fin cfg0.N) (k : Fin 2048) (j : Fin 1024) :
    iblk m c 1 t (ix2 k j) = m ((c : Thread nD τ).loc main_arg1) (ix2 k j) := by
  obtain ⟨-, -, e2, e3⟩ := rows_idx t
  show V m c main_v0 (((cfg0.win 1).blk t).view.emb _) = _
  rw [weights]
  refine congrArg (m ((c : Thread nD τ).loc main_arg1)) (Shape.idx_ext₂ ?_ ?_)
  · show win0_1.index t 0 * 2048 + 1 * (k : Nat) = k
    rw [e2]; omega
  · show win0_1.index t 1 * 1024 + 1 * (j : Nat) = j
    rw [e3]; omega

/-- A point's block of the product. -/
theorem block_blk (c : Dev nD) (t : Fin cfg0.N) (r : Fin 512) (j : Fin 1024) (i : Fin 8704) (hi : i.val = 512 * t.val + r.val) :
    block (iblk m c 0 t) (iblk m c 1 t) (ix2 r j)
      = prod (m ((c : Thread nD τ).loc main_arg0)) (m ((c : Thread nD τ).loc main_arg1)) (ix2 i j) := by
  rw [block_at]
  exact Finset.sum_congr rfl fun k _ => congrArg₂ (· * ·) (rows_blk m c t r k i hi) (cols_blk m c t k j)

/-! ## The first result -/

theorem idx2 (t : Fin cfg0.N) : win0_2.index t 0 = (held t).val ∧ win0_2.index t 1 = 0 ∧ win0_2.index t 2 = 0 :=
  (by decide +kernel : ∀ t : Fin cfg0.N, win0_2.index t 0 = (held t).val ∧ win0_2.index t 1 = 0 ∧ win0_2.index t 2 = 0) t

theorem flushed_2 (c : Dev nD) (t : Fin cfg0.N) :
    (dats m 0 c).flushed 2 t = ((cfg0.win 2).blk t).view.read (Elt Ideal)
      (prompt (m ((c : Thread nD τ).loc main_arg0)) (m ((c : Thread nD τ).loc main_arg1))) := by
  show (dats m 0 c).after 2 t = _
  rw [after_2, heads_eq]
  funext y
  obtain ⟨e0, e1, e2⟩ := idx2 t
  refine (block_blk m c (held t) (y 0) (col (y 1) (y 2))
    (⟨(((cfg0.win 2).blk t).view.emb y 0 : Nat), lt_of_lt_of_le (((cfg0.win 2).blk t).view.emb y 0).isLt (show 8192 ≤ 8704 by decide)⟩ : Fin 8704) ?_).trans ?_
  · show win0_2.index t 0 * 512 + 1 * (y 0 : Nat) = _
    rw [e0]; omega
  · refine congrArg (prod _ _) (Shape.idx_ext₂ rfl ?_)
    show 128 * (y 1 : Nat) + (y 2 : Nat) = 128 * (win0_2.index t 1 * 8 + 1 * (y 1 : Nat)) + (win0_2.index t 2 * 128 + 1 * (y 2 : Nat))
    rw [e1, e2]; omega

theorem cover_2 (i : S8192x8x128.Idx) : ∃ t : Fin cfg0.N, (cfg0.win 2).flush t = true ∧ i ∈ ((cfg0.win 2).blk t).view.set := by
  have h0 : (i 0 : Nat) < 8192 := (i 0).isLt
  have h1 : (i 1 : Nat) < 8 := (i 1).isLt
  have h2 : (i 2 : Nat) < 128 := (i 2).isLt
  obtain ⟨t, hf, e0, e1, e2⟩ := (by decide +kernel : ∀ p : Fin 16, ∃ t : Fin grid0.N,
    win0_2.flush t = true ∧ win0_2.index t 0 = p.val ∧ win0_2.index t 1 = 0 ∧ win0_2.index t 2 = 0) ⟨(i 0 : Nat) / 512, by omega⟩
  refine ⟨t, hf, ?_⟩
  show i ∈ ((View.whole main_v1_0).slice (win0_2.rect t)).set
  rw [View.set_slice_whole, Rect.mem_set_unit]
  intro a
  fin_cases a
  · show win0_2.index t 0 * 512 ≤ (i 0 : Nat) ∧ (i 0 : Nat) < win0_2.index t 0 * 512 + 512
    simp only [e0]; omega
  · show win0_2.index t 1 * 8 ≤ (i 1 : Nat) ∧ (i 1 : Nat) < win0_2.index t 1 * 8 + 8
    simp only [e1]; omega
  · show win0_2.index t 2 * 128 ≤ (i 2 : Nat) ∧ (i 2 : Nat) < win0_2.index t 2 * 128 + 128
    simp only [e2]; omega

theorem final_2 (c : Dev nD) : (dats m 0 c).arrAt 2 cfg0.N
    = prompt (m ((c : Thread nD τ).loc main_arg0)) (m ((c : Thread nD τ).loc main_arg1)) :=
  (dats m 0 c).arrAt_eq_of_cover 2 _ (fun t _ => flushed_2 m c t) cover_2

/-! ## The second result -/

theorem idx3 (t : Fin cfg0.N) : win0_3.index t 0 = 0 ∧ win0_3.index t 1 = 0 ∧ win0_3.index t 2 = 0 ∧ ((cfg0.win 3).flush t = true → t.val = 16) :=
  (by decide +kernel : ∀ t : Fin grid0.N, win0_3.index t 0 = 0 ∧ win0_3.index t 1 = 0 ∧ win0_3.index t 2 = 0 ∧ (win0_3.flush t = true → t.val = 16)) t

theorem flushed_3 (c : Dev nD) (t : Fin cfg0.N) (hf : (cfg0.win 3).flush t = true) :
    (dats m 0 c).flushed 3 t = ((cfg0.win 3).blk t).view.read (Elt Ideal)
      (sample (m ((c : Thread nD τ).loc main_arg0)) (m ((c : Thread nD τ).loc main_arg1))) := by
  show (dats m 0 c).after 3 t = _
  rw [after_3, heads_eq]
  funext y
  obtain ⟨e0, e1, e2, e3⟩ := idx3 t
  have ht := e3 hf
  refine (block_blk m c t (y 0) (col (y 1) (y 2))
    (⟨8192 + (((cfg0.win 3).blk t).view.emb y 0 : Nat), Nat.add_lt_add_left (((cfg0.win 3).blk t).view.emb y 0).isLt 8192⟩ : Fin 8704) ?_).trans ?_
  · show 8192 + (win0_3.index t 0 * 512 + 1 * (y 0 : Nat)) = _
    rw [e0, ht]; omega
  · refine congrArg (prod _ _) (Shape.idx_ext₂ rfl ?_)
    show 128 * (y 1 : Nat) + (y 2 : Nat) = 128 * (win0_3.index t 1 * 8 + 1 * (y 1 : Nat)) + (win0_3.index t 2 * 128 + 1 * (y 2 : Nat))
    rw [e1, e2]; omega

theorem cover_3 (i : S512x8x128.Idx) : ∃ t : Fin cfg0.N, (cfg0.win 3).flush t = true ∧ i ∈ ((cfg0.win 3).blk t).view.set := by
  have h0 : (i 0 : Nat) < 512 := (i 0).isLt
  have h1 : (i 1 : Nat) < 8 := (i 1).isLt
  have h2 : (i 2 : Nat) < 128 := (i 2).isLt
  obtain ⟨t, hf, e0, e1, e2⟩ := (by decide +kernel : ∃ t : Fin grid0.N,
    win0_3.flush t = true ∧ win0_3.index t 0 = 0 ∧ win0_3.index t 1 = 0 ∧ win0_3.index t 2 = 0)
  refine ⟨t, hf, ?_⟩
  show i ∈ ((View.whole main_v1_1).slice (win0_3.rect t)).set
  rw [View.set_slice_whole, Rect.mem_set_unit]
  intro a
  fin_cases a
  · show win0_3.index t 0 * 512 ≤ (i 0 : Nat) ∧ (i 0 : Nat) < win0_3.index t 0 * 512 + 512
    simp only [e0]; omega
  · show win0_3.index t 1 * 8 ≤ (i 1 : Nat) ∧ (i 1 : Nat) < win0_3.index t 1 * 8 + 8
    simp only [e1]; omega
  · show win0_3.index t 2 * 128 ≤ (i 2 : Nat) ∧ (i 2 : Nat) < win0_3.index t 2 * 128 + 128
    simp only [e2]; omega

theorem final_3 (c : Dev nD) : (dats m 0 c).arrAt 3 cfg0.N
    = sample (m ((c : Thread nD τ).loc main_arg0)) (m ((c : Thread nD τ).loc main_arg1)) :=
  (dats m 0 c).arrAt_eq_of_cover 3 _ (fun t hf => flushed_3 m c t hf) cover_3

/-! ## The third result -/

theorem idx4 (t : Fin cfg0.N) : win0_4.index t 0 = t.val ∧ win0_4.index t 1 = 0 :=
  (by decide +kernel : ∀ t : Fin grid0.N, win0_4.index t 0 = t.val ∧ win0_4.index t 1 = 0) t

theorem flushed_4 (c : Dev nD) (t : Fin cfg0.N) :
    (dats m 0 c).flushed 4 t = ((cfg0.win 4).blk t).view.read (Elt Ideal)
      (prod (m ((c : Thread nD τ).loc main_arg0)) (m ((c : Thread nD τ).loc main_arg1))) := by
  show (dats m 0 c).after 4 t = _
  rw [after_4, rounded_eq]
  funext y
  obtain ⟨e0, e1⟩ := idx4 t
  have hy : y = ix2 (y 0) (y 1) := Shape.idx_ext₂ rfl rfl
  refine (congrArg (block (iblk m c 0 t) (iblk m c 1 t)) hy).trans ((block_blk m c t (y 0) (y 1) (((cfg0.win 4).blk t).view.emb y 0) ?_).trans ?_)
  · show win0_4.index t 0 * 512 + 1 * (y 0 : Nat) = _
    rw [e0]; omega
  · refine congrArg (prod _ _) (Shape.idx_ext₂ rfl ?_)
    show (y 1 : Nat) = win0_4.index t 1 * 1024 + 1 * (y 1 : Nat)
    rw [e1]; omega

theorem cover_4 (i : S8704x1024.Idx) : ∃ t : Fin cfg0.N, (cfg0.win 4).flush t = true ∧ i ∈ ((cfg0.win 4).blk t).view.set := by
  have h0 : (i 0 : Nat) < 8704 := (i 0).isLt
  have h1 : (i 1 : Nat) < 1024 := (i 1).isLt
  obtain ⟨t, hf, e0, e1⟩ := (by decide +kernel : ∀ p : Fin 17, ∃ t : Fin grid0.N,
    win0_4.flush t = true ∧ win0_4.index t 0 = p.val ∧ win0_4.index t 1 = 0) ⟨(i 0 : Nat) / 512, by omega⟩
  refine ⟨t, hf, ?_⟩
  show i ∈ ((View.whole main_v1_2).slice (win0_4.rect t)).set
  rw [View.set_slice_whole, Rect.mem_set_unit]
  intro a
  fin_cases a
  · show win0_4.index t 0 * 512 ≤ (i 0 : Nat) ∧ (i 0 : Nat) < win0_4.index t 0 * 512 + 512
    simp only [e0]; omega
  · show win0_4.index t 1 * 1024 ≤ (i 1 : Nat) ∧ (i 1 : Nat) < win0_4.index t 1 * 1024 + 1024
    simp only [e1]; omega

theorem final_4 (c : Dev nD) : (dats m 0 c).arrAt 4 cfg0.N
    = prod (m ((c : Thread nD τ).loc main_arg0)) (m ((c : Thread nD τ).loc main_arg1)) :=
  (dats m 0 c).arrAt_eq_of_cover 4 _ (fun t _ => flushed_4 m c t) cover_4

/-! ## The reference, and the claim -/

theorem ref_prod (a : FVec Ideal S8704x2048 .bf16) (w : FVec Ideal S2048x1024 .f32) :
    Host.dotGeneral Cert.Reference3Ideal.dot_S8704x2048_S2048x1024_S8704x1024_1_0_0_1_n_n none
      (extf .f32 a Cert.Reference3Ideal.Gen.bitsLt_bf16_f32) w = prod a w := by
  funext i
  idx_vars i
  pointwise [prod]

theorem ref_prompt (z : S8704x1024.Idx → EReal) (hs : S8704x1024.Slices ![0, 0] ⟨2, ![8192, 1024]⟩)
    (hc : (⟨2, ![8192, 1024]⟩ : Shape).ShapeCasts S8192x8x128) :
    shapeCast S8192x8x128 (extractStridedSlice ⟨2, ![8192, 1024]⟩ ![0, 0] z hs) hc
      = fun i => z (ix2 (⟨(i 0 : Nat), lt_of_lt_of_le (i 0).isLt (by decide)⟩ : Fin 8704) (col (i 1) (i 2))) := by
  funext i
  refine (shapeCast_apply _ hc _ (ix2 (i 0) (col (i 1) (i 2))) ?_).trans
    (ValueIdx.slice2_axis0_apply 0 z hs (i 0) (col (i 1) (i 2)) _ (Nat.zero_add _).symm)
  rw [Shape.rowMajor_val_three, Shape.rowMajor_val_two]
  show (i 0).val * 1024 + (128 * (i 1).val + (i 2).val) = ((i 0).val * 8 + (i 1).val) * 128 + (i 2).val
  omega

theorem ref_sample (z : S8704x1024.Idx → EReal) (hs : S8704x1024.Slices ![8192, 0] S512x1024)
    (hc : S512x1024.ShapeCasts S512x8x128) :
    shapeCast S512x8x128 (extractStridedSlice S512x1024 ![8192, 0] z hs) hc
      = fun i => z (ix2 (⟨8192 + (i 0 : Nat), Nat.add_lt_add_left (i 0).isLt 8192⟩ : Fin 8704) (col (i 1) (i 2))) := by
  funext i
  refine (shapeCast_apply _ hc _ (ix2 (i 0) (col (i 1) (i 2))) ?_).trans
    (ValueIdx.slice2_axis0_apply 8192 z hs (i 0) (col (i 1) (i 2)) _ rfl)
  rw [Shape.rowMajor_val_three, Shape.rowMajor_val_two]
  show (i 0).val * 1024 + (128 * (i 1).val + (i 2).val) = ((i 0).val * 8 + (i 1).val) * 128 + (i 2).val
  omega

/-- What the run leaves. -/
theorem run_values : θ_run defs (onTc (τ := τ) (main (F := Ideal))) ⟨m, fun _ => 0, ρ⟩ (fun r => ∀ c : Dev nD,
    r.2.mem ((c.tc : Thread nD τ).loc main_v1_0) = prompt (m ((c : Thread nD τ).loc main_arg0)) (m ((c : Thread nD τ).loc main_arg1))
    ∧ r.2.mem ((c.tc : Thread nD τ).loc main_v1_1) = sample (m ((c : Thread nD τ).loc main_arg0)) (m ((c : Thread nD τ).loc main_arg1))
    ∧ r.2.mem ((c.tc : Thread nD τ).loc main_v1_2) = prod (m ((c : Thread nD τ).loc main_arg0)) (m ((c : Thread nD τ).loc main_arg1))) :=
  (θ_run defs _ _).mono (fun r h c => ⟨((h c).1 2).trans (final_2 m c), ((h c).1 3).trans (final_3 m c), ((h c).1 4).trans (final_4 m c)⟩)
    (run_arrays m ρ)

/-- The claim: over the extended reals both programs leave the product, split the same way. -/
theorem algebraic : Cert.algebraic_Kernel3Ideal_Reference3Ideal := by
  intro m g m' g' hpre hargs
  refine ⟨fun c => prompt (m ((c : Thread nD τ).loc main_arg0)) (m ((c : Thread nD τ).loc main_arg1)),
    fun c => sample (m ((c : Thread nD τ).loc main_arg0)) (m ((c : Thread nD τ).loc main_arg1)),
    fun c => prod (m ((c : Thread nD τ).loc main_arg0)) (m ((c : Thread nD τ).loc main_arg1)), ?_, ?_⟩
  · exact (θ_run defs _ _).mono (fun r h c => ⟨(h.1 c).1, (h.1 c).2.1, (h.1 c).2.2, (h.2 c).1, (h.2 c).2⟩)
      (θ_run_and (run_values m g) (frame_of m g (dats m) (A_eq m) (run_arrays m g)))
  · refine (θ_run Cert.Reference3Ideal.defs _ _).mono (fun r h c => ⟨(h c).1.trans ?_, (h c).2.1.trans ?_, (h c).2.2.1.trans ?_, (h c).2.2.2⟩)
      (Cert.Reference3Ideal.Value.run m' g')
    · rw [(hargs c).1, (hargs c).2]
      refine (ref_prompt _ _ _).trans (funext fun i => ?_)
      exact congrFun (ref_prod _ _) _
    · rw [(hargs c).1, (hargs c).2]
      refine (ref_sample _ _ _).trans (funext fun i => ?_)
      exact congrFun (ref_prod _ _) _
    · rw [(hargs c).1, (hargs c).2]
      exact ref_prod _ _

end Cert.Kv

end
-- ==== Proof.Merge.lean ====
/-
  The merge of the two branches: the kernel's result is `g_a ∘ (o_a w_a) + g_b ∘ (o_b w_b)`, element by element, and so is
  the reference's.
-/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Merge

open Cert.Kernel6Ideal Cert.Kernel6Ideal.Gen Cert.Kernel6Ideal.Value

/-- The gated sum of the two products at one index; the gates of the second branch are the array's right half. -/
def merged (a b : S8704x1024.Idx → EReal) (g : S8704x4096.Idx → EReal) (u v : S1024x2048.Idx → EReal) : S8704x2048.Idx → EReal :=
  fun i => g (ix2 (i 0) ⟨i 1, by have := (i 1).isLt; simp [S8704x2048] at this; omega⟩) * (∑ k : Fin 1024, a (ix2 (i 0) k) * u (ix2 k (i 1)))
    + g (ix2 (i 0) ⟨2048 + i 1, by have := (i 1).isLt; simp [S8704x2048] at this; omega⟩) * (∑ k : Fin 1024, b (ix2 (i 0) k) * v (ix2 k (i 1)))

variable (m : (ℓ : Loc nD τ sig) → Buf (Elt Ideal) ℓ) (ρ : Dev nD → PrngReg)

theorem zero2 : (![0, 0] : Fin 2 → Nat) = fun _ => 0 := funext fun a => by fin_cases a <;> rfl

/-- The first branch's weights the region finds are the argument's. -/
theorem weights_a (c : Dev nD) : V m c main_v0 = m ((c : Thread nD τ).loc main_arg3) := by
  have h : @Eq (FVec Ideal S1024x2048 .bf16) (V m c main_v0)
      (truncf .bf16 (m ((c : Thread nD τ).loc main_arg3) : FVec Ideal S1024x2048 .f32) bitsLt_bf16_f32) := by
    dsimp only [V, hostOps0]
    after_results
  exact h

/-- … and so are the second's. -/
theorem weights_b (c : Dev nD) : V m c main_v1 = m ((c : Thread nD τ).loc main_arg4) := by
  have h : @Eq (FVec Ideal S1024x2048 .bf16) (V m c main_v1)
      (truncf .bf16 (m ((c : Thread nD τ).loc main_arg4) : FVec Ideal S1024x2048 .f32) bitsLt_bf16_f32) := by
    dsimp only [V, hostOps0]
    after_results
  exact h

/-- The body stores its value of its blocks; the gates' block is read by halves. -/
theorem out_eq (x0 x1 : Vec Ideal S256x1024 .bf16) (x2 : Vec Ideal S256x4096 .f32) (x3 x4 : Vec Ideal S1024x2048 .bf16) :
    out0_5 x0 x1 x2 x3 x4 = k0_pay1 x0 x3 x1 x4 (View.ld x2 r0_2) (View.ld x2 r0_3) := by
  unfold out0_5
  rw [View.canon_unit_zero zero2]
  simp only [View.ld_unit_zero (S := S256x1024) zero2, View.ld_unit_zero (S := S1024x2048) zero2]

/-- Where each window's block lies at a point: the rows follow the result's rows, the weights stay. -/
theorem blocks (t : Fin cfg0.N) : win0_0.index t 0 = win0_5.index t 0 ∧ win0_0.index t 1 = 0
    ∧ win0_1.index t 0 = win0_5.index t 0 ∧ win0_1.index t 1 = 0 ∧ win0_2.index t 0 = win0_5.index t 0 ∧ win0_2.index t 1 = 0
    ∧ win0_3.index t 0 = 0 ∧ win0_3.index t 1 = 0 ∧ win0_4.index t 0 = 0 ∧ win0_4.index t 1 = 0 ∧ win0_5.index t 1 = 0 :=
  (by decide +kernel : ∀ t : Fin grid0.N, win0_0.index t 0 = win0_5.index t 0 ∧ win0_0.index t 1 = 0
    ∧ win0_1.index t 0 = win0_5.index t 0 ∧ win0_1.index t 1 = 0 ∧ win0_2.index t 0 = win0_5.index t 0 ∧ win0_2.index t 1 = 0
    ∧ win0_3.index t 0 = 0 ∧ win0_3.index t 1 = 0 ∧ win0_4.index t 0 = 0 ∧ win0_4.index t 1 = 0 ∧ win0_5.index t 1 = 0) t

/-- The first branch's rows at a point, by the array's own index. -/
theorem rows_a (c : Dev nD) (t : Fin cfg0.N) (y : S256x2048.Idx) (k : Fin 1024) :
    iblk m c 0 t (ix2 (y 0) k) = m ((c : Thread nD τ).loc main_arg0) (ix2 (((cfg0.win 5).blk t).view.emb y 0) k) := by
  have h := blocks t
  show V m c main_arg0 (((cfg0.win 0).blk t).view.emb _) = _
  rw [V_main_arg0]
  refine congrArg (m ((c : Thread nD τ).loc main_arg0)) (Shape.idx_ext₂ ?_ ?_)
  · show win0_0.index t 0 * 256 + 1 * (y 0 : Nat) = win0_5.index t 0 * 256 + 1 * (y 0 : Nat)
    omega
  · show win0_0.index t 1 * 1024 + 1 * (k : Nat) = k
    omega

/-- The second branch's rows at a point, by the array's own index. -/
theorem rows_b (c : Dev nD) (t : Fin cfg0.N) (y : S256x2048.Idx) (k : Fin 1024) :
    iblk m c 1 t (ix2 (y 0) k) = m ((c : Thread nD τ).loc main_arg1) (ix2 (((cfg0.win 5).blk t).view.emb y 0) k) := by
  have h := blocks t
  show V m c main_arg1 (((cfg0.win 1).blk t).view.emb _) = _
  rw [V_main_arg1]
  refine congrArg (m ((c : Thread nD τ).loc main_arg1)) (Shape.idx_ext₂ ?_ ?_)
  · show win0_1.index t 0 * 256 + 1 * (y 0 : Nat) = win0_5.index t 0 * 256 + 1 * (y 0 : Nat)
    omega
  · show win0_1.index t 1 * 1024 + 1 * (k : Nat) = k
    omega

/-- The first weights' block at a point is the whole array. -/
theorem cols_a (c : Dev nD) (t : Fin cfg0.N) (y : S256x2048.Idx) (k : Fin 1024) :
    iblk m c 3 t (ix2 k (y 1)) = m ((c : Thread nD τ).loc main_arg3) (ix2 k (((cfg0.win 5).blk t).view.emb y 1)) := by
  have h := blocks t
  show V m c main_v0 (((cfg0.win 3).blk t).view.emb _) = _
  rw [weights_a]
  refine congrArg (m ((c : Thread nD τ).loc main_arg3)) (Shape.idx_ext₂ ?_ ?_)
  · show win0_3.index t 0 * 1024 + 1 * (k : Nat) = k
    omega
  · show win0_3.index t 1 * 2048 + 1 * (y 1 : Nat) = win0_5.index t 1 * 2048 + 1 * (y 1 : Nat)
    omega

/-- The second weights' block at a point is the whole array. -/
theorem cols_b (c : Dev nD) (t : Fin cfg0.N) (y : S256x2048.Idx) (k : Fin 1024) :
    iblk m c 4 t (ix2 k (y 1)) = m ((c : Thread nD τ).loc main_arg4) (ix2 k (((cfg0.win 5).blk t).view.emb y 1)) := by
  have h := blocks t
  show V m c main_v1 (((cfg0.win 4).blk t).view.emb _) = _
  rw [weights_b]
  refine congrArg (m ((c : Thread nD τ).loc main_arg4)) (Shape.idx_ext₂ ?_ ?_)
  · show win0_4.index t 0 * 1024 + 1 * (k : Nat) = k
    omega
  · show win0_4.index t 1 * 2048 + 1 * (y 1 : Nat) = win0_5.index t 1 * 2048 + 1 * (y 1 : Nat)
    omega

/-- The first branch's gates at a point: the left half of the gates' block. -/
theorem gate_a (c : Dev nD) (t : Fin cfg0.N) (y : S256x2048.Idx) (j : Fin 4096) (hj : (j : Nat) = (((cfg0.win 5).blk t).view.emb y 1 : Nat)) :
    View.ld (iblk m c 2 t) r0_2 y = m ((c : Thread nD τ).loc main_arg2) (ix2 (((cfg0.win 5).blk t).view.emb y 0) j) := by
  have h := blocks t
  have e : (((cfg0.win 5).blk t).view.emb y 1 : Nat) = win0_5.index t 1 * 2048 + 1 * (y 1 : Nat) := rfl
  show V m c main_arg2 (((cfg0.win 2).blk t).view.emb _) = _
  rw [V_main_arg2]
  refine congrArg (m ((c : Thread nD τ).loc main_arg2)) (Shape.idx_ext₂ ?_ ?_)
  · show win0_2.index t 0 * 256 + 1 * (0 + 1 * (y 0 : Nat)) = win0_5.index t 0 * 256 + 1 * (y 0 : Nat)
    omega
  · show win0_2.index t 1 * 4096 + 1 * (0 + 1 * (y 1 : Nat)) = (j : Nat)
    omega

/-- The second branch's gates at a point: the right half of the gates' block. -/
theorem gate_b (c : Dev nD) (t : Fin cfg0.N) (y : S256x2048.Idx) (j : Fin 4096) (hj : (j : Nat) = 2048 + (((cfg0.win 5).blk t).view.emb y 1 : Nat)) :
    View.ld (iblk m c 2 t) r0_3 y = m ((c : Thread nD τ).loc main_arg2) (ix2 (((cfg0.win 5).blk t).view.emb y 0) j) := by
  have h := blocks t
  have e : (((cfg0.win 5).blk t).view.emb y 1 : Nat) = win0_5.index t 1 * 2048 + 1 * (y 1 : Nat) := rfl
  show V m c main_arg2 (((cfg0.win 2).blk t).view.emb _) = _
  rw [V_main_arg2]
  refine congrArg (m ((c : Thread nD τ).loc main_arg2)) (Shape.idx_ext₂ ?_ ?_)
  · show win0_2.index t 0 * 256 + 1 * (0 + 1 * (y 0 : Nat)) = win0_5.index t 0 * 256 + 1 * (y 0 : Nat)
    omega
  · show win0_2.index t 1 * 4096 + 1 * (2048 + 1 * (y 1 : Nat)) = (j : Nat)
    omega

/-- The body's value at one index. -/
theorem pay_at (x0 : Vec Ideal S256x1024 .bf16) (x1 : Vec Ideal S1024x2048 .bf16) (x2 : Vec Ideal S256x1024 .bf16)
    (x3 : Vec Ideal S1024x2048 .bf16) (x4 x5 : Vec Ideal S256x2048 .f32) (y : S256x2048.Idx) :
    k0_pay1 x0 x1 x2 x3 x4 x5 y = x4 y * (∑ k : Fin 1024, x0 (ix2 (y 0) k) * x1 (ix2 k (y 1)))
      + x5 y * (∑ k : Fin 1024, x2 (ix2 (y 0) k) * x3 (ix2 k (y 1))) := by
  idx_vars y
  pointwise [k0_pay1]

/-- What a point writes back is its block of the merged branches. -/
theorem flushed_eq (c : Dev nD) (t : Fin cfg0.N) :
    (dats m 0 c).flushed 5 t = ((cfg0.win 5).blk t).view.read (Elt Ideal)
      (merged (m ((c : Thread nD τ).loc main_arg0)) (m ((c : Thread nD τ).loc main_arg1)) (m ((c : Thread nD τ).loc main_arg2))
        (m ((c : Thread nD τ).loc main_arg3)) (m ((c : Thread nD τ).loc main_arg4))) := by
  rw [flushed5, out_eq]
  funext y
  show k0_pay1 (iblk m c 0 t) (iblk m c 3 t) (iblk m c 1 t) (iblk m c 4 t) (View.ld (iblk m c 2 t) r0_2) (View.ld (iblk m c 2 t) r0_3) y
    = merged _ _ _ _ _ (((cfg0.win 5).blk t).view.emb y)
  rw [pay_at]
  dsimp only [merged]
  refine congrArg₂ (· + ·)
    (congrArg₂ (· * ·) (gate_a m c t y _ ?_) (Finset.sum_congr rfl fun k _ => congrArg₂ (· * ·) (rows_a m c t y k) (cols_a m c t y k)))
    (congrArg₂ (· * ·) (gate_b m c t y _ ?_) (Finset.sum_congr rfl fun k _ => congrArg₂ (· * ·) (rows_b m c t y k) (cols_b m c t y k)))
  all_goals rfl

/-- Every index of the result lies in some point's block. -/
theorem cover (i : S8704x2048.Idx) : ∃ t : Fin cfg0.N, (cfg0.win 5).flush t = true ∧ i ∈ ((cfg0.win 5).blk t).view.set := by
  have h0 : (i 0 : Nat) < 8704 := (i 0).isLt
  have h1 : (i 1 : Nat) < 2048 := (i 1).isLt
  obtain ⟨t, hf, e0, e1⟩ := (by decide +kernel : ∀ p : Fin 34, ∃ t : Fin grid0.N,
    win0_5.flush t = true ∧ win0_5.index t 0 = p.val ∧ win0_5.index t 1 = 0) ⟨(i 0 : Nat) / 256, by omega⟩
  refine ⟨t, hf, ?_⟩
  show i ∈ ((View.whole main_v2).slice (win0_5.rect t)).set
  rw [View.set_slice_whole, Rect.mem_set_unit]
  intro a
  fin_cases a
  · show win0_5.index t 0 * 256 ≤ (i 0 : Nat) ∧ (i 0 : Nat) < win0_5.index t 0 * 256 + 256
    simp only [e0]; omega
  · show win0_5.index t 1 * 2048 ≤ (i 1 : Nat) ∧ (i 1 : Nat) < win0_5.index t 1 * 2048 + 2048
    simp only [e1]; omega

/-- The result array after the run is the merged branches. -/
theorem final (c : Dev nD) : (dats m 0 c).arrAt 5 cfg0.N
    = merged (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) cover

/-- The reference's result is the same. -/
theorem reference_eq (a b : FVec Ideal S8704x1024 .bf16) (g : FVec Ideal S8704x4096 .f32) (u v : FVec Ideal S1024x2048 .f32) :
    truncf .bf16 (addf
      (mulf (extractStridedSlice Cert.Reference6Ideal.S8704x2048 ![0, 0] g Cert.Reference6Ideal.Gen.slices_S8704x4096_S8704x2048_0_0)
        (Host.dotGeneral Cert.Reference6Ideal.dot_S8704x1024_S1024x2048_S8704x2048_1_0_0_1_n_n none
          (extf .f32 a Cert.Reference6Ideal.Gen.bitsLt_bf16_f32) u))
      (mulf (extractStridedSlice Cert.Reference6Ideal.S8704x2048 ![0, 2048] g Cert.Reference6Ideal.Gen.slices_S8704x4096_S8704x2048_0_2048)
        (Host.dotGeneral Cert.Reference6Ideal.dot_S8704x1024_S1024x2048_S8704x2048_1_0_0_1_n_n none
          (extf .f32 b Cert.Reference6Ideal.Gen.bitsLt_bf16_f32) v))) Cert.Reference6Ideal.Gen.bitsLt_bf16_f32 = merged a b g u v := by
  funext i
  idx_vars i
  pointwise [merged]

/-- The claim: over the extended reals both programs leave the merged branches. -/
theorem algebraic : Cert.algebraic_Kernel6Ideal_Reference6Ideal := by
  intro m g m' g' _ hargs
  refine ⟨fun c => merged (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run defs _ _).mono (fun r h c => ⟨(h c).1.trans (final m c), (h c).2⟩) (run_blocks m g)
  · refine (θ_run Cert.Reference6Ideal.defs _ _).mono (fun r h c => ⟨(h c).1.trans ?_, (h c).2⟩)
      (Cert.Reference6Ideal.Value.run m' g')
    rw [(hargs c).1, (hargs c).2.1, (hargs c).2.2.1, (hargs c).2.2.2.1, (hargs c).2.2.2.2]
    exact reference_eq _ _ _ _ _

end Cert.Merge

end
-- ==== Proof.Out.lean ====
/-
  The output projection: the kernel's result is `x + merged w`, element by element, and so is the reference's.
-/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Out

open Cert.Kernel7Ideal Cert.Kernel7Ideal.Gen Cert.Kernel7Ideal.Value

/-- The residual stream with the product added, at one index. -/
def added (x : S8704x2048.Idx → EReal) (a : S8704x2048.Idx → EReal) (w : S2048x2048.Idx → EReal) : S8704x2048.Idx → EReal :=
  fun i => x i + ∑ k : Fin 2048, a (ix2 (i 0) k) * w (ix2 k (i 1))

variable (m : (ℓ : Loc nD τ sig) → Buf (Elt Ideal) ℓ) (ρ : Dev nD → PrngReg)

theorem zero2 : (![0, 0] : Fin 2 → Nat) = fun _ => 0 := funext fun a => by fin_cases a <;> rfl

/-- The weights the region finds are the argument's. -/
theorem weights (c : Dev nD) : V m c main_v0 = m ((c : Thread nD τ).loc main_arg2) := by
  have h : @Eq (FVec Ideal S2048x2048 .bf16) (V m c main_v0)
      (truncf .bf16 (m ((c : Thread nD τ).loc main_arg2) : FVec Ideal S2048x2048 .f32) bitsLt_bf16_f32) := by
    dsimp only [V, hostOps0]
    after_results
  exact h

/-- The body stores its value of its three blocks. -/
theorem out_eq (x0 : Vec Ideal S256x2048 .f32) (x1 : Vec Ideal S256x2048 .bf16) (x2 : Vec Ideal S2048x2048 .bf16) :
    out0_3 x0 x1 x2 = k0_pay1 x0 x1 x2 := by
  unfold out0_3
  rw [View.canon_unit_zero zero2]
  simp only [View.ld_unit_zero (S := S256x2048) zero2, View.ld_unit_zero (S := S2048x2048) zero2]

/-- Where each window's block lies at a point: the rows follow the result's rows, the weights stay. -/
theorem blocks (t : Fin cfg0.N) : win0_0.index t 0 = win0_3.index t 0 ∧ win0_0.index t 1 = 0
    ∧ win0_1.index t 0 = win0_3.index t 0 ∧ win0_1.index t 1 = 0 ∧ win0_2.index t 0 = 0 ∧ win0_2.index t 1 = 0
    ∧ win0_3.index t 1 = 0 :=
  (by decide +kernel : ∀ t : Fin grid0.N, win0_0.index t 0 = win0_3.index t 0 ∧ win0_0.index t 1 = 0
    ∧ win0_1.index t 0 = win0_3.index t 0 ∧ win0_1.index t 1 = 0 ∧ win0_2.index t 0 = 0 ∧ win0_2.index t 1 = 0
    ∧ win0_3.index t 1 = 0) t

/-- The residual's block at a point, by the array's own index. -/
theorem res_blk (c : Dev nD) (t : Fin cfg0.N) (y : S256x2048.Idx) :
    iblk m c 0 t y = m ((c : Thread nD τ).loc main_arg0) (((cfg0.win 3).blk t).view.emb y) := by
  obtain ⟨e0, e1, -, -, -, -, e6⟩ := blocks t
  show V m c main_arg0 (((cfg0.win 0).blk t).view.emb _) = _
  rw [V_main_arg0]
  refine congrArg (m ((c : Thread nD τ).loc main_arg0)) (Shape.idx_ext₂ ?_ ?_)
  · show win0_0.index t 0 * 256 + 1 * (y 0 : Nat) = win0_3.index t 0 * 256 + 1 * (y 0 : Nat)
    rw [e0]
  · show win0_0.index t 1 * 2048 + 1 * (y 1 : Nat) = win0_3.index t 1 * 2048 + 1 * (y 1 : Nat)
    rw [e1, e6]

/-- The rows' block at a point, by the array's own index. -/
theorem rows_blk (c : Dev nD) (t : Fin cfg0.N) (y : S256x2048.Idx) (k : Fin 2048) :
    iblk m c 1 t (ix2 (y 0) k) = m ((c : Thread nD τ).loc main_arg1) (ix2 (((cfg0.win 3).blk t).view.emb y 0) k) := by
  obtain ⟨-, -, e2, e3, -, -, -⟩ := blocks t
  show V m c main_arg1 (((cfg0.win 1).blk t).view.emb _) = _
  rw [V_main_arg1]
  refine congrArg (m ((c : Thread nD τ).loc main_arg1)) (Shape.idx_ext₂ ?_ ?_)
  · show win0_1.index t 0 * 256 + 1 * (y 0 : Nat) = win0_3.index t 0 * 256 + 1 * (y 0 : Nat)
    rw [e2]
  · show win0_1.index t 1 * 2048 + 1 * (k : Nat) = k
    rw [e3]; omega

/-- The weights' block at a point is the whole array. -/
theorem cols_blk (c : Dev nD) (t : Fin cfg0.N) (y : S256x2048.Idx) (k : Fin 2048) :
    iblk m c 2 t (ix2 k (y 1)) = m ((c : Thread nD τ).loc main_arg2) (ix2 k (((cfg0.win 3).blk t).view.emb y 1)) := by
  obtain ⟨-, -, -, -, e4, e5, e6⟩ := blocks t
  show V m c main_v0 (((cfg0.win 2).blk t).view.emb _) = _
  rw [weights]
  refine congrArg (m ((c : Thread nD τ).loc main_arg2)) (Shape.idx_ext₂ ?_ ?_)
  · show win0_2.index t 0 * 2048 + 1 * (k : Nat) = k
    rw [e4]; omega
  · show win0_2.index t 1 * 2048 + 1 * (y 1 : Nat) = win0_3.index t 1 * 2048 + 1 * (y 1 : Nat)
    rw [e5, e6]

/-- The body's value at one index. -/
theorem pay_at (x0 : Vec Ideal S256x2048 .f32) (x1 : Vec Ideal S256x2048 .bf16) (x2 : Vec Ideal S2048x2048 .bf16) (y : S256x2048.Idx) :
    k0_pay1 x0 x1 x2 y = x0 y + ∑ k : Fin 2048, x1 (ix2 (y 0) k) * x2 (ix2 k (y 1)) := by
  idx_vars y
  pointwise [k0_pay1]

/-- What a point writes back is its block of the sum. -/
theorem flushed_eq (c : Dev nD) (t : Fin cfg0.N) :
    (dats m 0 c).flushed 3 t = ((cfg0.win 3).blk t).view.read (Elt Ideal)
      (added (m ((c : Thread nD τ).loc main_arg0)) (m ((c : Thread nD τ).loc main_arg1)) (m ((c : Thread nD τ).loc main_arg2))) := by
  rw [flushed3, out_eq]
  funext y
  show k0_pay1 (iblk m c 0 t) (iblk m c 1 t) (iblk m c 2 t) y = added _ _ _ (((cfg0.win 3).blk t).view.emb y)
  rw [pay_at]
  exact congrArg₂ (· + ·) (res_blk m c t y)
    (Finset.sum_congr rfl fun k _ => congrArg₂ (· * ·) (rows_blk m c t y k) (cols_blk m c t y k))

/-- Every index of the result lies in some point's block. -/
theorem cover (i : S8704x2048.Idx) : ∃ t : Fin cfg0.N, (cfg0.win 3).flush t = true ∧ i ∈ ((cfg0.win 3).blk t).view.set := by
  have h0 : (i 0 : Nat) < 8704 := (i 0).isLt
  have h1 : (i 1 : Nat) < 2048 := (i 1).isLt
  obtain ⟨t, hf, e0, e1⟩ := (by decide +kernel : ∀ p : Fin 34, ∃ t : Fin grid0.N,
    win0_3.flush t = true ∧ win0_3.index t 0 = p.val ∧ win0_3.index t 1 = 0) ⟨(i 0 : Nat) / 256, by omega⟩
  refine ⟨t, hf, ?_⟩
  show i ∈ ((View.whole main_v1).slice (win0_3.rect t)).set
  rw [View.set_slice_whole, Rect.mem_set_unit]
  intro a
  fin_cases a
  · show win0_3.index t 0 * 256 ≤ (i 0 : Nat) ∧ (i 0 : Nat) < win0_3.index t 0 * 256 + 256
    simp only [e0]; omega
  · show win0_3.index t 1 * 2048 ≤ (i 1 : Nat) ∧ (i 1 : Nat) < win0_3.index t 1 * 2048 + 2048
    simp only [e1]; omega

/-- The result array after the run is the sum. -/
theorem final (c : Dev nD) : (dats m 0 c).arrAt 3 cfg0.N
    = added (m ((c : Thread nD τ).loc main_arg0)) (m ((c : Thread nD τ).loc main_arg1)) (m ((c : Thread nD τ).loc main_arg2)) :=
  (dats m 0 c).arrAt_eq_of_cover 3 _ (fun t _ => flushed_eq m c t) cover

/-- The reference's result is the same. -/
theorem reference_eq (x : FVec Ideal S8704x2048 .f32) (a : FVec Ideal S8704x2048 .bf16) (w : FVec Ideal S2048x2048 .f32) :
    addf x (Host.dotGeneral Cert.Reference7Ideal.dot_S8704x2048_S2048x2048_S8704x2048_1_0_0_1_n_n none
      (extf .f32 a Cert.Reference7Ideal.Gen.bitsLt_bf16_f32) w) = added x a w := by
  funext i
  idx_vars i
  pointwise [added]

/-- The claim: over the extended reals both programs leave `x + merged w`. -/
theorem algebraic : Cert.algebraic_Kernel7Ideal_Reference7Ideal := by
  intro m g m' g' _ hargs
  refine ⟨fun c => added (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (run_blocks m g)
  · refine (θ_run Cert.Reference7Ideal.defs _ _).mono (fun r h c => ⟨(h c).1.trans ?_, (h c).2⟩)
      (Cert.Reference7Ideal.Value.run m' g')
    rw [(hargs c).1, (hargs c).2.1, (hargs c).2.2]
    exact reference_eq _ _ _

end Cert.Out

end
-- ==== Proof.PleIdeal.lean ====
/-
  The per-layer embedding and final norm: what the call leaves in its two results, point by point, and that it ends
  with its arguments as they were. The first thirty-two points store their block into the first result's buffer, the last
  two into the second's. The last two points leave the first result's buffer alone, which then still holds the block of
  point thirty-one, and that is what is written back at the end.
-/
module

public import proofs.«01_k».proof.Defs
public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Gen.Kernel8Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.PleIdeal

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a point takes -/

theorem first_iff : ∀ t : Fin cfg0.N, k0_cond1 (grid0.coords t) = 1#1 ↔ t.val < 32 :=
  (by decide +kernel : ∀ t : Fin grid0.N, k0_cond1 (grid0.coords t) = 1#1 ↔ t.val < 32)
theorem second_iff : ∀ t : Fin cfg0.N, k0_cond2 (grid0.coords t) = 1#1 ↔ ¬ t.val < 32 :=
  (by decide +kernel : ∀ t : Fin grid0.N, k0_cond2 (grid0.coords t) = 1#1 ↔ ¬ t.val < 32)
theorem live6 : ∀ t : Fin cfg0.N, t.val < 32 → cfg0.idle 6 (grid0.coords t) = false :=
  (by decide +kernel : ∀ t : Fin grid0.N, t.val < 32 → cfg0.idle 6 (grid0.coords t) = false)
theorem idle6 : ∀ t : Fin cfg0.N, ¬ t.val < 32 → cfg0.idle 6 (grid0.coords t) = true :=
  (by decide +kernel : ∀ t : Fin grid0.N, ¬ t.val < 32 → cfg0.idle 6 (grid0.coords t) = true)
theorem live7 : ∀ t : Fin cfg0.N, ¬ t.val < 32 → cfg0.idle 7 (grid0.coords t) = false :=
  (by decide +kernel : ∀ t : Fin grid0.N, ¬ t.val < 32 → cfg0.idle 7 (grid0.coords t) = false)
theorem idle7 : ∀ t : Fin cfg0.N, t.val < 32 → cfg0.idle 7 (grid0.coords t) = true :=
  (by decide +kernel : ∀ t : Fin grid0.N, t.val < 32 → cfg0.idle 7 (grid0.coords t) = true)
theorem flush6 : ∀ t : Fin cfg0.N, (cfg0.win 6).flush t = true ↔ t.val ≠ 31 ∧ t.val ≠ 32 :=
  (by decide +kernel : ∀ t : Fin grid0.N, win0_6.flush t = true ↔ t.val ≠ 31 ∧ t.val ≠ 32)
theorem noFlush7 : ∀ t : Fin cfg0.N, t.val < 32 → (cfg0.win 7).flush t = false :=
  (by decide +kernel : ∀ t : Fin grid0.N, t.val < 32 → win0_7.flush t = false)

/-! ## What a point stores -/

abbrev rRows : Rect S256x2048 := Rect.unit (s := S256x2048) ![0, 0] S256x2048.size inb_S256x2048_S256x2048_0_0
abbrev rEmb : Rect S256x256 := Rect.unit (s := S256x256) ![0, 0] S256x256.size inb_S256x256_S256x256_0_0
abbrev rGate : Rect S2048x2048 := Rect.unit (s := S2048x2048) ![0, 0] S2048x2048.size inb_S2048x2048_S2048x2048_0_0
abbrev rScale : Rect S1x2048 := Rect.unit (s := S1x2048) ![0, 0] S1x2048.size inb_S1x2048_S1x2048_0_0

/-- The rows a point computes from its blocks, as the buffer it stores them in holds them. -/
def row (x0 : Vec F S256x2048 .f32) (x1 : Vec F S256x256 .bf16) (x2 : Vec F S256x2048 .bf16) (x3 : Vec F S256x2048 .bf16) (x4 : Vec F S2048x2048 .bf16) (x5 : Vec F S1x2048 .f32) : Vec F S256x2048 .f32 :=
  View.canon [⟨rRows, k0_pay1 (View.ld x1 rEmb) (View.ld x3 rRows) (View.ld x2 rRows) (View.ld x4 rGate) (View.ld x0 rRows) (View.ld x5 rScale)⟩]

theorem row_cover (p0 : Vec F S256x2048 .f32) (y : S256x2048.Idx) :
    ∃ pc ∈ ([⟨rRows, p0⟩] : List (View.Piece (Elt F) S256x2048 .f32)), y ∈ pc.1.set :=
  View.cover_of_tiled [⟨rRows, p0⟩] S256x2048.size (by rfl) y

/-! ## The body, branch by branch -/

set_option maxHeartbeats 1000000 in
/-- At one of the first thirty-two points: the second result's buffer is left as found. -/
theorem body_first (c : Dev nD) (E : Set ℕ) (i : grid0.Coords) (arg1 : Memref sig .tc .vmem S256x2048 .f32) (harg1 : arg1.IsWhole) (arg2 : Memref sig .tc .vmem S256x256 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole)
    (hc1 : k0_cond1 i = 1#1) (hc2 : ¬ k0_cond2 i = 1#1)
    (x0 : Vec F S256x2048 .f32) (x1 : Vec F S256x256 .bf16) (x2 : Vec F S256x2048 .bf16) (x3 : Vec F S256x2048 .bf16) (x4 : Vec F S2048x2048 .bf16) (x5 : Vec F S1x2048 .f32) (xo : Vec F S256x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (row x0 x1 x2 x3 x4 x5) ∗ owns (c : Thread nD τ) arg8 fullShare xo) -∗ K ⟨⟩))
      ⊢ wp frame (wpE (defs₀ (F := F)) Variants.none c none) E (cc0_ple i arg1 harg1 arg2 harg2 arg3 harg3 arg4 harg4 arg5 harg5 arg6 harg6 arg7 harg7 arg8 harg8) K := by
  simp only [cc0_ple_eq_skeleton]; unfold cc0_ple_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (row_cover _)
  iexists f7; isplitr; · ipureintro; rfl
  iexact H7

set_option maxHeartbeats 1000000 in
/-- At one of the last two points: the first result's buffer is left as found. -/
theorem body_last (c : Dev nD) (E : Set ℕ) (i : grid0.Coords) (arg1 : Memref sig .tc .vmem S256x2048 .f32) (harg1 : arg1.IsWhole) (arg2 : Memref sig .tc .vmem S256x256 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole)
    (hc1 : ¬ k0_cond1 i = 1#1) (hc2 : k0_cond2 i = 1#1)
    (x0 : Vec F S256x2048 .f32) (x1 : Vec F S256x256 .bf16) (x2 : Vec F S256x2048 .bf16) (x3 : Vec F S256x2048 .bf16) (x4 : Vec F S2048x2048 .bf16) (x5 : Vec F S1x2048 .f32) (xo : Vec F S256x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare (row x0 x1 x2 x3 x4 x5)) -∗ K ⟨⟩))
      ⊢ wp frame (wpE (defs₀ (F := F)) Variants.none c none) E (cc0_ple i arg1 harg1 arg2 harg2 arg3 harg3 arg4 harg4 arg5 harg5 arg6 harg6 arg7 harg7 arg8 harg8) K := by
  simp only [cc0_ple_eq_skeleton]; unfold cc0_ple_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (row_cover _)

/-! ## The buffers, point by point -/

/-- The last of the first thirty-two points. -/
def last1 : Fin cfg0.N := ⟨31, lt_of_lt_of_eq (by decide) N_0.symm⟩

/-- The point whose block the first result's buffer holds after point `t`. -/
def held (t : Fin cfg0.N) : Fin cfg0.N := if t.val < 32 then t else last1

/-- What every buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => row (iblk m c 0 (held t)) (iblk m c 1 (held t)) (iblk m c 2 (held t)) (iblk m c 3 (held t)) (iblk m c 4 (held t)) (iblk m c 5 (held t))
    | ⟨7, _⟩ => row (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = row (iblk m c 0 (held t)) (iblk m c 1 (held t)) (iblk m c 2 (held t)) (iblk m c 3 (held t)) (iblk m c 4 (held t)) (iblk m c 5 (held t)) := by dsimp only [dats]
theorem after_7 (c : Dev nD) (t : Fin cfg0.N) : (dats m 0 c).after 7 t = row (iblk m c 0 t) (iblk m c 1 t) (iblk m c 2 t) (iblk m c 3 t) (iblk m c 4 t) (iblk m c 5 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem held_first (t : Fin cfg0.N) (h : t.val < 32) : held t = t := if_pos h

theorem after_6_held (c : Dev nD) (t : Fin cfg0.N) (h : ¬ t.val < 32) : (dats m 0 c).after 6 t = (dats m 0 c).after 6 last1 := by
  have e : held t = held last1 := (if_neg h).trans (if_pos (by decide : last1.val < 32)).symm
  rw [after_6, after_6, e]

/-- Point thirty-two finds the first result's buffer as the point before left it, -/
theorem before_6_32 (c : Dev nD) (d) : (dats m 0 c).before 6 (⟨32, lt_of_lt_of_eq (by decide) N_0.symm⟩ : Fin cfg0.N) d = (dats m 0 c).after 6 last1 := by
  rw [Dat.before_of_pos (dats m 0 c) 6 _ (by decide) rfl]
  rw [if_neg (fun hf => ((flush6 _).mp hf).1 rfl)]
  unfold Dat.left
  rw [live6 _ (by decide)]
  rfl

/-- and so does the point after it. -/
theorem before_6_33 (c : Dev nD) (d) : (dats m 0 c).before 6 (⟨33, lt_of_lt_of_eq (by decide) N_0.symm⟩ : Fin cfg0.N) d = (dats m 0 c).after 6 last1 := by
  rw [Dat.before_of_pos (dats m 0 c) 6 _ (by decide) rfl]
  rw [if_neg (fun hf => ((flush6 _).mp hf).2 rfl)]
  unfold Dat.left
  rw [idle6 _ (by decide)]
  exact before_6_32 m c d

/-- At the last point that is what the write-back writes. -/
theorem leaves_6_last (c : Dev nD) (t : Fin cfg0.N) (h : ¬ t.val < 32) (d) :
    owns (c : Thread nD τ) (st0_6 t) fullShare ((dats m 0 c).before 6 t d) ⊢ (dats m 0 c).leavesExact 6 t := by
  have hN : t.val < 34 := lt_of_lt_of_eq t.isLt (show cfg0.N = 34 from N_0)
  by_cases h2 : t.val = 32
  · have hf : (cfg0.win 6).flush t = false := by
      cases e : (cfg0.win 6).flush t
      · rfl
      · exact absurd h2 ((flush6 t).mp e).2
    rw [Dat.leavesExact_idle (dats m 0 c) 6 t (idle6 t h) hf]
    iintro H
    iexists d
    iexact H
  · have ht : t = (⟨33, lt_of_lt_of_eq (by decide) N_0.symm⟩ : Fin cfg0.N) := Fin.ext (by show t.val = 33; omega)
    have e : (dats m 0 c).leavesExact 6 t = owns (c : Thread nD τ) (st0_6 t) fullShare ((dats m 0 c).after 6 t) := by
      unfold Dat.leavesExact; rw [idle6 t h, (flush6 t).mpr (by omega)]
    rw [e, after_6_held m c t h]
    subst ht
    rw [before_6_33]

/-! ## The body obligation -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

theorem leaves_0 (c : Dev nD) (t : Fin cfg0.N) : (dats m 0 c).leavesExact 0 t = owns (c : Thread nD τ) (st0_0 t) fullShare ((dats m 0 c).after 0 t) := rfl
theorem leaves_1 (c : Dev nD) (t : Fin cfg0.N) : (dats m 0 c).leavesExact 1 t = owns (c : Thread nD τ) (st0_1 t) fullShare ((dats m 0 c).after 1 t) := rfl
theorem leaves_2 (c : Dev nD) (t : Fin cfg0.N) : (dats m 0 c).leavesExact 2 t = owns (c : Thread nD τ) (st0_2 t) fullShare ((dats m 0 c).after 2 t) := rfl
theorem leaves_3 (c : Dev nD) (t : Fin cfg0.N) : (dats m 0 c).leavesExact 3 t = owns (c : Thread nD τ) (st0_3 t) fullShare ((dats m 0 c).after 3 t) := rfl
theorem leaves_4 (c : Dev nD) (t : Fin cfg0.N) : (dats m 0 c).leavesExact 4 t = owns (c : Thread nD τ) (st0_4 t) fullShare ((dats m 0 c).after 4 t) := rfl
theorem leaves_5 (c : Dev nD) (t : Fin cfg0.N) : (dats m 0 c).leavesExact 5 t = owns (c : Thread nD τ) (st0_5 t) fullShare ((dats m 0 c).after 5 t) := rfl
theorem leaves_6_first (c : Dev nD) (t : Fin cfg0.N) (h : t.val < 32) : (dats m 0 c).leavesExact 6 t = owns (c : Thread nD τ) (st0_6 t) fullShare ((dats m 0 c).after 6 t) := by
  unfold Dat.leavesExact; rw [live6 t h]
theorem leaves_7_last (c : Dev nD) (t : Fin cfg0.N) (h : ¬ t.val < 32) : (dats m 0 c).leavesExact 7 t = owns (c : Thread nD τ) (st0_7 t) fullShare ((dats m 0 c).after 7 t) := by
  unfold Dat.leavesExact; rw [live7 t h]

set_option maxHeartbeats 1000000 in
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl, leaves_0, leaves_1, leaves_2, leaves_3, leaves_4, leaves_5,
    after_0, after_1, after_2, after_3, after_4, after_5]
  by_cases h : t.val < 32
  · rw [leaves_6_first m c t h, Dat.leavesExact_idle (dats m 0 c) 7 t (idle7 t h) (noFlush7 t h), after_6, held_first t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c Set.univ (grid0.coords t) _ _ _ _ _ _ _ _ _ _ _ _ _ _ _ _ ((first_iff t).mpr h) (fun e => (second_iff t).mp e h)
      (iblk m c 0 t) (iblk m c 1 t) (iblk m c 2 t) (iblk m c 3 t) (iblk m c 4 t) (iblk m c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · rw [leaves_7_last m c t h, after_7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_last c Set.univ (grid0.coords t) _ _ _ _ _ _ _ _ _ _ _ _ _ _ _ _ (fun e => h ((first_iff t).mp e)) ((second_iff t).mpr h)
      (iblk m c 0 t) (iblk m c 1 t) (iblk m c 2 t) (iblk m c 3 t) (iblk m c 4 t) (iblk m c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_6_last m c t h d6); iexact H6
    iexact H7

theorem table_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (body_at m c t) rfl .rfl fun _ => .rfl

/-! ## The run and the frame -/

set_option backward.isDefEq.respectTransparency.types false in
set_option maxHeartbeats 800000 in
/-- The run: every array ends as the buffers above say, every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run m ρ)

/-- The call runs to its end without a fault, its arguments end as they began, and every counter reads zero. -/
theorem frame : Cert.quiescent_Kernel8Ideal := fun m ρ _ =>
  θ_run_and (frame_of m ρ (dats m) (A_eq m) (run_arrays m ρ)) ((θ_run defs _ _).mono (fun _ h => h.2) (run m ρ))

end Cert.PleIdeal

end
-- ==== Proof.Ple.lean ====
/-
  The per-layer embedding and final norm: both programs leave, of every row, the norm of the row plus its gated embedding,
  the first 8192 rows in one result and the last 512 in the other.
-/
module

public import proofs.«01_k».proof.Defs
public import proofs.«01_k».proof.Proof.PleIdeal
public import proofs.«01_k».proof.Proof.FfnMath
public import proofs.«01_k».proof.Proof.Gen.Reference8Ideal.Run
public import Idealize.ShloMosaic.Lib.Pointwise
public import Idealize.ShloMosaic.Lib.ValueLayout
public import Idealize.ShloMosaic.Lib.Tactic

@[expose] public section

noncomputable section

open Idealize.ShloMosaic Idealize.ShloMosaic.TcCoe Idealize.SL.Sem
open Idealize.ShloMosaic.Pipeline (Dat)

namespace Cert.Ple

open Cert.Kernel8Ideal Cert.Kernel8Ideal.Gen Cert.PleIdeal
open Cert.Ffn (norm)

/-- A row plus its embedding, gated by the logistic function of the row's own projection. -/
def mixed (x : Fin 2048 → EReal) (p : Fin 256 → EReal) (h : Fin 2048 → EReal) (wp : Fin 256 → Fin 2048 → EReal)
    (wg : Fin 2048 → Fin 2048 → EReal) (k : Fin 2048) : EReal :=
  x k + (∑ j, p j * wp j k) * Ideal.div 1 (1 + Ideal.exp (-∑ j, h j * wg j k))

/-- Every row's result, as one array. -/
def rows (x : S8704x2048.Idx → EReal) (p : S8704x256.Idx → EReal) (h : S8704x2048.Idx → EReal) (wp : S256x2048.Idx → EReal)
    (wg : S2048x2048.Idx → EReal) (g : S2048.Idx → EReal) : S8704x2048.Idx → EReal :=
  fun i => norm (mixed (fun k => x (ix2 (i 0) k)) (fun k => p (ix2 (i 0) k)) (fun k => h (ix2 (i 0) k)) (fun j k => wp (ix2 j k))
    (fun j k => wg (ix2 j k))) (fun k => g (ix1 k)) (i 1)

/-- The first 8192 rows. -/
def prompt (z : S8704x2048.Idx → EReal) : S8192x2048.Idx → EReal :=
  fun i => z (ix2 (⟨(i 0 : Nat), lt_of_lt_of_le (i 0).isLt (by decide)⟩ : Fin 8704) (i 1))

/-- The last 512 rows. -/
def sample (z : S8704x2048.Idx → EReal) : S512x2048.Idx → EReal :=
  fun i => z (ix2 (⟨8192 + (i 0 : Nat), Nat.add_lt_add_left (i 0).isLt 8192⟩ : Fin 8704) (i 1))

theorem zero2 : (![0, 0] : Fin 2 → Nat) = fun _ => 0 := funext fun a => by fin_cases a <;> rfl

/-! ## What a point stores -/

theorem row_at (x0 : Vec Ideal S256x2048 .f32) (x1 : Vec Ideal S256x256 .bf16) (x2 x3 : Vec Ideal S256x2048 .bf16)
    (x4 : Vec Ideal S2048x2048 .bf16) (x5 : Vec Ideal S1x2048 .f32) (r : Fin 256) (q : Fin 2048) :
    row x0 x1 x2 x3 x4 x5 (ix2 r q)
      = norm (mixed (fun k => x0 (ix2 r k)) (fun k => x1 (ix2 r k)) (fun k => x2 (ix2 r k)) (fun j k => x3 (ix2 j k))
          (fun j k => x4 (ix2 j k))) (fun k => x5 (ix2 0 k)) q := by
  unfold row
  rw [View.canon_unit_zero zero2, View.ld_unit_zero (S := S256x2048) zero2, View.ld_unit_zero (S := S256x256) zero2,
    View.ld_unit_zero (S := S256x2048) zero2, View.ld_unit_zero (S := S2048x2048) zero2, View.ld_unit_zero (S := S1x2048) zero2]
  pointwise [k0_pay1]
  simp only [zero_sub]
  rfl

/-! ## The blocks, by the arguments' own indices -/

variable (m : (ℓ : Loc nD τ sig) → Buf (Elt Ideal) ℓ) (ρ : Dev nD → PrngReg)

theorem emb_v (c : Dev nD) : V m c main_v0 = m ((c : Thread nD τ).loc main_arg1) := by
  have h : @Eq (FVec Ideal S8704x256 .bf16) (V m c main_v0)
      (truncf .bf16 (m ((c : Thread nD τ).loc main_arg1) : FVec Ideal S8704x256 .f32) bitsLt_bf16_f32) := by
    dsimp only [V, hostOps0]
    after_results
  exact h

theorem emb_w (c : Dev nD) : V m c main_v1 = m ((c : Thread nD τ).loc main_arg3) := by
  have h : @Eq (FVec Ideal S256x2048 .bf16) (V m c main_v1)
      (truncf .bf16 (m ((c : Thread nD τ).loc main_arg3) : FVec Ideal S256x2048 .f32) bitsLt_bf16_f32) := by
    dsimp only [V, hostOps0]
    after_results
  exact h

theorem gate_w (c : Dev nD) : V m c main_v2 = m ((c : Thread nD τ).loc main_arg4) := by
  have h : @Eq (FVec Ideal S2048x2048 .bf16) (V m c main_v2)
      (truncf .bf16 (m ((c : Thread nD τ).loc main_arg4) : FVec Ideal S2048x2048 .f32) bitsLt_bf16_f32) := by
    dsimp only [V, hostOps0]
    after_results
  exact h

theorem gains (c : Dev nD) (k : Fin 2048) : V m c main_v3 (ix2 0 k) = m ((c : Thread nD τ).loc main_arg5) (ix1 k) := by
  have h : @Eq (FVec Ideal S1x2048 .f32) (V m c main_v3)
      (shapeCast S1x2048 (m ((c : Thread nD τ).loc main_arg5) : FVec Ideal S2048 .f32) shapeCasts_S2048_S1x2048) := by
    dsimp only [V, hostOps0]
    after_results
    rfl
  rw [h]
  exact Idealize.ShloMosaic.ValueIdx.shapeCast_a_1a_apply _ _ 0 k

theorem idx_in (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ win0_5.index t 0 = 0 ∧ win0_5.index t 1 = 0 :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ win0_5.index t 0 = 0 ∧ win0_5.index t 1 = 0) t

theorem blk0 (c : Dev nD) (t : Fin cfg0.N) (r : Fin 256) (k : Fin 2048) (i : Fin 8704) (hi : i.val = 256 * t.val + r.val) :
    iblk m c 0 t (ix2 r k) = m ((c : Thread nD τ).loc main_arg0) (ix2 i k) := by
  obtain ⟨⟨e, e'⟩, -⟩ := idx_in t
  show V m c main_arg0 (((cfg0.win 0).blk t).view.emb _) = _
  rw [V_main_arg0]
  refine congrArg (m ((c : Thread nD τ).loc main_arg0)) (Shape.idx_ext₂ ?_ ?_)
  · show win0_0.index t 0 * 256 + 1 * (r : Nat) = i.val
    rw [e, hi]; omega
  · show win0_0.index t 1 * 2048 + 1 * (k : Nat) = k
    rw [e']; omega

theorem blk1 (c : Dev nD) (t : Fin cfg0.N) (r : Fin 256) (k : Fin 256) (i : Fin 8704) (hi : i.val = 256 * t.val + r.val) :
    iblk m c 1 t (ix2 r k) = m ((c : Thread nD τ).loc main_arg1) (ix2 i k) := by
  obtain ⟨-, ⟨e, e'⟩, -⟩ := idx_in t
  show V m c main_v0 (((cfg0.win 1).blk t).view.emb _) = _
  rw [emb_v]
  refine congrArg (m ((c : Thread nD τ).loc main_arg1)) (Shape.idx_ext₂ ?_ ?_)
  · show win0_1.index t 0 * 256 + 1 * (r : Nat) = i.val
    rw [e, hi]; omega
  · show win0_1.index t 1 * 256 + 1 * (k : Nat) = k
    rw [e']; omega

theorem blk2 (c : Dev nD) (t : Fin cfg0.N) (r : Fin 256) (k : Fin 2048) (i : Fin 8704) (hi : i.val = 256 * t.val + r.val) :
    iblk m c 2 t (ix2 r k) = m ((c : Thread nD τ).loc main_arg2) (ix2 i k) := by
  obtain ⟨-, -, ⟨e, e'⟩, -⟩ := idx_in t
  show V m c main_arg2 (((cfg0.win 2).blk t).view.emb _) = _
  rw [V_main_arg2]
  refine congrArg (m ((c : Thread nD τ).loc main_arg2)) (Shape.idx_ext₂ ?_ ?_)
  · show win0_2.index t 0 * 256 + 1 * (r : Nat) = i.val
    rw [e, hi]; omega
  · show win0_2.index t 1 * 2048 + 1 * (k : Nat) = k
    rw [e']; omega

theorem blk3 (c : Dev nD) (t : Fin cfg0.N) (j : Fin 256) (k : Fin 2048) :
    iblk m c 3 t (ix2 j k) = m ((c : Thread nD τ).loc main_arg3) (ix2 j k) := by
  obtain ⟨-, -, -, ⟨e, e'⟩, -⟩ := idx_in t
  show V m c main_v1 (((cfg0.win 3).blk t).view.emb _) = _
  rw [emb_w]
  refine congrArg (m ((c : Thread nD τ).loc main_arg3)) (Shape.idx_ext₂ ?_ ?_)
  · show win0_3.index t 0 * 256 + 1 * (j : Nat) = j
    rw [e]; omega
  · show win0_3.index t 1 * 2048 + 1 * (k : Nat) = k
    rw [e']; omega

theorem blk4 (c : Dev nD) (t : Fin cfg0.N) (j k : Fin 2048) :
    iblk m c 4 t (ix2 j k) = m ((c : Thread nD τ).loc main_arg4) (ix2 j k) := by
  obtain ⟨-, -, -, -, ⟨e, e'⟩, -⟩ := idx_in t
  show V m c main_v2 (((cfg0.win 4).blk t).view.emb _) = _
  rw [gate_w]
  refine congrArg (m ((c : Thread nD τ).loc main_arg4)) (Shape.idx_ext₂ ?_ ?_)
  · show win0_4.index t 0 * 2048 + 1 * (j : Nat) = j
    rw [e]; omega
  · show win0_4.index t 1 * 2048 + 1 * (k : Nat) = k
    rw [e']; omega

theorem blk5 (c : Dev nD) (t : Fin cfg0.N) (k : Fin 2048) :
    iblk m c 5 t (ix2 0 k) = m ((c : Thread nD τ).loc main_arg5) (ix1 k) := by
  obtain ⟨-, -, -, -, -, e, e'⟩ := idx_in t
  show V m c main_v3 (((cfg0.win 5).blk t).view.emb _) = _
  rw [← gains m c k]
  refine congrArg (V m c main_v3) (Shape.idx_ext₂ ?_ ?_)
  · show win0_5.index t 0 * 1 + 1 * 0 = 0
    rw [e]
  · show win0_5.index t 1 * 2048 + 1 * (k : Nat) = k
    rw [e']; omega

/-- Every row's result, from the arguments as the run finds them. -/
def full (c : Dev nD) : S8704x2048.Idx → EReal :=
  rows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem row_blk (c : Dev nD) (t : Fin cfg0.N) (r : Fin 256) (q : Fin 2048) (i : Fin 8704) (hi : i.val = 256 * t.val + r.val) :
    row (iblk m c 0 t) (iblk m c 1 t) (iblk m c 2 t) (iblk m c 3 t) (iblk m c 4 t) (iblk m c 5 t) (ix2 r q) = full m c (ix2 i q) := by
  rw [row_at]
  have e0 := funext fun k => blk0 m c t r k i hi
  have e1 := funext fun k => blk1 m c t r k i hi
  have e2 := funext fun k => blk2 m c t r k i hi
  have e3 := funext fun j => funext fun k => blk3 m c t j k
  have e4 := funext fun j => funext fun k => blk4 m c t j k
  have e5 := funext fun k => blk5 m c t k
  rw [e0, e1, e2, e3, e4, e5]
  rfl

/-! ## The first result -/

theorem idx6 (t : Fin cfg0.N) : win0_6.index t 0 = (held t).val ∧ win0_6.index t 1 = 0 :=
  (by decide +kernel : ∀ t : Fin cfg0.N, win0_6.index t 0 = (held t).val ∧ win0_6.index t 1 = 0) t

theorem flushed_6 (c : Dev nD) (t : Fin cfg0.N) :
    (dats m 0 c).flushed 6 t = ((cfg0.win 6).blk t).view.read (Elt Ideal) (prompt (full m c)) := by
  show (dats m 0 c).after 6 t = _
  rw [after_6]
  funext y
  obtain ⟨e0, e1⟩ := idx6 t
  have hy : y = ix2 (y 0) (y 1) := Shape.idx_ext₂ rfl rfl
  refine (congrArg (row (iblk m c 0 (held t)) (iblk m c 1 (held t)) (iblk m c 2 (held t)) (iblk m c 3 (held t)) (iblk m c 4 (held t)) (iblk m c 5 (held t))) hy).trans
    ((row_blk m c (held t) (y 0) (y 1)
      (⟨(((cfg0.win 6).blk t).view.emb y 0 : Nat), lt_of_lt_of_le (((cfg0.win 6).blk t).view.emb y 0).isLt (show 8192 ≤ 8704 by decide)⟩ : Fin 8704) ?_).trans ?_)
  · show win0_6.index t 0 * 256 + 1 * (y 0 : Nat) = _
    rw [e0]; omega
  · refine congrArg (full m c) (Shape.idx_ext₂ rfl ?_)
    show (y 1 : Nat) = win0_6.index t 1 * 2048 + 1 * (y 1 : Nat)
    rw [e1]; omega

theorem cover_6 (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  obtain ⟨t, hf, e0, e1⟩ := (by decide +kernel : ∀ p : Fin 32, ∃ t : Fin grid0.N,
    win0_6.flush t = true ∧ win0_6.index t 0 = p.val ∧ win0_6.index t 1 = 0) ⟨(i 0 : Nat) / 256, by omega⟩
  refine ⟨t, hf, ?_⟩
  show i ∈ ((View.whole main_v4_0).slice (win0_6.rect t)).set
  rw [View.set_slice_whole, Rect.mem_set_unit]
  intro a
  fin_cases a
  · show win0_6.index t 0 * 256 ≤ (i 0 : Nat) ∧ (i 0 : Nat) < win0_6.index t 0 * 256 + 256
    simp only [e0]; omega
  · show win0_6.index t 1 * 2048 ≤ (i 1 : Nat) ∧ (i 1 : Nat) < win0_6.index t 1 * 2048 + 2048
    simp only [e1]; omega

theorem final_6 (c : Dev nD) : (dats m 0 c).arrAt 6 cfg0.N = prompt (full m c) :=
  (dats m 0 c).arrAt_eq_of_cover 6 _ (fun t _ => flushed_6 m c t) cover_6

/-! ## The second result -/

theorem idx7 (t : Fin cfg0.N) : win0_7.index t 1 = 0 ∧ ((cfg0.win 7).flush t = true → 32 + win0_7.index t 0 = t.val) :=
  (by decide +kernel : ∀ t : Fin grid0.N, win0_7.index t 1 = 0 ∧ (win0_7.flush t = true → 32 + win0_7.index t 0 = t.val)) t

theorem flushed_7 (c : Dev nD) (t : Fin cfg0.N) (hf : (cfg0.win 7).flush t = true) :
    (dats m 0 c).flushed 7 t = ((cfg0.win 7).blk t).view.read (Elt Ideal) (sample (full m c)) := by
  show (dats m 0 c).after 7 t = _
  rw [after_7]
  funext y
  obtain ⟨e1, e⟩ := idx7 t
  have e0 := e hf
  have hy : y = ix2 (y 0) (y 1) := Shape.idx_ext₂ rfl rfl
  refine (congrArg (row (iblk m c 0 t) (iblk m c 1 t) (iblk m c 2 t) (iblk m c 3 t) (iblk m c 4 t) (iblk m c 5 t)) hy).trans
    ((row_blk m c t (y 0) (y 1)
      (⟨8192 + (((cfg0.win 7).blk t).view.emb y 0 : Nat), Nat.add_lt_add_left (((cfg0.win 7).blk t).view.emb y 0).isLt 8192⟩ : Fin 8704) ?_).trans ?_)
  · show 8192 + (win0_7.index t 0 * 256 + 1 * (y 0 : Nat)) = _
    rw [← e0]; omega
  · refine congrArg (full m c) (Shape.idx_ext₂ rfl ?_)
    show (y 1 : Nat) = win0_7.index t 1 * 2048 + 1 * (y 1 : Nat)
    rw [e1]; omega

theorem cover_7 (i : S512x2048.Idx) : ∃ t : Fin cfg0.N, (cfg0.win 7).flush t = true ∧ i ∈ ((cfg0.win 7).blk t).view.set := by
  have h0 : (i 0 : Nat) < 512 := (i 0).isLt
  have h1 : (i 1 : Nat) < 2048 := (i 1).isLt
  obtain ⟨t, hf, e0, e1⟩ := (by decide +kernel : ∀ p : Fin 2, ∃ t : Fin grid0.N,
    win0_7.flush t = true ∧ win0_7.index t 0 = p.val ∧ win0_7.index t 1 = 0) ⟨(i 0 : Nat) / 256, by omega⟩
  refine ⟨t, hf, ?_⟩
  show i ∈ ((View.whole main_v4_1).slice (win0_7.rect t)).set
  rw [View.set_slice_whole, Rect.mem_set_unit]
  intro a
  fin_cases a
  · show win0_7.index t 0 * 256 ≤ (i 0 : Nat) ∧ (i 0 : Nat) < win0_7.index t 0 * 256 + 256
    simp only [e0]; omega
  · show win0_7.index t 1 * 2048 ≤ (i 1 : Nat) ∧ (i 1 : Nat) < win0_7.index t 1 * 2048 + 2048
    simp only [e1]; omega

theorem final_7 (c : Dev nD) : (dats m 0 c).arrAt 7 cfg0.N = sample (full m c) :=
  (dats m 0 c).arrAt_eq_of_cover 7 _ (fun t hf => flushed_7 m c t hf) cover_7

/-! ## The reference, and the claim -/

theorem cut_prompt (z : FVec Ideal S8704x2048 .f32) (hs : S8704x2048.Slices ![0, 0] S8192x2048) :
    extractStridedSlice S8192x2048 ![0, 0] z hs = prompt z := by
  funext i
  idx_vars i
  exact ValueIdx.slice2_axis0_apply 0 z hs _ _ _ (Nat.zero_add _).symm

theorem cut_sample (z : FVec Ideal S8704x2048 .f32) (hs : S8704x2048.Slices ![8192, 0] S512x2048) :
    extractStridedSlice S512x2048 ![8192, 0] z hs = sample z := by
  funext i
  idx_vars i
  exact ValueIdx.slice2_axis0_apply 8192 z hs _ _ _ rfl

theorem reference (m : (ℓ : Loc Cert.Reference8Ideal.nD Cert.Reference8Ideal.τ Cert.Reference8Ideal.sig) → Buf (Elt Ideal) ℓ)
    (ρ : Dev Cert.Reference8Ideal.nD → PrngReg) :
    θ_run (Cert.Reference8Ideal.defs (F := Ideal)) (onTc (τ := Cert.Reference8Ideal.τ) (Cert.Reference8Ideal.main (F := Ideal)))
      ⟨m, fun _ => 0, ρ⟩ fun r => ∀ c : Dev Cert.Reference8Ideal.nD,
      r.2.mem ((c.tc : Thread _ Cert.Reference8Ideal.τ).loc Cert.Reference8Ideal.main_v24)
        = prompt (rows (m (c.tc.loc Cert.Reference8Ideal.main_arg0)) (m (c.tc.loc Cert.Reference8Ideal.main_arg1))
          (m (c.tc.loc Cert.Reference8Ideal.main_arg2)) (m (c.tc.loc Cert.Reference8Ideal.main_arg3)) (m (c.tc.loc Cert.Reference8Ideal.main_arg4))
          (m (c.tc.loc Cert.Reference8Ideal.main_arg5)))
      ∧ r.2.mem ((c.tc : Thread _ Cert.Reference8Ideal.τ).loc Cert.Reference8Ideal.main_v25)
        = sample (rows (m (c.tc.loc Cert.Reference8Ideal.main_arg0)) (m (c.tc.loc Cert.Reference8Ideal.main_arg1))
          (m (c.tc.loc Cert.Reference8Ideal.main_arg2)) (m (c.tc.loc Cert.Reference8Ideal.main_arg3)) (m (c.tc.loc Cert.Reference8Ideal.main_arg4))
          (m (c.tc.loc Cert.Reference8Ideal.main_arg5)))
      ∧ r.2.mem ((c.tc : Thread _ Cert.Reference8Ideal.τ).loc Cert.Reference8Ideal.main_arg0) = m ((c.tc : Thread _ Cert.Reference8Ideal.τ).loc Cert.Reference8Ideal.main_arg0)
      ∧ r.2.mem ((c.tc : Thread _ Cert.Reference8Ideal.τ).loc Cert.Reference8Ideal.main_arg1) = m ((c.tc : Thread _ Cert.Reference8Ideal.τ).loc Cert.Reference8Ideal.main_arg1)
      ∧ r.2.mem ((c.tc : Thread _ Cert.Reference8Ideal.τ).loc Cert.Reference8Ideal.main_arg2) = m ((c.tc : Thread _ Cert.Reference8Ideal.τ).loc Cert.Reference8Ideal.main_arg2)
      ∧ r.2.mem ((c.tc : Thread _ Cert.Reference8Ideal.τ).loc Cert.Reference8Ideal.main_arg3) = m ((c.tc : Thread _ Cert.Reference8Ideal.τ).loc Cert.Reference8Ideal.main_arg3)
      ∧ r.2.mem ((c.tc : Thread _ Cert.Reference8Ideal.τ).loc Cert.Reference8Ideal.main_arg4) = m ((c.tc : Thread _ Cert.Reference8Ideal.τ).loc Cert.Reference8Ideal.main_arg4)
      ∧ r.2.mem ((c.tc : Thread _ Cert.Reference8Ideal.τ).loc Cert.Reference8Ideal.main_arg5) = m ((c.tc : Thread _ Cert.Reference8Ideal.τ).loc Cert.Reference8Ideal.main_arg5) := by
  refine (θ_run Cert.Reference8Ideal.defs _ _).mono (fun r h c => ⟨(h c).1.trans ?_, (h c).2.1.trans ?_, (h c).2.2⟩)
    (Cert.Reference8Ideal.Value.run m ρ)
  · refine (cut_prompt _ _).trans (congrArg prompt (funext fun i => ?_))
    idx_vars i
    pointwise []
    rfl
  · refine (cut_sample _ _).trans (congrArg sample (funext fun i => ?_))
    idx_vars i
    pointwise []
    rfl

/-- What the run leaves. -/
theorem run_values : θ_run defs (onTc (τ := τ) (main (F := Ideal))) ⟨m, fun _ => 0, ρ⟩ (fun r => ∀ c : Dev nD,
    r.2.mem ((c.tc : Thread nD τ).loc main_v4_0) = prompt (full m c) ∧ r.2.mem ((c.tc : Thread nD τ).loc main_v4_1) = sample (full m c)) :=
  (θ_run defs _ _).mono (fun r h c => ⟨((h c).1 6).trans (final_6 m c), ((h c).1 7).trans (final_7 m c)⟩) (run_arrays m ρ)

/-- The claim: over the extended reals both programs leave the same rows, split the same way. -/
theorem algebraic : Cert.algebraic_Kernel8Ideal_Reference8Ideal := by
  intro m g m' g' hpre hargs
  refine ⟨fun c => prompt (full m c), fun c => sample (full m c), ?_, ?_⟩
  · exact (θ_run defs _ _).mono (fun r h c => ⟨(h.1 c).1, (h.1 c).2, h.2 c⟩)
      (θ_run_and (run_values m g) (frame_of m g (dats m) (A_eq m) (run_arrays m g)))
  · refine (θ_run Cert.Reference8Ideal.defs _ _).mono (fun r h c => ⟨(h c).1.trans ?_, (h c).2.1.trans ?_, (h c).2.2⟩) (reference m' g')
    · obtain ⟨e0, e1, e2, e3, e4, e5⟩ := hargs c
      rw [e0, e1, e2, e3, e4, e5]
      rfl
    · obtain ⟨e0, e1, e2, e3, e4, e5⟩ := hargs c
      rw [e0, e1, e2, e3, e4, e5]
      rfl

end Cert.Ple

end
-- ==== Proof.Queries.lean ====
/-
  The projection of the queries: the kernel's result is `h w`, element by element, and so is the reference's.
-/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Queries

open Cert.Kernel5Ideal Cert.Kernel5Ideal.Gen Cert.Kernel5Ideal.Value

/-- The product `a w` at one index. -/
def prod (a : S8704x2048.Idx → EReal) (w : S2048x3072.Idx → EReal) : S8704x3072.Idx → EReal :=
  fun i => ∑ k : Fin 2048, a (ix2 (i 0) k) * w (ix2 k (i 1))

variable (m : (ℓ : Loc nD τ sig) → Buf (Elt Ideal) ℓ) (ρ : Dev nD → PrngReg)

theorem zero2 : (![0, 0] : Fin 2 → Nat) = fun _ => 0 := funext fun a => by fin_cases a <;> rfl

/-- The weights the region finds are the argument's. -/
theorem weights (c : Dev nD) : V m c main_v0 = m ((c : Thread nD τ).loc main_arg1) := by
  have h : @Eq (FVec Ideal S2048x3072 .bf16) (V m c main_v0)
      (truncf .bf16 (m ((c : Thread nD τ).loc main_arg1) : FVec Ideal S2048x3072 .f32) bitsLt_bf16_f32) := by
    dsimp only [V, hostOps0]
    after_results
  exact h

/-- The body stores the product of its two blocks. -/
theorem out_eq (x0 : Vec Ideal S512x2048 .bf16) (x1 : Vec Ideal S2048x1024 .bf16) : out0_2 x0 x1 = k0_pay1 x0 x1 := by
  unfold out0_2
  rw [View.canon_unit_zero zero2, View.ld_unit_zero (S := S512x2048) zero2, View.ld_unit_zero (S := S2048x1024) zero2]

/-- Where each window's block lies at a point: the rows follow the result's rows, the columns its columns. -/
theorem blocks (t : Fin cfg0.N) : win0_0.index t 0 = win0_2.index t 0 ∧ win0_0.index t 1 = 0
    ∧ win0_1.index t 0 = 0 ∧ win0_1.index t 1 = win0_2.index t 1 :=
  (by decide +kernel : ∀ t : Fin grid0.N, win0_0.index t 0 = win0_2.index t 0 ∧ win0_0.index t 1 = 0
    ∧ win0_1.index t 0 = 0 ∧ win0_1.index t 1 = win0_2.index t 1) t

/-- The rows' block at a point, by the array's own index. -/
theorem rows_blk (c : Dev nD) (t : Fin cfg0.N) (y : S512x1024.Idx) (k : Fin 2048) :
    iblk m c 0 t (ix2 (y 0) k) = m ((c : Thread nD τ).loc main_arg0) (ix2 (((cfg0.win 2).blk t).view.emb y 0) k) := by
  obtain ⟨e0, e1, e2, e3⟩ := blocks t
  show V m c main_arg0 (((cfg0.win 0).blk t).view.emb _) = _
  rw [V_main_arg0]
  refine congrArg (m ((c : Thread nD τ).loc main_arg0)) (Shape.idx_ext₂ ?_ ?_)
  · show win0_0.index t 0 * 512 + 1 * (y 0 : Nat) = win0_2.index t 0 * 512 + 1 * (y 0 : Nat)
    rw [e0]
  · show win0_0.index t 1 * 2048 + 1 * (k : Nat) = k
    rw [e1]; omega

/-- The weights' block at a point, by the array's own index. -/
theorem cols_blk (c : Dev nD) (t : Fin cfg0.N) (y : S512x1024.Idx) (k : Fin 2048) :
    iblk m c 1 t (ix2 k (y 1)) = m ((c : Thread nD τ).loc main_arg1) (ix2 k (((cfg0.win 2).blk t).view.emb y 1)) := by
  obtain ⟨e0, e1, e2, e3⟩ := blocks t
  show V m c main_v0 (((cfg0.win 1).blk t).view.emb _) = _
  rw [weights]
  refine congrArg (m ((c : Thread nD τ).loc main_arg1)) (Shape.idx_ext₂ ?_ ?_)
  · show win0_1.index t 0 * 2048 + 1 * (k : Nat) = k
    rw [e2]; omega
  · show win0_1.index t 1 * 1024 + 1 * (y 1 : Nat) = win0_2.index t 1 * 1024 + 1 * (y 1 : Nat)
    rw [e3]

/-- The body's product at one index. -/
theorem pay_at (x0 : Vec Ideal S512x2048 .bf16) (x1 : Vec Ideal S2048x1024 .bf16) (y : S512x1024.Idx) :
    k0_pay1 x0 x1 y = ∑ k : Fin 2048, x0 (ix2 (y 0) k) * x1 (ix2 k (y 1)) := by
  idx_vars y
  pointwise [k0_pay1]

/-- What a point writes back is its block of the product. -/
theorem flushed_eq (c : Dev nD) (t : Fin cfg0.N) :
    (dats m 0 c).flushed 2 t = ((cfg0.win 2).blk t).view.read (Elt Ideal)
      (prod (m ((c : Thread nD τ).loc main_arg0)) (m ((c : Thread nD τ).loc main_arg1))) := by
  rw [flushed2, out_eq]
  funext y
  show k0_pay1 (iblk m c 0 t) (iblk m c 1 t) y = prod _ _ (((cfg0.win 2).blk t).view.emb y)
  rw [pay_at]
  exact Finset.sum_congr rfl fun k _ => congrArg₂ (· * ·) (rows_blk m c t y k) (cols_blk m c t y k)

/-- Every index of the result lies in some point's block. -/
theorem cover (i : S8704x3072.Idx) : ∃ t : Fin cfg0.N, (cfg0.win 2).flush t = true ∧ i ∈ ((cfg0.win 2).blk t).view.set := by
  have h0 : (i 0 : Nat) < 8704 := (i 0).isLt
  have h1 : (i 1 : Nat) < 3072 := (i 1).isLt
  obtain ⟨t, hf, e0, e1⟩ := (by decide +kernel : ∀ (p : Fin 17) (q : Fin 3), ∃ t : Fin grid0.N,
    win0_2.flush t = true ∧ win0_2.index t 0 = p.val ∧ win0_2.index t 1 = q.val)
      ⟨(i 0 : Nat) / 512, by omega⟩ ⟨(i 1 : Nat) / 1024, by omega⟩
  refine ⟨t, hf, ?_⟩
  show i ∈ ((View.whole main_v1).slice (win0_2.rect t)).set
  rw [View.set_slice_whole, Rect.mem_set_unit]
  intro a
  fin_cases a
  · show win0_2.index t 0 * 512 ≤ (i 0 : Nat) ∧ (i 0 : Nat) < win0_2.index t 0 * 512 + 512
    simp only [e0]; omega
  · show win0_2.index t 1 * 1024 ≤ (i 1 : Nat) ∧ (i 1 : Nat) < win0_2.index t 1 * 1024 + 1024
    simp only [e1]; omega

/-- The result array after the run is the product. -/
theorem final (c : Dev nD) : (dats m 0 c).arrAt 2 cfg0.N
    = prod (m ((c : Thread nD τ).loc main_arg0)) (m ((c : Thread nD τ).loc main_arg1)) :=
  (dats m 0 c).arrAt_eq_of_cover 2 _ (fun t _ => flushed_eq m c t) cover

/-- The reference's result is the same product. -/
theorem reference_eq (a : FVec Ideal S8704x2048 .bf16) (w : FVec Ideal S2048x3072 .f32) :
    truncf .bf16 (Host.dotGeneral Cert.Reference5Ideal.dot_S8704x2048_S2048x3072_S8704x3072_1_0_0_1_n_n none
      (extf .f32 a Cert.Reference5Ideal.Gen.bitsLt_bf16_f32) w) Cert.Reference5Ideal.Gen.bitsLt_bf16_f32 = prod a w := by
  funext i
  idx_vars i
  pointwise [prod]

/-- The claim: over the extended reals both programs leave `h w`. -/
theorem algebraic : Cert.algebraic_Kernel5Ideal_Reference5Ideal := by
  intro m g m' g' _ hargs
  refine ⟨fun c => prod (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.Reference5Ideal.defs _ _).mono (fun r h c => ⟨(h c).1.trans ?_, (h c).2⟩)
      (Cert.Reference5Ideal.Value.run m' g')
    rw [(hargs c).1, (hargs c).2]
    exact reference_eq _ _

end Cert.Queries

end
-- ==== Proof.Small.lean ====
/-
  The narrow projection: the kernel's result holds side by side the logarithms of the forget gates, the indexer's keys and its
  weights, then zeros, element by element, and so does the reference's.
-/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Small

open Cert.Kernel9Ideal Cert.Kernel9Ideal.Gen Cert.Kernel9Ideal.Value

/-- The logarithm of the logistic function, as the kernel takes it. -/
def logsig (z : EReal) : EReal := min z 0 - Ideal.log1p (Ideal.exp (-max z (-z)))

/-- The weights side by side, then zeros. -/
def col (wf : S2048x8.Idx → EReal) (wk : S2048x64.Idx → EReal) (wi : S2048x16.Idx → EReal) (k : Fin 2048) (j : Fin 128) : EReal :=
  if _h : (j : Nat) < 88 then
    if h1 : (j : Nat) < 8 then wf (ix2 k ⟨j, h1⟩)
    else if h2 : (j : Nat) - 8 < 64 then wk (ix2 k ⟨(j : Nat) - 8, h2⟩)
    else wi (ix2 k ⟨(j : Nat) - 8 - 64, by omega⟩)
  else 0

/-- The forget gates' bias, then zeros. -/
def bias (b : S8.Idx → EReal) (j : Fin 128) : EReal := if h : (j : Nat) < 8 then b (ix1 ⟨j, h⟩) else 0

/-- One product of the rows with a column. -/
def prod (a : S8704x2048.Idx → EReal) (wf : S2048x8.Idx → EReal) (wk : S2048x64.Idx → EReal) (wi : S2048x16.Idx → EReal)
    (i : S8704x128.Idx) : EReal := ∑ k : Fin 2048, a (ix2 (i 0) k) * col wf wk wi k (i 1)

/-- The result at one index. -/
def small (a : S8704x2048.Idx → EReal) (wf : S2048x8.Idx → EReal) (wk : S2048x64.Idx → EReal) (wi : S2048x16.Idx → EReal)
    (b : S8.Idx → EReal) : S8704x128.Idx → EReal :=
  fun i => if (i 1 : Nat) < 8 then logsig (prod a wf wk wi i + bias b (i 1)) else prod a wf wk wi i

variable (m : (ℓ : Loc nD τ sig) → Buf (Elt Ideal) ℓ) (ρ : Dev nD → PrngReg)

theorem zero2 : (![0, 0] : Fin 2 → Nat) = fun _ => 0 := funext fun a => by fin_cases a <;> rfl

theorem sitofp_zero : (FloatOps.sitofp FTy.f32 (0#32) : Ideal .f32) = (0 : EReal) := by
  show (((0#32 : BitVec 32).toInt : ℝ) : EReal) = 0
  simp

/-- The weights the region finds are the arguments' side by side. -/
theorem weights (c : Dev nD) (k : Fin 2048) (j : Fin 128) : (V m c main_v2 : FVec Ideal S2048x128 .bf16) (ix2 k j)
    = col (m ((c : Thread nD τ).loc main_arg1)) (m ((c : Thread nD τ).loc main_arg2)) (m ((c : Thread nD τ).loc main_arg3)) k j := by
  have h : @Eq (FVec Ideal S2048x128 .bf16) (V m c main_v2)
      (truncf .bf16 (pad S2048x128 ![0, 0] ![0, 40] ![0, 0] (concatenate S2048x88 1
        [⟨S2048x8, (m ((c : Thread nD τ).loc main_arg1) : FVec Ideal S2048x8 .f32)⟩,
         ⟨S2048x64, (m ((c : Thread nD τ).loc main_arg2) : FVec Ideal S2048x64 .f32)⟩,
         ⟨S2048x16, (m ((c : Thread nD τ).loc main_arg3) : FVec Ideal S2048x16 .f32)⟩]
        concatenates_S2048x8_S2048x64_S2048x16_S2048x88_d1) (sitofp .f32 (constantI S_ 32 0#32))
        pads_S2048x88_S2048x128_000_0400 h_S_ : FVec Ideal S2048x128 .f32) bitsLt_bf16_f32) := by
    dsimp only [V, hostOps0, hostOps0_1, hostOps0_2, hostOps0_3, hostOps0_4, List.flatten, List.append_eq, List.cons_append, List.nil_append]
    after_results
    rfl
  rw [h]
  pointwise [col]
  rw [sitofp_zero]

theorem padded (b : FVec Ideal S8 .f32) (j : Fin 128) : shapeCast S1x128 (pad S128 ![0] ![120] ![0] b
    (sitofp .f32 (constantI S_ 32 0#32)) pads_S8_S128_01200 h_S_ : FVec Ideal S128 .f32) shapeCasts_S128_S1x128 (ix2 0 j) = bias b j := by
  pointwise [bias]
  rw [sitofp_zero]

/-- The bias the region finds is the argument's, then zeros. -/
theorem bias_blk (c : Dev nD) (j : Fin 128) : (V m c main_v4 : FVec Ideal S1x128 .f32) (ix2 0 j)
    = bias (m ((c : Thread nD τ).loc main_arg4)) j := by
  have h : @Eq (FVec Ideal S1x128 .f32) (V m c main_v4)
      (shapeCast S1x128 (pad S128 ![0] ![120] ![0] (m ((c : Thread nD τ).loc main_arg4) : FVec Ideal S8 .f32)
        (sitofp .f32 (constantI S_ 32 0#32)) pads_S8_S128_01200 h_S_ : FVec Ideal S128 .f32) shapeCasts_S128_S1x128) := by
    dsimp only [V, hostOps0, hostOps0_1, hostOps0_2, hostOps0_3, hostOps0_4, List.flatten, List.append_eq, List.cons_append, List.nil_append]
    after_results
    rfl
  rw [h]
  exact padded _ j

/-- The body stores the product of its two blocks, its first columns through the logarithm. -/
theorem out_eq (x0 : Vec Ideal S512x2048 .bf16) (x1 : Vec Ideal S2048x128 .bf16) (x2 : Vec Ideal S1x128 .f32) :
    out0_3 x0 x1 x2 = k0_pay1 x0 x1 x2 := by
  unfold out0_3
  rw [View.canon_unit_zero zero2, View.ld_unit_zero (S := S512x2048) zero2, View.ld_unit_zero (S := S2048x128) zero2,
    View.ld_unit_zero (S := S1x128) zero2]

/-- A column is one of the first eight when the kernel's comparison says so. -/
theorem lane (j : Fin 128) (x y : EReal) :
    Scalar.select (IntOp.cmpi CmpIPredicate.slt (BitVec.ofNat 32 (j : Nat)) 8#32) x y = if (j : Nat) < 8 then x else y := by
  have h : ∀ j : Fin 128, IntOp.cmpi CmpIPredicate.slt (BitVec.ofNat 32 (j : Nat)) 8#32 = if (j : Nat) < 8 then 1#1 else 0#1 := by
    decide +kernel
  rw [h j]
  split <;> rfl

/-- The body's value at one index. -/
theorem pay_at (x0 : Vec Ideal S512x2048 .bf16) (x1 : Vec Ideal S2048x128 .bf16) (x2 : Vec Ideal S1x128 .f32) (y : S512x128.Idx) :
    k0_pay1 x0 x1 x2 y = if (y 1 : Nat) < 8 then logsig ((∑ k : Fin 2048, x0 (ix2 (y 0) k) * x1 (ix2 k (y 1))) + x2 (ix2 0 (y 1)))
      else ∑ k : Fin 2048, x0 (ix2 (y 0) k) * x1 (ix2 k (y 1)) := by
  idx_vars y
  pointwise [k0_pay1]
  rw [lane, zero_sub]
  rfl

/-- Where each window's block lies at a point: the rows follow the result's rows, the columns are whole. -/
theorem blocks (t : Fin cfg0.N) : win0_0.index t 0 = win0_3.index t 0 ∧ win0_0.index t 1 = 0
    ∧ win0_1.index t 0 = 0 ∧ win0_1.index t 1 = 0 ∧ win0_2.index t 0 = 0 ∧ win0_2.index t 1 = 0 ∧ win0_3.index t 1 = 0 :=
  (by decide +kernel : ∀ t : Fin grid0.N, win0_0.index t 0 = win0_3.index t 0 ∧ win0_0.index t 1 = 0
    ∧ win0_1.index t 0 = 0 ∧ win0_1.index t 1 = 0 ∧ win0_2.index t 0 = 0 ∧ win0_2.index t 1 = 0 ∧ win0_3.index t 1 = 0) t

/-- The rows' block at a point, by the array's own index. -/
theorem rows_blk (c : Dev nD) (t : Fin cfg0.N) (y : S512x128.Idx) (k : Fin 2048) :
    iblk m c 0 t (ix2 (y 0) k) = m ((c : Thread nD τ).loc main_arg0) (ix2 (((cfg0.win 3).blk t).view.emb y 0) k) := by
  obtain ⟨e0, e1, -⟩ := blocks t
  show V m c main_arg0 (((cfg0.win 0).blk t).view.emb _) = _
  rw [V_main_arg0]
  refine congrArg (m ((c : Thread nD τ).loc main_arg0)) (Shape.idx_ext₂ ?_ ?_)
  · show win0_0.index t 0 * 512 + 1 * (y 0 : Nat) = win0_3.index t 0 * 512 + 1 * (y 0 : Nat)
    rw [e0]
  · show win0_0.index t 1 * 2048 + 1 * (k : Nat) = k
    rw [e1]; omega

/-- A column of a point's block is that column of the array. -/
theorem column (t : Fin cfg0.N) (y : S512x128.Idx) : ((cfg0.win 3).blk t).view.emb y 1 = y 1 := by
  obtain ⟨-, -, -, -, -, -, e⟩ := blocks t
  refine Fin.ext ?_
  show win0_3.index t 1 * 128 + 1 * (y 1 : Nat) = y 1
  rw [e]; omega

/-- The weights' block at a point. -/
theorem cols_blk (c : Dev nD) (t : Fin cfg0.N) (y : S512x128.Idx) (k : Fin 2048) :
    iblk m c 1 t (ix2 k (y 1)) = col (m ((c : Thread nD τ).loc main_arg1)) (m ((c : Thread nD τ).loc main_arg2))
      (m ((c : Thread nD τ).loc main_arg3)) k (((cfg0.win 3).blk t).view.emb y 1) := by
  obtain ⟨-, -, e2, e3, -⟩ := blocks t
  rw [column]
  refine Eq.trans ?_ (weights m c k (y 1))
  show V m c main_v2 (((cfg0.win 1).blk t).view.emb _) = _
  refine congrArg (V m c main_v2) (Shape.idx_ext₂ ?_ ?_)
  · show win0_1.index t 0 * 2048 + 1 * (k : Nat) = k
    rw [e2]; omega
  · show win0_1.index t 1 * 128 + 1 * (y 1 : Nat) = y 1
    rw [e3]; omega

/-- The bias's block at a point. -/
theorem bias_at (c : Dev nD) (t : Fin cfg0.N) (y : S512x128.Idx) :
    iblk m c 2 t (ix2 0 (y 1)) = bias (m ((c : Thread nD τ).loc main_arg4)) (((cfg0.win 3).blk t).view.emb y 1) := by
  obtain ⟨-, -, -, -, e4, e5, -⟩ := blocks t
  rw [column]
  refine Eq.trans ?_ (bias_blk m c (y 1))
  show V m c main_v4 (((cfg0.win 2).blk t).view.emb _) = _
  refine congrArg (V m c main_v4) (Shape.idx_ext₂ ?_ ?_)
  · show win0_2.index t 0 * 1 + 1 * 0 = 0
    rw [e4]
  · show win0_2.index t 1 * 128 + 1 * (y 1 : Nat) = y 1
    rw [e5]; omega

/-- What a point writes back is its block of the result. -/
theorem flushed_eq (c : Dev nD) (t : Fin cfg0.N) :
    (dats m 0 c).flushed 3 t = ((cfg0.win 3).blk t).view.read (Elt Ideal)
      (small (m ((c : Thread nD τ).loc main_arg0)) (m ((c : Thread nD τ).loc main_arg1)) (m ((c : Thread nD τ).loc main_arg2))
        (m ((c : Thread nD τ).loc main_arg3)) (m ((c : Thread nD τ).loc main_arg4))) := by
  rw [flushed3, out_eq]
  funext y
  show k0_pay1 (iblk m c 0 t) (iblk m c 1 t) (iblk m c 2 t) y = small _ _ _ _ _ (((cfg0.win 3).blk t).view.emb y)
  have hs : (∑ k : Fin 2048, @HMul.hMul EReal EReal EReal instHMul (iblk m c 0 t (ix2 (y 0) k)) (iblk m c 1 t (ix2 k (y 1))))
      = prod (m ((c : Thread nD τ).loc main_arg0)) (m ((c : Thread nD τ).loc main_arg1)) (m ((c : Thread nD τ).loc main_arg2))
        (m ((c : Thread nD τ).loc main_arg3)) (((cfg0.win 3).blk t).view.emb y) :=
    Finset.sum_congr rfl fun k _ => congrArg₂ (fun u v : EReal => u * v) (rows_blk m c t y k) (cols_blk m c t y k)
  rw [pay_at, hs, bias_at m c t y]
  unfold small
  rw [column]

/-- Every index of the result lies in some point's block. -/
theorem cover (i : S8704x128.Idx) : ∃ t : Fin cfg0.N, (cfg0.win 3).flush t = true ∧ i ∈ ((cfg0.win 3).blk t).view.set := by
  have h0 : (i 0 : Nat) < 8704 := (i 0).isLt
  have h1 : (i 1 : Nat) < 128 := (i 1).isLt
  obtain ⟨t, hf, e0, e1⟩ := (by decide +kernel : ∀ p : Fin 17, ∃ t : Fin grid0.N,
    win0_3.flush t = true ∧ win0_3.index t 0 = p.val ∧ win0_3.index t 1 = 0) ⟨(i 0 : Nat) / 512, by omega⟩
  refine ⟨t, hf, ?_⟩
  show i ∈ ((View.whole main_v5).slice (win0_3.rect t)).set
  rw [View.set_slice_whole, Rect.mem_set_unit]
  intro a
  fin_cases a
  · show win0_3.index t 0 * 512 ≤ (i 0 : Nat) ∧ (i 0 : Nat) < win0_3.index t 0 * 512 + 512
    simp only [e0]; omega
  · show win0_3.index t 1 * 128 ≤ (i 1 : Nat) ∧ (i 1 : Nat) < win0_3.index t 1 * 128 + 128
    simp only [e1]; omega

/-- The result array after the run. -/
theorem final (c : Dev nD) : (dats m 0 c).arrAt 3 cfg0.N
    = small (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 3 _ (fun t _ => flushed_eq m c t) cover

theorem log_ne_bot (w : EReal) : Ideal.log1p (Ideal.exp w) ≠ ⊥ := by
  induction w with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | top =>
    show Ideal.log (1 + ⊤) ≠ ⊥
    rw [show (1 : EReal) + ⊤ = ⊤ from EReal.coe_add_top 1]
    exact fun h => absurd h top_ne_bot
  | coe r =>
    show Ideal.log (1 + (Real.exp r : EReal)) ≠ ⊥
    rw [show (1 : EReal) + (Real.exp r : EReal) = ((1 + Real.exp r : ℝ) : EReal) from rfl]
    show (if 1 + Real.exp r ≤ 0 then (⊥ : EReal) else (Real.log (1 + Real.exp r) : EReal)) ≠ ⊥
    rw [if_neg (by have := Real.exp_pos r; linarith)]
    exact EReal.coe_ne_bot _

theorem neg_max' (z : EReal) : -max (-z) 0 = min z 0 := by
  rcases le_total z 0 with h | h
  · rw [min_eq_left h, max_eq_left (by simpa using EReal.neg_le_neg_iff.mpr h), neg_neg]
  · rw [min_eq_right h, max_eq_right (by simpa using EReal.neg_le_neg_iff.mpr h), neg_zero]

/-- The reference's logarithm of the logistic function is the kernel's. -/
theorem logsig_eq (z : EReal) : -(max (-z) 0 + Ideal.log1p (Ideal.exp (-max (-z) (-(-z))))) = logsig z := by
  unfold logsig
  have h0 : max (-z) 0 ≠ ⊥ := fun h => by
    have : (0 : EReal) ≤ ⊥ := h ▸ le_max_right _ _
    exact absurd this (by simp)
  rw [neg_neg, max_comm (-z) z, EReal.neg_add (.inl h0) (.inr (log_ne_bot _)), neg_max']

/-- The reference's result is the same. -/
theorem reference_eq (a : FVec Ideal S8704x2048 .bf16) (wf : FVec Ideal S2048x8 .f32) (wk : FVec Ideal S2048x64 .f32)
    (wi : FVec Ideal S2048x16 .f32) (b : FVec Ideal S8 .f32) :
    (concatenate S8704x128 1 [⟨Cert.Reference9Ideal.S8704x8, ((Host.negf (select (cmpf .une (subf (Host.negf (addf (Host.dotGeneral Cert.Reference9Ideal.dot_S8704x2048_S2048x8_S8704x8_1_0_0_1_n_n none (extf .f32 a Cert.Reference9Ideal.Gen.bitsLt_bf16_f32) wf) (broadcastInDim Cert.Reference9Ideal.S8704x8 ![0, 1] Cert.Reference9Ideal.Gen.bcast_S1x8_S8704x8_0_1 (broadcastInDim Cert.Reference9Ideal.S1x8 ![1] Cert.Reference9Ideal.Gen.bcast_S8_S1x8_1 b)))) (broadcastInDim Cert.Reference9Ideal.S8704x8 ![] Cert.Reference9Ideal.Gen.bcast_S_S8704x8 (constant Cert.Reference9Ideal.S_ .f32 0x00000000#32))) (subf (Host.negf (addf (Host.dotGeneral Cert.Reference9Ideal.dot_S8704x2048_S2048x8_S8704x8_1_0_0_1_n_n none (extf .f32 a Cert.Reference9Ideal.Gen.bitsLt_bf16_f32) wf) (broadcastInDim Cert.Reference9Ideal.S8704x8 ![0, 1] Cert.Reference9Ideal.Gen.bcast_S1x8_S8704x8_0_1 (broadcastInDim Cert.Reference9Ideal.S1x8 ![1] Cert.Reference9Ideal.Gen.bcast_S8_S1x8_1 b)))) (broadcastInDim Cert.Reference9Ideal.S8704x8 ![] Cert.Reference9Ideal.Gen.bcast_S_S8704x8 (constant Cert.Reference9Ideal.S_ .f32 0x00000000#32)))) (addf (Host.negf (addf (Host.dotGeneral Cert.Reference9Ideal.dot_S8704x2048_S2048x8_S8704x8_1_0_0_1_n_n none (extf .f32 a Cert.Reference9Ideal.Gen.bitsLt_bf16_f32) wf) (broadcastInDim Cert.Reference9Ideal.S8704x8 ![0, 1] Cert.Reference9Ideal.Gen.bcast_S1x8_S8704x8_0_1 (broadcastInDim Cert.Reference9Ideal.S1x8 ![1] Cert.Reference9Ideal.Gen.bcast_S8_S1x8_1 b)))) (broadcastInDim Cert.Reference9Ideal.S8704x8 ![] Cert.Reference9Ideal.Gen.bcast_S_S8704x8 (constant Cert.Reference9Ideal.S_ .f32 0x00000000#32))) (addf (maximumf (Host.negf (addf (Host.dotGeneral Cert.Reference9Ideal.dot_S8704x2048_S2048x8_S8704x8_1_0_0_1_n_n none (extf .f32 a Cert.Reference9Ideal.Gen.bitsLt_bf16_f32) wf) (broadcastInDim Cert.Reference9Ideal.S8704x8 ![0, 1] Cert.Reference9Ideal.Gen.bcast_S1x8_S8704x8_0_1 (broadcastInDim Cert.Reference9Ideal.S1x8 ![1] Cert.Reference9Ideal.Gen.bcast_S8_S1x8_1 b)))) (broadcastInDim Cert.Reference9Ideal.S8704x8 ![] Cert.Reference9Ideal.Gen.bcast_S_S8704x8 (constant Cert.Reference9Ideal.S_ .f32 0x00000000#32))) (Host.log1p (Host.exp (Host.negf (Host.absf (subf (Host.negf (addf (Host.dotGeneral Cert.Reference9Ideal.dot_S8704x2048_S2048x8_S8704x8_1_0_0_1_n_n none (extf .f32 a Cert.Reference9Ideal.Gen.bitsLt_bf16_f32) wf) (broadcastInDim Cert.Reference9Ideal.S8704x8 ![0, 1] Cert.Reference9Ideal.Gen.bcast_S1x8_S8704x8_0_1 (broadcastInDim Cert.Reference9Ideal.S1x8 ![1] Cert.Reference9Ideal.Gen.bcast_S8_S1x8_1 b)))) (broadcastInDim Cert.Reference9Ideal.S8704x8 ![] Cert.Reference9Ideal.Gen.bcast_S_S8704x8 (constant Cert.Reference9Ideal.S_ .f32 0x00000000#32)))))))))) : FVec Ideal Cert.Reference9Ideal.S8704x8 .f32)⟩, ⟨Cert.Reference9Ideal.S8704x64, ((Host.dotGeneral Cert.Reference9Ideal.dot_S8704x2048_S2048x64_S8704x64_1_0_0_1_n_n none (extf .f32 a Cert.Reference9Ideal.Gen.bitsLt_bf16_f32) wk) : FVec Ideal Cert.Reference9Ideal.S8704x64 .f32)⟩, ⟨Cert.Reference9Ideal.S8704x16, ((Host.dotGeneral Cert.Reference9Ideal.dot_S8704x2048_S2048x16_S8704x16_1_0_0_1_n_n none (extf .f32 a Cert.Reference9Ideal.Gen.bitsLt_bf16_f32) wi) : FVec Ideal Cert.Reference9Ideal.S8704x16 .f32)⟩, ⟨Cert.Reference9Ideal.S8704x40, ((broadcastInDim Cert.Reference9Ideal.S8704x40 ![] Cert.Reference9Ideal.Gen.bcast_S_S8704x40 (constant Cert.Reference9Ideal.S_ .f32 0x00000000#32)) : FVec Ideal Cert.Reference9Ideal.S8704x40 .f32)⟩] Cert.Reference9Ideal.Gen.concatenates_S8704x8_S8704x64_S8704x16_S8704x40_S8704x128_d1 : FVec Ideal S8704x128 .f32) = small a wf wk wi b := by
  funext i
  idx_vars i
  pointwise [small, prod, col, bias]
  by_cases h1 : (i1 : Nat) < 8
  · have h2 : (i1 : Nat) < 88 := by omega
    simp only [h1, h2, dif_pos, if_pos, ne_eq, not_true_eq_false, if_false]
    exact logsig_eq _
  · by_cases h2 : (i1 : Nat) - 8 < 64
    · have h3 : (i1 : Nat) < 88 := by omega
      simp only [h1, h2, h3, dif_pos, dif_neg, if_neg, not_false_eq_true]
    · by_cases h3 : (i1 : Nat) < 88
      · have h4 : (i1 : Nat) - 8 - 64 < 16 := by omega
        simp only [h1, h2, h3, h4, dif_pos, dif_neg, if_neg, not_false_eq_true]
      · have h4 : ¬(i1 : Nat) - 8 - 64 < 16 := by omega
        simp only [h1, h2, h3, h4, dif_neg, if_neg, not_false_eq_true, mul_zero, Finset.sum_const_zero]

/-- The claim: over the extended reals both programs leave the same columns. -/
theorem algebraic : Cert.algebraic_Kernel9Ideal_Reference9Ideal := by
  intro m g m' g' _ hargs
  refine ⟨fun c => small (m ((c : Thread nD τ).loc main_arg0)) (m ((c : Thread nD τ).loc main_arg1))
    (m ((c : Thread nD τ).loc main_arg2)) (m ((c : Thread nD τ).loc main_arg3)) (m ((c : Thread nD τ).loc main_arg4)), ?_, ?_⟩
  · exact (θ_run defs _ _).mono (fun r h c => ⟨(h c).1.trans (final m c), (h c).2⟩) (run_blocks m g)
  · refine (θ_run Cert.Reference9Ideal.defs _ _).mono (fun r h c => ⟨(h c).1.trans ?_, (h c).2⟩)
      (Cert.Reference9Ideal.Value.run m' g')
    rw [(hargs c).1, (hargs c).2.1, (hargs c).2.2.1, (hargs c).2.2.2.1, (hargs c).2.2.2.2]
    exact reference_eq _ _ _ _ _

end Cert.Small

end
-- ==== Proof.lean ====
/-
  The certificate's claim, from the frames of the programs and the values of the calls.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Pre_finite_keys
public import proofs.«01_k».proof.Proof.FfnRun
public import proofs.«01_k».proof.Proof.Fox
public import proofs.«01_k».proof.Proof.FoxIdeal
public import proofs.«01_k».proof.Proof.FoxValue
public import proofs.«01_k».proof.Proof.Gate
public import proofs.«01_k».proof.Proof.Kv
public import proofs.«01_k».proof.Proof.KvFrame
public import proofs.«01_k».proof.Proof.KvIdeal
public import proofs.«01_k».proof.Proof.Merge
public import proofs.«01_k».proof.Proof.Out
public import proofs.«01_k».proof.Proof.Ple
public import proofs.«01_k».proof.Proof.PleFrame
public import proofs.«01_k».proof.Proof.PleIdeal
public import proofs.«01_k».proof.Proof.Queries
public import proofs.«01_k».proof.Proof.Small

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Pre_finite_keys.Gen.facts,
    Cert.Fox.frame,
    Cert.FoxIdeal.frame,
    fun m ρ _ => Cert.FoxIdeal.frame m ρ trivial,
    fun m ρ _ => (θ_run Cert.ReferenceIdeal.defs _ _).mono
      (fun r h => ⟨fun c => (h c).2, sem_eq_zero_of_no_sems (by decide) r.2⟩) (Cert.ReferenceIdeal.Value.run m ρ),
    fun m ρ _ => (θ_run Cert.ReferenceIdeal.defs _ _).mono
      (fun r h => ⟨fun c => (h c).2, sem_eq_zero_of_no_sems (by decide) r.2⟩) (Cert.ReferenceIdeal.Value.run m ρ),
    fun m ρ _ => Cert.Kernel2.Gen.frame m ρ,
    fun m ρ _ => Cert.Kernel2Ideal.Gen.frame m ρ,
    fun m ρ _ => (θ_run Cert.Reference2Ideal.defs _ _).mono
      (fun r h => ⟨fun c => (h c).2.2, sem_eq_zero_of_no_sems (by decide) r.2⟩) (Cert.Reference2Ideal.Value.run m ρ),
    Cert.KvFrame.frame,
    Cert.KvIdeal.frame,
    fun m ρ _ => (θ_run Cert.Reference3Ideal.defs _ _).mono
      (fun r h => ⟨fun c => (h c).2.2.2, sem_eq_zero_of_no_sems (by decide) r.2⟩) (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono
      (fun r h => ⟨fun c => (h c).2, sem_eq_zero_of_no_sems (by decide) r.2⟩) (Cert.Reference4Ideal.Value.run m ρ),
    fun m ρ _ => Cert.Kernel5.Gen.frame m ρ,
    fun m ρ _ => Cert.Kernel5Ideal.Gen.frame m ρ,
    fun m ρ _ => (θ_run Cert.Reference5Ideal.defs _ _).mono
      (fun r h => ⟨fun c => (h c).2, sem_eq_zero_of_no_sems (by decide) r.2⟩) (Cert.Reference5Ideal.Value.run m ρ),
    fun m ρ _ => Cert.Kernel6.Gen.frame m ρ,
    fun m ρ _ => Cert.Kernel6Ideal.Gen.frame m ρ,
    fun m ρ _ => (θ_run Cert.Reference6Ideal.defs _ _).mono
      (fun r h => ⟨fun c => (h c).2, sem_eq_zero_of_no_sems (by decide) r.2⟩) (Cert.Reference6Ideal.Value.run m ρ),
    fun m ρ _ => Cert.Kernel7.Gen.frame m ρ,
    fun m ρ _ => Cert.Kernel7Ideal.Gen.frame m ρ,
    fun m ρ _ => (θ_run Cert.Reference7Ideal.defs _ _).mono
      (fun r h => ⟨fun c => (h c).2, sem_eq_zero_of_no_sems (by decide) r.2⟩) (Cert.Reference7Ideal.Value.run m ρ),
    Cert.PleFrame.frame,
    Cert.PleIdeal.frame,
    fun m ρ _ => (θ_run Cert.Reference8Ideal.defs _ _).mono
      (fun r h => ⟨fun c => (h c).2.2, sem_eq_zero_of_no_sems (by decide) r.2⟩) (Cert.Reference8Ideal.Value.run m ρ),
    fun m ρ _ => Cert.Kernel9.Gen.frame m ρ,
    fun m ρ _ => Cert.Kernel9Ideal.Gen.frame m ρ,
    fun m ρ _ => (θ_run Cert.Reference9Ideal.defs _ _).mono
      (fun r h => ⟨fun c => (h c).2, sem_eq_zero_of_no_sems (by decide) r.2⟩) (Cert.Reference9Ideal.Value.run m ρ),
    IdealRules.named_const.statement Cert.KernelIdeal.κ "scale2" .f32 0x3E0293EE#32 (((11863283 / 134217728) * (Real.log 2)⁻¹ : ℝ) : EReal) rfl,
    Cert.FoxValue.algebraic,
    trivial,
    Cert.Ffn.algebraic,
    trivial,
    Cert.Kv.algebraic,
    trivial,
    Cert.Gate.algebraic,
    trivial,
    Cert.Queries.algebraic,
    trivial,
    Cert.Merge.algebraic,
    trivial,
    Cert.Out.algebraic,
    trivial,
    Cert.Ple.algebraic,
    trivial,
    Cert.Small.algebraic⟩

end Cert.Proof

end
